-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v27) = v0 c
          ∧ r.2.mem ((c.tc : Thread Cert.OutProjRefIdeal.nD Cert.OutProjRefIdeal.τ).loc Cert.OutProjRefIdeal.main_v29) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10)
          ∧ r.2.mem ((c.tc : Thread Cert.OutProjRefIdeal.nD Cert.OutProjRefIdeal.τ).loc Cert.OutProjRefIdeal.main_arg11) = m' ((c.tc : Thread Cert.OutProjRefIdeal.nD Cert.OutProjRefIdeal.τ).loc Cert.OutProjRefIdeal.main_arg11))

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v10_0)) (v1 : (c : Dev Cert.AttnIdeal.nD) → Buf (Elt Ideal) ((c.tc : Thread Cert.AttnIdeal.nD Cert.AttnIdeal.τ).loc Cert.AttnIdeal.main_v10_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10_0) = v0 c
          ∧ r.2.mem ((c.tc : Thread Cert.AttnIdeal.nD Cert.AttnIdeal.τ).loc Cert.AttnIdeal.main_v10_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v57) = v0 c
          ∧ r.2.mem ((c.tc : Thread Cert.AttnRefIdeal.nD Cert.AttnRefIdeal.τ).loc Cert.AttnRefIdeal.main_v58) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAttn : Cert.Attn.Facts) (hAttnIdeal : Cert.AttnIdeal.Facts) (hAttnRefIdeal : Cert.AttnRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Attn_AttnIdeal
    ∧ algebraic_AttnIdeal_AttnRefIdeal_pre_finite (hAttnIdeal := hAttnIdeal) (hAttnRefIdeal := hAttnRefIdeal) (hPre_finite := hPre_finite)
-- ==== Pre_finite.lean ====
abbrev S8192x6144 : Shape := ⟨2, ![8192, 6144]⟩
abbrev S64 : Shape := ⟨1, ![64]⟩
abbrev S8 : Shape := ⟨1, ![8]⟩
abbrev S8192x640 : Shape := ⟨2, ![8192, 640]⟩
abbrev S_ : Shape := ⟨0, ![]⟩

class Facts : Prop where
  slices_S8192x6144_S8192x640_0_5120 : S8192x6144.Slices ![0, 5120] S8192x640
  bcast_S_S8192x640 : S_.BroadcastsInDim S8192x640 (![] : Fin 0 → Fin S8192x640.rank)
  reducesTo_S8192x640_S_d0_1 : S8192x640.ReducesTo [0, 1] S_
  h_S_ : 0 < S_.numel
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_v14 : IVec S_ 1) (main_v15 : FVec F S8 .f32) (main_v16 : FVec F S8 .f32) : IVec S_ 1 :=
  let main_v17 : IVec S8 1 := cmpf .olt main_v15 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v14 main_v18
  main_v19

def fn {F : FTy → Type} [FloatOps F] (main_arg0 : FVec F S8192x6144 .f32) (main_arg1 : FVec F S64 .f32) (main_arg2 : FVec F S64 .f32) (main_arg3 : FVec F S8 .f32) : IVec S_ 1 :=
  let main_v0 : FVec F S8192x640 .f32 := (extractStridedSlice S8192x640 ![0, 5120] · slices_S8192x6144_S8192x640_0_5120) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_c : IVec S_ 1 := constantI S_ 1 1#1
  let main_v4 : IVec S_ 1 := (fun x v => Host.reduce IntOp.andi x v reducesTo_S8192x640_S_d0_1 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S8 .f32 := Host.absf main_arg3
  let main_cst_4 : FVec F S_ .f32 := constant S_ .f32 0x7F800000#32
  let main_v16 : FVec F S8 .f32 := broadcastInDim S8 ![] bcast_S_S8 main_cst_4
  fn_part1 (F := F) main_v14 main_v15 main_v16
-- ==== Kernel.lean ====
abbrev S8192x6144 : Shape := ⟨2, ![8192, 6144]⟩
abbrev S4x512 : Shape := ⟨2, ![4, 512]⟩
abbrev S512 : Shape := ⟨1, ![512]⟩
abbrev S2x2x4x128x128 : Shape := ⟨5, ![2, 2, 4, 128, 128]⟩
abbrev S2x2x512 : Shape := ⟨3, ![2, 2, 512]⟩
abbrev S2x512 : Shape := ⟨2, ![2, 512]⟩
abbrev S32x2x512 : Shape := ⟨3, ![32, 2, 512]⟩
abbrev S4x128x2x2x128 : Shape := ⟨5, ![4, 128, 2, 2, 128]⟩
abbrev S4x128x512 : Shape := ⟨3, ![4, 128, 512]⟩
abbrev S2x2x4x128 : Shape := ⟨4, ![2, 2, 4, 128]⟩
abbrev S4x2x2x128 : Shape := ⟨4, ![4, 2, 2, 128]⟩
abbrev S4x1x512 : Shape := ⟨3, ![4, 1, 512]⟩
abbrev S_ : Shape := ⟨0, ![]⟩
abbrev S1x512 : Shape := ⟨2, ![1, 512]⟩
abbrev S8192x512 : Shape := ⟨2, ![8192, 512]⟩
abbrev S256x128 : Shape := ⟨2, ![256, 128]⟩
abbrev S4x128 : Shape := ⟨2, ![4, 128]⟩
abbrev S1x128 : Shape := ⟨2, ![1, 128]⟩
abbrev S1x128x512 : Shape := ⟨3, ![1, 128, 512]⟩
abbrev S1x1x512 : Shape := ⟨3, ![1, 1, 512]⟩
abbrev S2x128 : Shape := ⟨2, ![2, 128]⟩
abbrev S1x2x128 : Shape := ⟨3, ![1, 2, 128]⟩
abbrev S128x1 : Shape := ⟨2, ![128, 1]⟩
abbrev S128x128 : Shape := ⟨2, ![128, 128]⟩
abbrev S8x128 : Shape := ⟨2, ![8, 128]⟩
abbrev S128x512 : Shape := ⟨2, ![128, 512]⟩
abbrev S128x256 : Shape := ⟨2, ![128, 256]⟩
abbrev S1x256 : Shape := ⟨2, ![1, 256]⟩

abbrev nBuf : Space → Nat
  | .hbm => 34
  | .vmem => 23
  | .smem => 0
  | _ => 0

abbrev bufTy : (tb : Table) → Fin (tcTables nBuf tb) → BufTy
  | .hbm, ⟨0, _⟩ => ⟨S8192x6144, .f32⟩
  | .hbm, ⟨1, _⟩ => ⟨S4x512, .f32⟩
  | .hbm, ⟨2, _⟩ => ⟨S512, .f32⟩
  | .hbm, ⟨3, _⟩ => ⟨S2x2x4x128x128, .f32⟩
  | .hbm, ⟨4, _⟩ => ⟨S2x2x512, .f32⟩
  | .hbm, ⟨5, _⟩ => ⟨S2x512, .f32⟩
  | .hbm, ⟨6, _⟩ => ⟨S32x2x512, .f32⟩
  | .hbm, ⟨7, _⟩ => ⟨S4x128x2x2x128, .f32⟩
  | .hbm, ⟨8, _⟩ => ⟨S4x128x512, .f32⟩
  | .hbm, ⟨9, _⟩ => ⟨S4x128x512, .bf16⟩
  | .hbm, ⟨10, _⟩ => ⟨S2x2x4x128, .f32⟩
  | .hbm, ⟨11, _⟩ => ⟨S4x2x2x128, .f32⟩
  | .hbm, ⟨12, _⟩ => ⟨S4x1x512, .f32⟩
  | .hbm, ⟨13, _⟩ => ⟨S2x512, .f32⟩
  | .hbm, ⟨14, _⟩ => ⟨S_, .f32⟩
  | .hbm, ⟨15, _⟩ => ⟨S2x512, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S2x512, .i1⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S2x512, .f32⟩
  | .hbm, ⟨28, _⟩ => ⟨S_, .f32⟩
  | .hbm, ⟨29, _⟩ => ⟨S2x512, .f32⟩
  | .hbm, ⟨30, _⟩ => ⟨S2x512, .f32⟩
  | .hbm, ⟨31, _⟩ => ⟨S1x512, .f32⟩
  | .hbm, ⟨32, _⟩ => ⟨S8192x512, .f32⟩
  | .hbm, ⟨33, _⟩ => ⟨S32x2x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x512, .bf16⟩
  | .local _ .vmem, ⟨9, _⟩ => ⟨S1x128x512, .bf16⟩
  | .local _ .vmem, ⟨10, _⟩ => ⟨S1x1x512, .f32⟩
  | .local _ .vmem, ⟨11, _⟩ => ⟨S1x1x512, .f32⟩
  | .local _ .vmem, ⟨12, _⟩ => ⟨S2x128, .f32⟩
  | .local _ .vmem, ⟨13, _⟩ => ⟨S2x128, .f32⟩
  | .local _ .vmem, ⟨14, _⟩ => ⟨S1x2x128, .f32⟩
  | .local _ .vmem, ⟨15, _⟩ => ⟨S1x2x128, .f32⟩
  | .local _ .vmem, ⟨16, _⟩ => ⟨S256x128, .f32⟩
  | .local _ .vmem, ⟨17, _⟩ => ⟨S256x128, .f32⟩
  | .local _ .vmem, ⟨18, _⟩ => ⟨S1x2x128, .f32⟩
  | .local _ .vmem, ⟨19, _⟩ => ⟨S1x2x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c2_i32 : BitVec 32 := 2#32
  let v4 : BitVec 32 := Scalar.addi c0_i32 c2_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v18 : BitVec 32 := Scalar.muli arg15 c128_i32
  v18
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v18 : BitVec 32 := Scalar.muli arg15 c128_i32
  let v19 : BitVec 32 := v18
  let v20 : Index := Scalar.indexCast v19
  let c0_21 : Index := 0#32
  ![v20.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v18 : BitVec 32 := Scalar.muli arg15 c128_i32
  let v19 : BitVec 32 := v18
  let c8_i32 : BitVec 32 := 8#32
  let v22 : BitVec 32 := Scalar.subi v19 c8_i32
  let c0_i32_22 : BitVec 32 := 0#32
  let v23 : BitVec 32 := Scalar.maxsi v22 c0_i32_22
  v23
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v18 : BitVec 32 := Scalar.muli arg15 c128_i32
  let v19 : BitVec 32 := v18
  let c8_i32 : BitVec 32 := 8#32
  let v22 : BitVec 32 := Scalar.subi v19 c8_i32
  let c0_i32_22 : BitVec 32 := 0#32
  let v23 : BitVec 32 := Scalar.maxsi v22 c0_i32_22
  let v24 : BitVec 32 := v23
  let v25 : Index := Scalar.indexCast v24
  let c0_23 : Index := 0#32
  ![v25.toNat, 0]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v18 : BitVec 32 := Scalar.muli arg15 c128_i32
  let v19 : BitVec 32 := v18
  let c128_i32_24 : BitVec 32 := 128#32
  let v27 : BitVec 32 := Scalar.addi v19 c128_i32_24
  let c248_i32 : BitVec 32 := 248#32
  let v28 : BitVec 32 := Scalar.minsi v27 c248_i32
  v28
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v18 : BitVec 32 := Scalar.muli arg15 c128_i32
  let v19 : BitVec 32 := v18
  let c128_i32_24 : BitVec 32 := 128#32
  let v27 : BitVec 32 := Scalar.addi v19 c128_i32_24
  let c248_i32 : BitVec 32 := 248#32
  let v28 : BitVec 32 := Scalar.minsi v27 c248_i32
  let v29 : BitVec 32 := v28
  let v30 : Index := Scalar.indexCast v29
  let c0_25 : Index := 0#32
  ![v30.toNat, 0]
@[reducible] def k0_t2_loop : Scf.Loop 32 :=
  let c0_i32_10 : BitVec 32 := 0#32
  let c2_i32_11 : BitVec 32 := 2#32
  let v11 : BitVec 32 := Scalar.addi c0_i32_10 c2_i32_11
  let c1_i32_12 : BitVec 32 := 1#32
  ⟨c0_i32_10, v11, c1_i32_12⟩
def k0_mult4 (k0_t2 : Fin k0_t2_loop.trips) : BitVec 32 :=
  let c0_i32_10 : BitVec 32 := 0#32
  let c1_i32_12 : BitVec 32 := 1#32
  let arg15 : BitVec 32 := Scf.iv c0_i32_10 c1_i32_12 k0_t2
  let c128_i32 : BitVec 32 := 128#32
  let v18 : BitVec 32 := Scalar.muli arg15 c128_i32
  v18
def k0_mult5 (k0_t2 : Fin k0_t2_loop.trips) : BitVec 32 :=
  let c1_i32_21 : BitVec 32 := 1#32
  let c0_i32_10 : BitVec 32 := 0#32
  let c1_i32_12 : BitVec 32 := 1#32
  let arg15 : BitVec 32 := Scf.iv c0_i32_10 c1_i32_12 k0_t2
  let v20 : BitVec 32 := Scalar.subi c1_i32_21 arg15
  let c128_i32_22 : BitVec 32 := 128#32
  let v21 : BitVec 32 := Scalar.muli v20 c128_i32_22
  v21
def k0_off4 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c128_i32 : BitVec 32 := 128#32
  let v18 : BitVec 32 := Scalar.muli arg15 c128_i32
  let v19 : BitVec 32 := v18
  let v23 : Index := Scalar.indexCast v19
  let c0_23 : Index := 0#32
  ![v23.toNat, 0]
def k0_off5 (k0_t2 : Fin k0_t2_loop.trips) : Fin 2 → Nat :=
  let c1_i32_21 : BitVec 32 := 1#32
  let c0_i32_10 : BitVec 32 := 0#32
  let c1_i32_12 : BitVec 32 := 1#32
  let arg15 : BitVec 32 := Scf.iv c0_i32_10 c1_i32_12 k0_t2
  let v20 : BitVec 32 := Scalar.subi c1_i32_21 arg15
  let c128_i32_22 : BitVec 32 := 128#32
  let v21 : BitVec 32 := Scalar.muli v20 c128_i32_22
  let v22 : BitVec 32 := v21
  let v50 : Index := Scalar.indexCast v22
  let c0_33 : Index := 0#32
  ![v50.toNat, 0]
@[reducible] def k0_t3_loop : Scf.Loop 32 :=
  let c0_i32_17 : BitVec 32 := 0#32
  let c2_i32_18 : BitVec 32 := 2#32
  let v17 : BitVec 32 := Scalar.addi c0_i32_17 c2_i32_18
  let c1_i32_19 : BitVec 32 := 1#32
  ⟨c0_i32_17, v17, c1_i32_19⟩
def k0_mult6 (k0_t3 : Fin k0_t3_loop.trips) : BitVec 32 :=
  let c0_i32_17 : BitVec 32 := 0#32
  let c1_i32_19 : BitVec 32 := 1#32
  let arg15 : BitVec 32 := Scf.iv c0_i32_17 c1_i32_19 k0_t3
  let c128_i32 : BitVec 32 := 128#32
  let v18 : BitVec 32 := Scalar.muli arg15 c128_i32
  v18
def k0_off6 (k0_t3 : Fin k0_t3_loop.trips) : Fin 2 → Nat :=
  let c0_i32_17 : BitVec 32 := 0#32
  let c1_i32_19 : BitVec 32 := 1#32
  let arg15 : BitVec 32 := Scf.iv c0_i32_17 c1_i32_19 k0_t3
  let c128_i32 : BitVec 32 := 128#32
  let v18 : BitVec 32 := Scalar.muli arg15 c128_i32
  let v19 : BitVec 32 := v18
  let v20 : Index := Scalar.indexCast v19
  let c0_21 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x6144 : Shape := ⟨2, ![8192, 6144]⟩
abbrev S4x512 : Shape := ⟨2, ![4, 512]⟩
abbrev S512 : Shape := ⟨1, ![512]⟩
abbrev S2x2x4x128x128 : Shape := ⟨5, ![2, 2, 4, 128, 128]⟩
abbrev S2x2x512 : Shape := ⟨3, ![2, 2, 512]⟩
abbrev S2x512 : Shape := ⟨2, ![2, 512]⟩
abbrev S32x2x512 : Shape := ⟨3, ![32, 2, 512]⟩
abbrev S32x256x6144 : Shape := ⟨3, ![32, 256, 6144]⟩
abbrev S32x256x512 : Shape := ⟨3, ![32, 256, 512]⟩
abbrev S_ : Shape := ⟨0, ![]⟩
abbrev S32x259x512 : Shape := ⟨3, ![32, 259, 512]⟩
abbrev S1x512 : Shape := ⟨2, ![1, 512]⟩
abbrev S1x1x512 : Shape := ⟨3, ![1, 1, 512]⟩
abbrev S1x32x256x512 : Shape := ⟨4, ![1, 32, 256, 512]⟩
abbrev S2x32x256x512 : Shape := ⟨4, ![2, 32, 256, 512]⟩
abbrev S2x32x256x4x128 : Shape := ⟨5, ![2, 32, 256, 4, 128]⟩
abbrev S2x4x2x128x32x256 : Shape := ⟨6, ![2, 4, 2, 128, 32, 256]⟩
abbrev S2x2x4x32x256x128 : Shape := ⟨6, ![2, 2, 4, 32, 256, 128]⟩
abbrev S2x2x32x256x4x128 : Shape := ⟨6, ![2, 2, 32, 256, 4, 128]⟩
abbrev S2x2x32x256x512 : Shape := ⟨5, ![2, 2, 32, 256, 512]⟩
abbrev S2x2x1x1x512 : Shape := ⟨5, ![2, 2, 1, 1, 512]⟩
abbrev S2x1x32x256x512 : Shape := ⟨5, ![2, 1, 32, 256, 512]⟩
abbrev S2x1x1x512 : Shape := ⟨4, ![2, 1, 1, 512]⟩
abbrev S256 : Shape := ⟨1, ![256]⟩
abbrev S256x1x1x1 : Shape := ⟨4, ![256, 1, 1, 1]⟩
abbrev S2x32x512 : Shape := ⟨3, ![2, 32, 512]⟩
abbrev S256x2x32x512 : Shape := ⟨4, ![256, 2, 32, 512]⟩
abbrev S1x2x32x512 : Shape := ⟨4, ![1, 2, 32, 512]⟩
abbrev S256x1x32x512 : Shape := ⟨4, ![256, 1, 32, 512]⟩
abbrev S256x32x512 : Shape := ⟨3, ![256, 32, 512]⟩
abbrev S8192x512 : Shape := ⟨2, ![8192, 512]⟩

abbrev nBuf : Space → Nat
  | .hbm => 172
  | .vmem => 0
  | .smem => 0
  | _ => 0

abbrev hbmTy0_0 (i : Nat) : BufTy := match i % 128 with
  | 0 => ⟨S8192x6144, .f32⟩
  | 1 => ⟨S4x512, .f32⟩
  | 2 => ⟨S512, .f32⟩
  | 3 => ⟨S2x2x4x128x128, .f32⟩
  | 4 => ⟨S2x2x512, .f32⟩
  | 5 => ⟨S2x512, .f32⟩
  | 6 => ⟨S32x2x512, .f32⟩
  | 7 => ⟨S32x256x6144, .f32⟩
  | 8 => ⟨S32x256x512, .f32⟩
  | 9 => ⟨S_, .i32⟩
  | 10 => ⟨S_, .f32⟩
  | 11 => ⟨S32x259x512, .f32⟩
  | 12 => ⟨S32x256x512, .f32⟩
  | 13 => ⟨S1x512, .f32⟩
  | 14 => ⟨S512, .f32⟩
  | 15 => ⟨S1x1x512, .f32⟩
  | 16 => ⟨S32x256x512, .f32⟩
  | 17 => ⟨S32x256x512, .f32⟩
  | 18 => ⟨S1x1x512, .f32⟩
  | 19 => ⟨S32x256x512, .f32⟩
  | 20 => ⟨S32x256x512, .f32⟩
  | 21 => ⟨S32x256x512, .f32⟩
  | 22 => ⟨S1x512, .f32⟩
  | 23 => ⟨S512, .f32⟩
  | 24 => ⟨S1x1x512, .f32⟩
  | 25 => ⟨S32x256x512, .f32⟩
  | 26 => ⟨S32x256x512, .f32⟩
  | 27 => ⟨S32x256x512, .f32⟩
  | 28 => ⟨S32x256x512, .f32⟩
  | 29 => ⟨S1x512, .f32⟩
  | 30 => ⟨S512, .f32⟩
  | 31 => ⟨S1x1x512, .f32⟩
  | 32 => ⟨S32x256x512, .f32⟩
  | 33 => ⟨S32x256x512, .f32⟩
  | 34 => ⟨S32x256x512, .f32⟩
  | 35 => ⟨S32x256x512, .f32⟩
  | 36 => ⟨S1x512, .f32⟩
  | 37 => ⟨S512, .f32⟩
  | 38 => ⟨S1x1x512, .f32⟩
  | 39 => ⟨S32x256x512, .f32⟩
  | 40 => ⟨S32x256x512, .f32⟩
  | 41 => ⟨S32x256x512, .f32⟩
  | 42 => ⟨S32x256x512, .f32⟩
  | 43 => ⟨S1x32x256x512, .f32⟩
  | 44 => ⟨S1x32x256x512, .f32⟩
  | 45 => ⟨S2x32x256x512, .f32⟩
  | 46 => ⟨S2x32x256x4x128, .f32⟩
  | 47 => ⟨S2x4x2x128x32x256, .f32⟩
  | 48 => ⟨S2x2x4x32x256x128, .f32⟩
  | 49 => ⟨S2x2x32x256x4x128, .f32⟩
  | 50 => ⟨S2x2x32x256x512, .f32⟩
  | 51 => ⟨S2x2x1x1x512, .f32⟩
  | 52 => ⟨S2x2x32x256x512, .f32⟩
  | 53 => ⟨S2x2x32x256x512, .f32⟩
  | 54 => ⟨S2x1x32x256x512, .f32⟩
  | 55 => ⟨S2x32x256x512, .f32⟩
  | 56 => ⟨S2x32x256x512, .f32⟩
  | 57 => ⟨S2x32x256x512, .f32⟩
  | 58 => ⟨S_, .f32⟩
  | 59 => ⟨S2x32x256x512, .f32⟩
  | 60 => ⟨S2x32x256x512, .f32⟩
  | 61 => ⟨S_, .f32⟩
  | 62 => ⟨S2x32x256x512, .f32⟩
  | 63 => ⟨S2x32x256x512, .f32⟩
  | 64 => ⟨S2x1x32x256x512, .f32⟩
  | 65 => ⟨S2x32x256x512, .f32⟩
  | 66 => ⟨S2x32x256x512, .f32⟩
  | 67 => ⟨S2x32x256x512, .f32⟩
  | 68 => ⟨S_, .f32⟩
  | 69 => ⟨S2x32x256x512, .f32⟩
  | 70 => ⟨S2x32x256x512, .f32⟩
  | 71 => ⟨S_, .f32⟩
  | 72 => ⟨S2x32x256x512, .f32⟩
  | 73 => ⟨S2x32x256x512, .f32⟩
  | 74 => ⟨S_, .f32⟩
  | 75 => ⟨S2x32x256x512, .f32⟩
  | 76 => ⟨S2x32x256x512, .f32⟩
  | 77 => ⟨S2x512, .f32⟩
  | 78 => ⟨S_, .f32⟩
  | 79 => ⟨S2x512, .f32⟩
  | 80 => ⟨S2x512, .f32⟩
  | 81 => ⟨S2x512, .f32⟩
  | 82 => ⟨S2x512, .f32⟩
  | 83 => ⟨S2x512, .i1⟩
  | 84 => ⟨S2x512, .f32⟩
  | 85 => ⟨S2x512, .f32⟩
  | 86 => ⟨S2x512, .f32⟩
  | 87 => ⟨S2x512, .f32⟩
  | 88 => ⟨S2x512, .f32⟩
  | 89 => ⟨S2x512, .f32⟩
  | 90 => ⟨S2x512, .f32⟩
  | 91 => ⟨S2x512, .f32⟩
  | 92 => ⟨S2x1x1x512, .f32⟩
  | 93 => ⟨S2x32x256x512, .f32⟩
  | 94 => ⟨S2x32x256x512, .f32⟩
  | 95 => ⟨S2x32x256x512, .f32⟩
  | 96 => ⟨S_, .f32⟩
  | 97 => ⟨S2x32x256x512, .f32⟩
  | 98 => ⟨S2x32x256x512, .f32⟩
  | 99 => ⟨S2x32x256x512, .f32⟩
  | 100 => ⟨S2x32x256x512, .f32⟩
  | 101 => ⟨S2x32x256x512, .f32⟩
  | 102 => ⟨S2x32x256x512, .f32⟩
  | 103 => ⟨S2x32x256x512, .f32⟩
  | 104 => ⟨S256, .i32⟩
  | 105 => ⟨S256x1x1x1, .i32⟩
  | 106 => ⟨S2x32x512, .f32⟩
  | 107 => ⟨S_, .f32⟩
  | 108 => ⟨S256x2x32x512, .f32⟩
  | 109 => ⟨S256x2x32x512, .f32⟩
  | 110 => ⟨S256x2x32x512, .f32⟩
  | 111 => ⟨S_, .i32⟩
  | 112 => ⟨S_, .i32⟩
  | 113 => ⟨S256x2x32x512, .f32⟩
  | 114 => ⟨S256x2x32x512, .f32⟩
  | 115 => ⟨S256x1x1x1, .i32⟩
  | 116 => ⟨S_, .i32⟩
  | 117 => ⟨S_, .i32⟩
  | 118 => ⟨S2x32x512, .f32⟩
  | 119 => ⟨S256x2x32x512, .f32⟩
  | 120 => ⟨S_, .i32⟩
  | 121 => ⟨S_, .i1⟩
  | 122 => ⟨S_, .i32⟩
  | 123 => ⟨S_, .i32⟩
  | 124 => ⟨S_, .i32⟩
  | 125 => ⟨S1x2x32x512, .f32⟩
  | 126 => ⟨S2x32x512, .f32⟩
  | 127 => ⟨S_, .i32⟩
  | _ => ⟨S8192x6144, .f32⟩

abbrev hbmTy0_1 (i : Nat) : BufTy := match i % 128 with
  | 0 => ⟨S_, .i32⟩
  | 1 => ⟨S_, .i32⟩
  | 2 => ⟨S1x2x32x512, .f32⟩
  | 3 => ⟨S2x32x512, .f32⟩
  | 4 => ⟨S2x32x512, .f32⟩
  | 5 => ⟨S2x32x512, .f32⟩
  | 6 => ⟨S_, .i32⟩
  | 7 => ⟨S_, .i32⟩
  | 8 => ⟨S256x1x1x1, .i32⟩
  | 9 => ⟨S256x1x1x1, .i1⟩
  | 10 => ⟨S256x2x32x512, .i1⟩
  | 11 => ⟨S256x2x32x512, .f32⟩
  | 12 => ⟨S256x2x32x512, .f32⟩
  | 13 => ⟨S_, .i32⟩
  | 14 => ⟨S_, .i32⟩
  | 15 => ⟨S256x1x32x512, .f32⟩
  | 16 => ⟨S256x32x512, .f32⟩
  | 17 => ⟨S256x1x32x512, .f32⟩
  | 18 => ⟨S256x1x32x512, .f32⟩
  | 19 => ⟨S256x32x512, .f32⟩
  | 20 => ⟨S32x256x6144, .f32⟩
  | 21 => ⟨S32x256x512, .f32⟩
  | 22 => ⟨S256x32x512, .f32⟩
  | 23 => ⟨S32x256x512, .f32⟩
  | 24 => ⟨S32x256x512, .f32⟩
  | 25 => ⟨S32x256x512, .f32⟩
  | 26 => ⟨S_, .f32⟩
  | 27 => ⟨S32x256x512, .f32⟩
  | 28 => ⟨S32x256x512, .f32⟩
  | 29 => ⟨S32x256x512, .f32⟩
  | 30 => ⟨S_, .f32⟩
  | 31 => ⟨S32x256x512, .f32⟩
  | 32 => ⟨S32x256x512, .f32⟩
  | 33 => ⟨S32x256x512, .f32⟩
  | 34 => ⟨S_, .f32⟩
  | 35 => ⟨S32x256x512, .f32⟩
  | 36 => ⟨S32x256x512, .f32⟩
  | 37 => ⟨S_, .f32⟩
  | 38 => ⟨S32x256x512, .f32⟩
  | 39 => ⟨S32x256x512, .f32⟩
  | 40 => ⟨S32x256x512, .f32⟩
  | 41 => ⟨S32x256x512, .f32⟩
  | 42 => ⟨S8192x512, .f32⟩
  | 43 => ⟨S32x2x512, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_1 : Ref sig .tc := ⟨.hbm, 68, rfl⟩
abbrev main_v57 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_4 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_5 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_6 : Ref sig .tc := ⟨.hbm, 111, rfl⟩
abbrev main_c_7 : Ref sig .tc := ⟨.hbm, 112, rfl⟩
abbrev main_v82_0 : Ref sig .tc := ⟨.hbm, 113, rfl⟩
abbrev main_v82_1 : Ref sig .tc := ⟨.hbm, 114, rfl⟩
abbrev main_v82_2 : Ref sig .tc := ⟨.hbm, 115, rfl⟩
abbrev main_v82_3 : Ref sig .tc := ⟨.hbm, 116, rfl⟩
abbrev main_v82_4 : Ref sig .tc := ⟨.hbm, 117, rfl⟩
abbrev main_v82_5 : Ref sig .tc := ⟨.hbm, 118, rfl⟩
abbrev main_v82_6 : Ref sig .tc := ⟨.hbm, 119, rfl⟩
abbrev main_while0c_c_18 : Ref sig .tc := ⟨.hbm, 120, rfl⟩
abbrev main_while0c_v108 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_c_1 : Ref sig .tc := ⟨.hbm, 124, rfl⟩
abbrev main_while0b_call2_v0 : Ref sig .tc := ⟨.hbm, 125, rfl⟩
abbrev main_while0b_v108 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_c_1 : Ref sig .tc := ⟨.hbm, 129, rfl⟩
abbrev main_while0b_call3_v0 : Ref sig .tc := ⟨.hbm, 130, rfl⟩
abbrev main_while0b_v109 : Ref sig .tc := ⟨.hbm, 131, rfl⟩
abbrev main_while0b_v110 : Ref sig .tc := ⟨.hbm, 132, rfl⟩
abbrev main_while0b_v111 : Ref sig .tc := ⟨.hbm, 133, rfl⟩
abbrev main_while0b_c_18 : Ref sig .tc := ⟨.hbm, 134, rfl⟩
abbrev main_while0b_v112 : Ref sig .tc := ⟨.hbm, 135, rfl⟩
abbrev main_while0b_v113 : Ref sig .tc := ⟨.hbm, 136, rfl⟩
abbrev main_while0b_v114 : Ref sig .tc := ⟨.hbm, 137, rfl⟩
abbrev main_while0b_call4_v0 : Ref sig .tc := ⟨.hbm, 138, rfl⟩
abbrev main_while0b_call4_v1 : Ref sig .tc := ⟨.hbm, 139, rfl⟩
abbrev main_while0b_v115 : Ref sig .tc := ⟨.hbm, 140, rfl⟩
abbrev main_while0b_c_19 : Ref sig .tc := ⟨.hbm, 141, rfl⟩
abbrev main_while0b_v116 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_8 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_9 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_10 : Ref sig .tc := ⟨.hbm, 162, rfl⟩
abbrev main_v100 : Ref sig .tc := ⟨.hbm, 163, rfl⟩
abbrev main_v101 : Ref sig .tc := ⟨.hbm, 164, rfl⟩
abbrev main_cst_11 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩

abbrev nD : Nat := 1
abbrev τ : Topo := Topo.v7x

variable {F : FTy → Type} [FloatOps F]

abbrev main_while0_count : Scf.Loop 32 := ⟨0#32, 256#32, 1#32⟩
-- ==== Ffn.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8x1x2048 : Shape := ⟨3, ![8, 1, 2048]⟩
abbrev S1x11264 : Shape := ⟨2, ![1, 11264]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1x1x2048 : Shape := ⟨3, ![1, 1, 2048]⟩
abbrev S544x2048 : Shape := ⟨2, ![544, 2048]⟩
abbrev S512x1 : Shape := ⟨2, ![512, 1]⟩
abbrev S2048x256 : Shape := ⟨2, ![2048, 256]⟩
abbrev S544x256 : Shape := ⟨2, ![544, 256]⟩
abbrev S512x256 : Shape := ⟨2, ![512, 256]⟩
abbrev S1x256 : Shape := ⟨2, ![1, 256]⟩
abbrev S3x256 : Shape := ⟨2, ![3, 256]⟩
abbrev S512x512 : Shape := ⟨2, ![512, 512]⟩
abbrev S1x2048 : Shape := ⟨2, ![1, 2048]⟩

abbrev nBuf : Space → Nat
  | .hbm => 11
  | .vmem => 27
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S32768x2048, .f32⟩
  | .hbm, ⟨6, _⟩ => ⟨S8x1x2048, .f32⟩
  | .hbm, ⟨7, _⟩ => ⟨S2048x11264, .bf16⟩
  | .hbm, ⟨8, _⟩ => ⟨S5632x2048, .bf16⟩
  | .hbm, ⟨9, _⟩ => ⟨S1x11264, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | .local _ .vmem, ⟨22, _⟩ => ⟨S1x1x2048, .f32⟩
  | .local _ .vmem, ⟨23, _⟩ => ⟨S1x1x2048, .f32⟩
  | .local _ .vmem, ⟨24, _⟩ => ⟨S512x2048, .f32⟩
  | .local _ .vmem, ⟨25, _⟩ => ⟨S512x2048, .f32⟩
  | .local _ .vmem, ⟨26, _⟩ => ⟨S544x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c0_i32_68 : BitVec 32 := 0#32
  let v211 : BitVec 1 := Scalar.cmpi .eq arg1 c0_i32_68
  let v212 : BitVec 32 := Scalar.extui v211
  let c0_i32_69 : BitVec 32 := 0#32
  let v213 : BitVec 1 := Scalar.cmpi .ne v212 c0_i32_69
  v213

def k0_cond3 (i : grid0.Coords) : BitVec 1 :=
  let arg1 : BitVec 32 := BitVec.ofNat 32 (i 1).val
  let c0_i32_70 : BitVec 32 := 0#32
  let v214 : BitVec 1 := Scalar.cmpi .sgt arg1 c0_i32_70
  let v215 : BitVec 32 := Scalar.extui v214
  let c0_i32_71 : BitVec 32 := 0#32
  let v216 : BitVec 1 := Scalar.cmpi .ne v215 c0_i32_71
  v216

def k0_cond4 (i : grid0.Coords) : BitVec 1 :=
  let arg1 : BitVec 32 := BitVec.ofNat 32 (i 1).val
  let c10_i32 : BitVec 32 := 10#32
  let v217 : BitVec 1 := Scalar.cmpi .eq arg1 c10_i32
  let v218 : BitVec 32 := Scalar.extui v217
  let c0_i32_72 : BitVec 32 := 0#32
  let v219 : BitVec 1 := Scalar.cmpi .ne v218 c0_i32_72
  v219

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnRefIdeal.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8x1x2048 : Shape := ⟨3, ![8, 1, 2048]⟩
abbrev S8x4096x2048 : Shape := ⟨3, ![8, 4096, 2048]⟩
abbrev S8x4096x11264 : Shape := ⟨3, ![8, 4096, 11264]⟩
abbrev S_ : Shape := ⟨0, ![]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩

abbrev nBuf : Space → Nat
  | .hbm => 54
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S32768x2048, .f32⟩
  | .hbm, ⟨6, _⟩ => ⟨S8x1x2048, .f32⟩
  | .hbm, ⟨7, _⟩ => ⟨S32768x2048, .f32⟩
  | .hbm, ⟨8, _⟩ => ⟨S8x4096x2048, .f32⟩
  | .hbm, ⟨9, _⟩ => ⟨S8x4096x11264, .f32⟩
  | .hbm, ⟨10, _⟩ => ⟨S_, .i32⟩
  | .hbm, ⟨11, _⟩ => ⟨S_, .f32⟩
  | .hbm, ⟨12, _⟩ => ⟨S8x4098x11264, .f32⟩
  | .hbm, ⟨13, _⟩ => ⟨S8x4096x11264, .f32⟩
  | .hbm, ⟨14, _⟩ => ⟨S1x11264, .f32⟩
  | .hbm, ⟨15, _⟩ => ⟨S11264, .f32⟩
  | .hbm, ⟨16, _⟩ => ⟨S1x1x11264, .f32⟩
  | .hbm, ⟨17, _⟩ => ⟨S8x4096x11264, .f32⟩
  | .hbm, ⟨18, _⟩ => ⟨S8x4096x11264, .f32⟩
  | .hbm, ⟨19, _⟩ => ⟨S1x1x11264, .f32⟩
  | .hbm, ⟨20, _⟩ => ⟨S8x4096x11264, .f32⟩
  | .hbm, ⟨21, _⟩ => ⟨S8x4096x11264, .f32⟩
  | .hbm, ⟨22, _⟩ => ⟨S8x4096x11264, .f32⟩
  | .hbm, ⟨23, _⟩ => ⟨S1x11264, .f32⟩
  | .hbm, ⟨24, _⟩ => ⟨S11264, .f32⟩
  | .hbm, ⟨25, _⟩ => ⟨S1x1x11264, .f32⟩
  | .hbm, ⟨26, _⟩ => ⟨S8x4096x11264, .f32⟩
  | .hbm, ⟨27, _⟩ => ⟨S8x4096x11264, .f32⟩
  | .hbm, ⟨28, _⟩ => ⟨S8x4096x11264, .f32⟩
  | .hbm, ⟨29, _⟩ => ⟨S8x4096x11264, .f32⟩
  | .hbm, ⟨30, _⟩ => ⟨S1x11264, .f32⟩
  | .hbm, ⟨31, _⟩ => ⟨S11264, .f32⟩
  | .hbm, ⟨32, _⟩ => ⟨S1x1x11264, .f32⟩
  | .hbm, ⟨33, _⟩ => ⟨S8x4096x11264, .f32⟩
  | .hbm, ⟨34, _⟩ => ⟨S8x4096x11264, .f32⟩
  | .hbm, ⟨35, _⟩ => ⟨S8x4096x11264, .f32⟩
  | .hbm, ⟨36, _⟩ => ⟨S8x4096x5632, .f32⟩
  | .hbm, ⟨37, _⟩ => ⟨S8x4096x5632, .f32⟩
  | .hbm, ⟨38, _⟩ => ⟨S8x4096x2048, .f32⟩
  | .hbm, ⟨39, _⟩ => ⟨S8x4096x5632, .f32⟩
  | .hbm, ⟨40, _⟩ => ⟨S8x4096x5632, .f32⟩
  | .hbm, ⟨41, _⟩ => ⟨S_, .f32⟩
  | .hbm, ⟨42, _⟩ => ⟨S8x4096x5632, .f32⟩
  | .hbm, ⟨43, _⟩ => ⟨S8x4096x5632, .f32⟩
  | .hbm, ⟨44, _⟩ => ⟨S_, .f32⟩
  | .hbm, ⟨45, _⟩ => ⟨S8x4096x5632, .f32⟩
  | .hbm, ⟨46, _⟩ => ⟨S8x4096x5632, .f32⟩
  | .hbm, ⟨47, _⟩ => ⟨S8x4096x5632, .f32⟩
  | .hbm, ⟨48, _⟩ => ⟨S8x4096x5632, .f32⟩
  | .hbm, ⟨49, _⟩ => ⟨S8x4096x2048, .f32⟩
  | .hbm, ⟨50, _⟩ => ⟨S8x4096x2048, .f32⟩
  | .hbm, ⟨51, _⟩ => ⟨S8x4096x2048, .f32⟩
  | .hbm, ⟨52, _⟩ => ⟨S8x4096x2048, .f32⟩
  | .hbm, ⟨53, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== InProj.lean ====
abbrev S32x256x2048 : Shape := ⟨3, ![32, 256, 2048]⟩
abbrev S2048 : Shape := ⟨1, ![2048]⟩
abbrev S1x1x2048 : Shape := ⟨3, ![1, 1, 2048]⟩
abbrev S2048x5888 : Shape := ⟨2, ![2048, 5888]⟩
abbrev S_ : Shape := ⟨0, ![]⟩
abbrev S2048x6144 : Shape := ⟨2, ![2048, 6144]⟩
abbrev S8192x2048 : Shape := ⟨2, ![8192, 2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩

abbrev nBuf : Space → Nat
  | .hbm => 16
  | .vmem => 9
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x5888, .f32⟩
  | .hbm, ⟨5, _⟩ => ⟨S1x1x2048, .f32⟩
  | .hbm, ⟨6, _⟩ => ⟨S_, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S2048x5888, .bf16⟩
  | .hbm, ⟨11, _⟩ => ⟨S_, .i32⟩
  | .hbm, ⟨12, _⟩ => ⟨S_, .bf16⟩
  | .hbm, ⟨13, _⟩ => ⟨S2048x6144, .bf16⟩
  | .hbm, ⟨14, _⟩ => ⟨S8192x2048, .f32⟩
  | .hbm, ⟨15, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S32x256x2048 : Shape := ⟨3, ![32, 256, 2048]⟩
abbrev S2048 : Shape := ⟨1, ![2048]⟩
abbrev S1x1x2048 : Shape := ⟨3, ![1, 1, 2048]⟩
abbrev S2048x5888 : Shape := ⟨2, ![2048, 5888]⟩
abbrev S_ : Shape := ⟨0, ![]⟩
abbrev S32x256 : Shape := ⟨2, ![32, 256]⟩
abbrev S32x256x1 : Shape := ⟨3, ![32, 256, 1]⟩
abbrev S32x256x5888 : Shape := ⟨3, ![32, 256, 5888]⟩
abbrev S32x256x6144 : Shape := ⟨3, ![32, 256, 6144]⟩
abbrev S8192x6144 : Shape := ⟨2, ![8192, 6144]⟩

abbrev nBuf : Space → Nat
  | .hbm => 33
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x5888, .f32⟩
  | .hbm, ⟨5, _⟩ => ⟨S32x256x2048, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x2048, .f32⟩
  | .hbm, ⟨17, _⟩ => ⟨S32x256x2048, .f32⟩
  | .hbm, ⟨18, _⟩ => ⟨S1x1x2048, .f32⟩
  | .hbm, ⟨19, _⟩ => ⟨S32x256x2048, .f32⟩
  | .hbm, ⟨20, _⟩ => ⟨S32x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S32x256x5888, .f32⟩
  | .hbm, ⟨29, _⟩ => ⟨S_, .i32⟩
  | .hbm, ⟨30, _⟩ => ⟨S_, .f32⟩
  | .hbm, ⟨31, _⟩ => ⟨S32x256x6144, .f32⟩
  | .hbm, ⟨32, _⟩ => ⟨S8192x6144, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== OutProj.lean ====
abbrev S32768x512 : Shape := ⟨2, ![32768, 512]⟩
abbrev S2048x2048 : Shape := ⟨2, ![2048, 2048]⟩
abbrev S8x4096x2048 : Shape := ⟨3, ![8, 4096, 2048]⟩
abbrev S8x1x2048 : Shape := ⟨3, ![8, 1, 2048]⟩
abbrev S2048 : Shape := ⟨1, ![2048]⟩
abbrev S1x1x2048 : Shape := ⟨3, ![1, 1, 2048]⟩
abbrev S_ : Shape := ⟨0, ![]⟩
abbrev S32768x2048 : Shape := ⟨2, ![32768, 2048]⟩
abbrev S512x512 : Shape := ⟨2, ![512, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 22
  | .vmem => 25
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S2048x2048, .f32⟩
  | .hbm, ⟨7, _⟩ => ⟨S8x4096x2048, .f32⟩
  | .hbm, ⟨8, _⟩ => ⟨S8x1x2048, .f32⟩
  | .hbm, ⟨9, _⟩ => ⟨S2048, .f32⟩
  | .hbm, ⟨10, _⟩ => ⟨S8x1x2048, .f32⟩
  | .hbm, ⟨11, _⟩ => ⟨S8x1x2048, .f32⟩
  | .hbm, ⟨12, _⟩ => ⟨S1x1x2048, .f32⟩
  | .hbm, ⟨13, _⟩ => ⟨S_, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S2048x2048, .bf16⟩
  | .hbm, ⟨19, _⟩ => ⟨S32768x2048, .f32⟩
  | .hbm, ⟨20, _⟩ => ⟨S32768x2048, .f32⟩
  | .hbm, ⟨21, _⟩ => ⟨S32768x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S512x2048, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutProjRefIdeal.lean ====
abbrev S32768x512 : Shape := ⟨2, ![32768, 512]⟩
abbrev S2048x2048 : Shape := ⟨2, ![2048, 2048]⟩
abbrev S8x4096x2048 : Shape := ⟨3, ![8, 4096, 2048]⟩
abbrev S8x1x2048 : Shape := ⟨3, ![8, 1, 2048]⟩
abbrev S2048 : Shape := ⟨1, ![2048]⟩
abbrev S32768x2048 : Shape := ⟨2, ![32768, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S2048x2048, .f32⟩
  | .hbm, ⟨7, _⟩ => ⟨S8x4096x2048, .f32⟩
  | .hbm, ⟨8, _⟩ => ⟨S8x1x2048, .f32⟩
  | .hbm, ⟨9, _⟩ => ⟨S2048, .f32⟩
  | .hbm, ⟨10, _⟩ => ⟨S8x1x2048, .f32⟩
  | .hbm, ⟨11, _⟩ => ⟨S8x1x2048, .f32⟩
  | .hbm, ⟨12, _⟩ => ⟨S32768x512, .f32⟩
  | .hbm, ⟨13, _⟩ => ⟨S32768x512, .f32⟩
  | .hbm, ⟨14, _⟩ => ⟨S32768x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x2048, .f32⟩
  | .hbm, ⟨32, _⟩ => ⟨S8x4096x2048, .f32⟩
  | .hbm, ⟨33, _⟩ => ⟨S1x1x2048, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x1x2048, .f32⟩
  | .hbm, ⟨38, _⟩ => ⟨S8x1x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S8x4096x2048, .f32⟩
  | .hbm, ⟨43, _⟩ => ⟨S32768x2048, .f32⟩
  | .hbm, ⟨44, _⟩ => ⟨S8x4096x2048, .bf16⟩
  | .hbm, ⟨45, _⟩ => ⟨S32768x2048, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Attn.lean ====
abbrev S8192x6144 : Shape := ⟨2, ![8192, 6144]⟩
abbrev S64 : Shape := ⟨1, ![64]⟩
abbrev S8 : Shape := ⟨1, ![8]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S8192x512 : Shape := ⟨2, ![8192, 512]⟩
abbrev S8192x128 : Shape := ⟨2, ![8192, 128]⟩
abbrev S256x512 : Shape := ⟨2, ![256, 512]⟩
abbrev S256x256 : Shape := ⟨2, ![256, 256]⟩
abbrev S256x128 : Shape := ⟨2, ![256, 128]⟩
abbrev S2x256x128 : Shape := ⟨3, ![2, 256, 128]⟩
abbrev S128x128 : Shape := ⟨2, ![128, 128]⟩
abbrev S1x256x128 : Shape := ⟨3, ![1, 256, 128]⟩
abbrev S512x1 : Shape := ⟨2, ![512, 1]⟩
abbrev S512x128 : Shape := ⟨2, ![512, 128]⟩
abbrev S1x1 : Shape := ⟨2, ![1, 1]⟩
abbrev S512x256 : Shape := ⟨2, ![512, 256]⟩
abbrev S512 : Shape := ⟨1, ![512]⟩

abbrev nBuf : Space → Nat
  | .hbm => 16
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S8x1, .f32⟩
  | .hbm, ⟨13, _⟩ => ⟨S8x128, .f32⟩
  | .hbm, ⟨14, _⟩ => ⟨S8192x512, .f32⟩
  | .hbm, ⟨15, _⟩ => ⟨S8192x128, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S1x128, .f32⟩
  | .local _ .vmem, ⟨5, _⟩ => ⟨S1x128, .f32⟩
  | .local _ .vmem, ⟨6, _⟩ => ⟨S8x128, .f32⟩
  | .local _ .vmem, ⟨7, _⟩ => ⟨S256x512, .f32⟩
  | .local _ .vmem, ⟨8, _⟩ => ⟨S256x512, .f32⟩
  | .local _ .vmem, ⟨9, _⟩ => ⟨S256x128, .f32⟩
  | .local _ .vmem, ⟨10, _⟩ => ⟨S256x128, .f32⟩
  | .local _ .vmem, ⟨11, _⟩ => ⟨S256x512, .bf16⟩
  | .local _ .vmem, ⟨12, _⟩ => ⟨S2x256x128, .bf16⟩
  | .local _ .vmem, ⟨13, _⟩ => ⟨S2x256x128, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c22_i32 : BitVec 32 := 22#32
  let c0_i32 : BitVec 32 := 0#32
  ![v1.toNat, c22_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8192x6144 : Shape := ⟨2, ![8192, 6144]⟩
abbrev S64 : Shape := ⟨1, ![64]⟩
abbrev S8 : Shape := ⟨1, ![8]⟩
abbrev S32x256x6144 : Shape := ⟨3, ![32, 256, 6144]⟩
abbrev S32x256x512 : Shape := ⟨3, ![32, 256, 512]⟩
abbrev S32x256x8x64 : Shape := ⟨4, ![32, 256, 8, 64]⟩
abbrev S32x256x128 : Shape := ⟨3, ![32, 256, 128]⟩
abbrev S32x256x2x64 : Shape := ⟨4, ![32, 256, 2, 64]⟩
abbrev S_ : Shape := ⟨0, ![]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2 : Shape := ⟨3, ![32, 256, 2]⟩
abbrev S32x256x2x1 : Shape := ⟨4, ![32, 256, 2, 1]⟩
abbrev S32x256x2x4x64 : Shape := ⟨5, ![32, 256, 2, 4, 64]⟩
abbrev S32x2x256x256x4 : Shape := ⟨5, ![32, 2, 256, 256, 4]⟩
abbrev S32x2x4x256x256 : Shape := ⟨5, ![32, 2, 4, 256, 256]⟩
abbrev S2x4 : Shape := ⟨2, ![2, 4]⟩
abbrev S1x2x4x1x1 : Shape := ⟨5, ![1, 2, 4, 1, 1]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩
abbrev S8192x512 : Shape := ⟨2, ![8192, 512]⟩
abbrev S8192x128 : Shape := ⟨2, ![8192, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S32x256x6144, .f32⟩
  | .hbm, ⟨5, _⟩ => ⟨S32x256x512, .f32⟩
  | .hbm, ⟨6, _⟩ => ⟨S32x256x8x64, .f32⟩
  | .hbm, ⟨7, _⟩ => ⟨S32x256x128, .f32⟩
  | .hbm, ⟨8, _⟩ => ⟨S32x256x2x64, .f32⟩
  | .hbm, ⟨9, _⟩ => ⟨S32x256x128, .f32⟩
  | .hbm, ⟨10, _⟩ => ⟨S32x256x2x64, .f32⟩
  | .hbm, ⟨11, _⟩ => ⟨S32x256x8x64, .f32⟩
  | .hbm, ⟨12, _⟩ => ⟨S_, .f32⟩
  | .hbm, ⟨13, _⟩ => ⟨S32x256x8, .f32⟩
  | .hbm, ⟨14, _⟩ => ⟨S32x256x8x1, .f32⟩
  | .hbm, ⟨15, _⟩ => ⟨S_, .f32⟩
  | .hbm, ⟨16, _⟩ => ⟨S32x256x8x1, .f32⟩
  | .hbm, ⟨17, _⟩ => ⟨S32x256x8x1, .f32⟩
  | .hbm, ⟨18, _⟩ => ⟨S_, .f32⟩
  | .hbm, ⟨19, _⟩ => ⟨S32x256x8x1, .f32⟩
  | .hbm, ⟨20, _⟩ => ⟨S32x256x8x1, .f32⟩
  | .hbm, ⟨21, _⟩ => ⟨S32x256x8x1, .f32⟩
  | .hbm, ⟨22, _⟩ => ⟨S32x256x8x64, .f32⟩
  | .hbm, ⟨23, _⟩ => ⟨S32x256x8x64, .f32⟩
  | .hbm, ⟨24, _⟩ => ⟨S1x1x1x64, .f32⟩
  | .hbm, ⟨25, _⟩ => ⟨S32x256x8x64, .f32⟩
  | .hbm, ⟨26, _⟩ => ⟨S32x256x8x64, .f32⟩
  | .hbm, ⟨27, _⟩ => ⟨S32x256x2x64, .f32⟩
  | .hbm, ⟨28, _⟩ => ⟨S_, .f32⟩
  | .hbm, ⟨29, _⟩ => ⟨S32x256x2, .f32⟩
  | .hbm, ⟨30, _⟩ => ⟨S32x256x2x1, .f32⟩
  | .hbm, ⟨31, _⟩ => ⟨S_, .f32⟩
  | .hbm, ⟨32, _⟩ => ⟨S32x256x2x1, .f32⟩
  | .hbm, ⟨33, _⟩ => ⟨S32x256x2x1, .f32⟩
  | .hbm, ⟨34, _⟩ => ⟨S_, .f32⟩
  | .hbm, ⟨35, _⟩ => ⟨S32x256x2x1, .f32⟩
  | .hbm, ⟨36, _⟩ => ⟨S32x256x2x1, .f32⟩
  | .hbm, ⟨37, _⟩ => ⟨S32x256x2x1, .f32⟩
  | .hbm, ⟨38, _⟩ => ⟨S32x256x2x64, .f32⟩
  | .hbm, ⟨39, _⟩ => ⟨S32x256x2x64, .f32⟩
  | .hbm, ⟨40, _⟩ => ⟨S1x1x1x64, .f32⟩
  | .hbm, ⟨41, _⟩ => ⟨S32x256x2x64, .f32⟩
  | .hbm, ⟨42, _⟩ => ⟨S32x256x2x64, .f32⟩
  | .hbm, ⟨43, _⟩ => ⟨S32x256x2x4x64, .f32⟩
  | .hbm, ⟨44, _⟩ => ⟨S32x2x256x256x4, .f32⟩
  | .hbm, ⟨45, _⟩ => ⟨S32x2x4x256x256, .f32⟩
  | .hbm, ⟨46, _⟩ => ⟨S_, .f32⟩
  | .hbm, ⟨47, _⟩ => ⟨S32x2x4x256x256, .f32⟩
  | .hbm, ⟨48, _⟩ => ⟨S32x2x4x256x256, .f32⟩
  | .hbm, ⟨49, _⟩ => ⟨S2x4, .f32⟩
  | .hbm, ⟨50, _⟩ => ⟨S1x2x4x1x1, .f32⟩
  | .hbm, ⟨51, _⟩ => ⟨S_, .f32⟩
  | .hbm, ⟨52, _⟩ => ⟨S32x2x4x256, .f32⟩
  | .hbm, ⟨53, _⟩ => ⟨S32x2x4x256x1, .f32⟩
  | .hbm, ⟨54, _⟩ => ⟨S32x2x4x256x1, .f32⟩
  | .hbm, ⟨55, _⟩ => ⟨S32x2x4x256x1, .f32⟩
  | .hbm, ⟨56, _⟩ => ⟨S32x2x4x256x256, .f32⟩
  | .hbm, ⟨57, _⟩ => ⟨S32x2x4x256x256, .f32⟩
  | .hbm, ⟨58, _⟩ => ⟨S32x2x4x256x256, .f32⟩
  | .hbm, ⟨59, _⟩ => ⟨S_, .f32⟩
  | .hbm, ⟨60, _⟩ => ⟨S32x2x4x256, .f32⟩
  | .hbm, ⟨61, _⟩ => ⟨S32x2x4x256x1, .f32⟩
  | .hbm, ⟨62, _⟩ => ⟨S32x2x4x256x1, .f32⟩
  | .hbm, ⟨63, _⟩ => ⟨S32x2x4x256x1, .f32⟩
  | .hbm, ⟨64, _⟩ => ⟨S32x2x4x256x1, .f32⟩
  | .hbm, ⟨65, _⟩ => ⟨S32x2x4x256x1, .f32⟩
  | .hbm, ⟨66, _⟩ => ⟨S32x2x4x256x256, .f32⟩
  | .hbm, ⟨67, _⟩ => ⟨S32x2x4x256x256, .f32⟩
  | .hbm, ⟨68, _⟩ => ⟨S32x2x64x4x256, .f32⟩
  | .hbm, ⟨69, _⟩ => ⟨S32x256x2x4x64, .f32⟩
  | .hbm, ⟨70, _⟩ => ⟨S8192x512, .f32⟩
  | .hbm, ⟨71, _⟩ => ⟨S8192x128, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Proof.RgVal.lean ====
/-
  The recurrence kernel's block, as functions of what the block reads.

  The body runs three loops of two trips each: the depthwise convolution of 128 rows at a time, the two scans (the
  forward one from the first 128 rows, the backward one from the last 128), and the gated output.  Each trip stores
  one rectangle of 128 rows.  This module names what each trip stores and what the buffers hold after the loops.
-/
module

public import proofs.«01_k».proof.Proof.Gen.KernelIdeal.Frame.Runs
public import Idealize.ShloMosaic.Lib.Pipeline.Value

@[expose] public section

set_option maxRecDepth 16384

noncomputable section

namespace Cert.Rg

open Idealize.ShloMosaic Idealize.ShloMosaic.TcCoe Idealize.ShloMosaic.Tactic
open Idealize.SL Idealize.ShloMosaic.Pipeline
open Cert.KernelIdeal Cert.KernelIdeal.Gen

variable {F : FTy → Type} [FloatOps F]

/-- The row numbers of a chunk. -/
abbrev rows : IVec S128x1 32 := iota .tc S128x1 32 [0] iota_S128x1_d0_w32

/-- The 128 rows of `X` that trip `k` of the convolution, of the forward scan and of the output works on. -/
abbrev chunk1 (X : Vec F S256x128 .f32) (k : Fin k0_t1_loop.trips) : Vec F S128x128 .f32 :=
  View.ld X (Rect.unit (s := S256x128) (k0_off1 k) S128x128.size (k0_off1_inb k))

/-- The convolution of one chunk: its own rows, and the eight rows before and after it for the rows at its ends. -/
def convRows (X : Vec F S256x128 .f32) (cw : Vec F S4x128 .f32) (cb : Vec F S1x128 .f32) (k : Fin k0_t1_loop.trips) :
    FVec F S128x128 .f32 :=
  let x := chunk1 X k
  let lo : Vec F S8x128 .f32 := View.ld X (Rect.unit (s := S256x128) (k0_off2 k) S8x128.size (k0_off2_inb k))
  let hi : Vec F S8x128 .f32 := View.ld X (Rect.unit (s := S256x128) (k0_off3 k) S8x128.size (k0_off3_inb k))
  k0_pay1 cw cb x (k0_pay10 rows 0#32 1#32 k) (k0_pay11 rows x lo) (k0_pay12 rows x hi) (k0_pay13 rows) (k0_pay14 hi)
    (k0_pay15 x) (k0_pay16 rows) (k0_pay17 hi)

/-- The forward scan of one chunk: decays `a`, inputs `b`, the state `h` before the chunk. -/
def fwdChain (a b : FVec F S128x128 .f32) (h : FVec F S1x128 .f32) : FVec F S128x128 .f32 :=
  let z : F .f32 := Scalar.ofBits .f32 0x00000000#32
  let A := k0_pay27 a
  let A' := k0_pay29 a
  let B := k0_pay26 a b
  let B' := k0_pay30 a b
  k0_pay42 h rows (k0_pay36 rows B A A' B' z k0_pay31) (k0_pay37 rows A A') (k0_pay39 rows A A')
    (k0_pay40 rows B A A' B' z k0_pay31) z (k0_pay41 rows)

/-- The backward scan of one chunk: decays `a`, inputs `b`, the state `h` after the chunk. -/
def bwdChain (a b : FVec F S128x128 .f32) (h : FVec F S1x128 .f32) : FVec F S128x128 .f32 :=
  let r := k0_pay45 a
  let B := k0_pay52 a b rows k0_pay44 r k0_pay46 k0_pay47
  let A := k0_pay53 a rows r k0_pay46 k0_pay47
  let A' := k0_pay55 a rows r k0_pay46 k0_pay47
  let m := k0_pay54 rows
  let p := k0_pay56 rows
  k0_pay4 h (k0_pay62 rows B A m A' p k0_pay57) (k0_pay63 rows A A' p k0_pay57) (k0_pay64 rows)
    (k0_pay65 rows A A' p k0_pay57) (k0_pay66 rows) k0_pay67

/-- The last row of a chunk, and the first. -/
def lastRow (v : FVec F S128x128 .f32) : FVec F S1x128 .f32 :=
  extractStridedSlice S1x128 ![127, 0] v slices_S128x128_o127_0_S1x128
def firstRow (v : FVec F S128x128 .f32) : FVec F S1x128 .f32 :=
  extractStridedSlice S1x128 ![0, 0] v slices_S128x128_o0_0_S1x128

/-- The states of forward trip `k`: gates from the convolved rows `R` of its chunk, then the scan from `h`. -/
def fwdRows (R : Vec F S256x128 .f32) (w : Vec F S1x128x512 .bf16) (gb : Vec F S1x1x512 .f32) (ca : Vec F S2x128 .f32)
    (k : Fin k0_t2_loop.trips) (h : FVec F S1x128 .f32) : FVec F S128x128 .f32 :=
  let x : Vec F S128x128 .f32 := View.ld R (Rect.unit (s := S256x128) (k0_off4 k) S128x128.size (k0_off4_inb k))
  let c : Vec F S1x128 .f32 := View.ld ca (Rect.unit (s := S2x128) ![0, 0] S1x128.size inb_S2x128_S1x128_0_0)
  fwdChain (k0_pay19 x w gb c) (k0_pay20 x w gb c) h

/-- The states of backward trip `k`, whose chunk is the one counted from the end. -/
def bwdRows (R : Vec F S256x128 .f32) (w : Vec F S1x128x512 .bf16) (gb : Vec F S1x1x512 .f32) (ca : Vec F S2x128 .f32)
    (k : Fin k0_t2_loop.trips) (h : FVec F S1x128 .f32) : FVec F S128x128 .f32 :=
  let x : Vec F S128x128 .f32 := View.ld R (Rect.unit (s := S256x128) (k0_off5 k) S128x128.size (k0_off5_inb k))
  let c : Vec F S1x128 .f32 := View.ld ca (Rect.unit (s := S2x128) ![1, 0] S1x128.size inb_S2x128_S1x128_1_0)
  bwdChain (k0_pay23 (k0_pay21 x w) gb c) (k0_pay24 x (k0_pay21 x w) gb c) h

/-- Trip `k` of the convolution stores its chunk's convolution. -/
theorem trip1_pieces (𝒱 : Variants) (c : Dev nD) (bd : Option 𝒱.V) (i : grid0.Coords) (arg2 : Memref sig .tc .vmem S256x128 .f32) (harg2 : arg2.IsWhole) (arg3 : Memref sig .tc .vmem S256x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S1x2x128 .f32) (harg9 : arg9.IsWhole) (arg10 : Memref sig .tc .vmem S256x128 .f32) (harg10 : arg10.IsWhole) (arg11 : Memref sig .tc .vmem S1x2x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (cw : Vec F S4x128 .f32) (cb : Vec F S1x128 .f32) (X : BufTy.Contents (Elt F) arg2.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 rows cw cb X k).1
      = [⟨Rect.unit (s := S256x128) (k0_off1 k) S128x128.size (k0_off1_inb k), convRows (arg2.view.read (Elt F) X) cw cb k⟩] := by
  unfold trip_k0_t1
  dsimp only
  sl_unfold_words
  rfl

/-- Trip `k` of the scans stores its two chunks' states and yields the last state of each. -/
theorem trip2_pieces (𝒱 : Variants) (c : Dev nD) (bd : Option 𝒱.V) (i : grid0.Coords) (arg2 : Memref sig .tc .vmem S256x128 .f32) (harg2 : arg2.IsWhole) (arg3 : Memref sig .tc .vmem S256x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S1x2x128 .f32) (harg9 : arg9.IsWhole) (arg10 : Memref sig .tc .vmem S256x128 .f32) (harg10 : arg10.IsWhole) (arg11 : Memref sig .tc .vmem S1x2x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (w : Vec F S1x128x512 .bf16) (gb : Vec F S1x1x512 .f32) (ca : Vec F S2x128 .f32) (X : BufTy.Contents (Elt F) arg12.view.ty) (k : Fin k0_t2_loop.trips) (h : FVec F S1x128 .f32 × FVec F S1x128 .f32) :
    let T := trip_k0_t2 𝒱 c bd i arg2 harg2 arg3 harg3 arg4 harg4 arg5 harg5 arg6 harg6 arg7 harg7 arg8 harg8 arg9 harg9 arg10 harg10 arg11 harg11 arg12 harg12 arg13 harg13 arg14 harg14 (harg6.unread w) (harg7.unread gb) (harg8.unread ca) X k
    let R := arg12.view.read (Elt F) X
    T.1 h = (lastRow (fwdRows R w gb ca k h.1), firstRow (bwdRows R w gb ca k h.2))
    ∧ T.2.1 h = [⟨Rect.unit (s := S256x128) (k0_off4 k) S128x128.size (k0_off4_inb k), k0_pay6 (fwdRows R w gb ca k h.1)⟩]
    ∧ T.2.2.1 h = [⟨Rect.unit (s := S256x128) (k0_off5 k) S128x128.size (k0_off5_inb k), k0_pay6 (bwdRows R w gb ca k h.2)⟩] := by
  have e3 : (![0, 0, 0] : Fin 3 → ℕ) = fun _ => 0 := by funext a; fin_cases a <;> rfl
  dsimp only
  unfold trip_k0_t2
  dsimp only
  sl_unfold_words
  simp only [View.readAt_eq_ld, harg6.read_unread, harg7.read_unread, harg8.read_unread, View.ld_unit_zero (S := S1x128x512) e3, View.ld_unit_zero (S := S1x1x512) e3]
  unfold fwdRows bwdRows fwdChain bwdChain lastRow firstRow k0_pay43 k0_pay5 k0_pay7 k0_pay6 k0_off4 k0_off5
  sl_unfold_words
  dsimp only
  refine ⟨?_, ?_, ?_⟩
  · with_reducible rfl
  · with_reducible rfl
  · with_reducible rfl

/-- Trip `k` of the output stores its chunk of the gated sum of the two scans. -/
theorem trip3_pieces (𝒱 : Variants) (c : Dev nD) (bd : Option 𝒱.V) (i : grid0.Coords) (arg2 : Memref sig .tc .vmem S256x128 .f32) (harg2 : arg2.IsWhole) (arg3 : Memref sig .tc .vmem S256x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S1x2x128 .f32) (harg9 : arg9.IsWhole) (arg10 : Memref sig .tc .vmem S256x128 .f32) (harg10 : arg10.IsWhole) (arg11 : Memref sig .tc .vmem S1x2x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (X3 : BufTy.Contents (Elt F) arg3.view.ty) (X13 : BufTy.Contents (Elt F) arg13.view.ty) (X14 : BufTy.Contents (Elt F) arg14.view.ty) (k : Fin k0_t3_loop.trips) :
    let at6 (X : Vec F S256x128 .f32) : Vec F S128x128 .f32 := View.ld X (Rect.unit (s := S256x128) (k0_off6 k) S128x128.size (k0_off6_inb k))
    (trip_k0_t3 𝒱 c bd i arg2 harg2 arg3 harg3 arg4 harg4 arg5 harg5 arg6 harg6 arg7 harg7 arg8 harg8 arg9 harg9 arg10 harg10 arg11 harg11 arg12 harg12 arg13 harg13 arg14 harg14 X3 X13 X14 k).1
      = [⟨Rect.unit (s := S256x128) (k0_off6 k) S128x128.size (k0_off6_inb k),
          k0_pay9 (at6 (arg13.view.read (Elt F) X13)) (at6 (arg14.view.read (Elt F) X14)) (at6 (arg3.view.read (Elt F) X3))⟩] := by
  unfold trip_k0_t3
  dsimp only
  sl_unfold_words
  rfl

end Cert.Rg

end
-- ==== Proof.RgBlock.lean ====
/-
  What the recurrence kernel's body leaves in its two output blocks, as functions of its input blocks alone.

  Both scans and the output take the two chunks of 128 rows that the convolution stored; what a loop's trips store is read
  back by the next loop chunk by chunk, whatever the scratch buffers held before.
-/
module

public import proofs.«01_k».proof.Proof.RgVal
public import Idealize.ShloMosaic.Lib.Pointwise

@[expose] public section

set_option maxRecDepth 16384

noncomputable section

namespace Cert.Rg

open Idealize.ShloMosaic Idealize.ShloMosaic.TcCoe Idealize.ShloMosaic.Tactic
open Idealize.SL Idealize.ShloMosaic.Pipeline
open Cert.KernelIdeal Cert.KernelIdeal.Gen

variable {F : FTy → Type} [FloatOps F]

/-! ## Two chunks of 128 rows in one array of 256 -/

/-- The array whose first 128 rows are `p` and whose last are `q`. -/
def stitch {α : Type} (p q : S128x128.Idx → α) : S256x128.Idx → α := fun y =>
  if h : (y 0).val < 128 then p (ix2 ⟨(y 0).val, h⟩ (y 1))
  else q (ix2 ⟨(y 0).val - 128, by have := (y 0).isLt; simp at this; omega⟩ (y 1))

/-- The rectangle of the first, and of the last, 128 rows. -/
theorem lo_inb : ∀ a, (![0, 0] : Fin 2 → ℕ) a + S128x128.size a ≤ S256x128.size a := by decide
theorem hi_inb : ∀ a, (![128, 0] : Fin 2 → ℕ) a + S128x128.size a ≤ S256x128.size a := by decide
abbrev lo : Rect S256x128 := Rect.unit (s := S256x128) ![0, 0] S128x128.size lo_inb
abbrev hi : Rect S256x128 := Rect.unit (s := S256x128) ![128, 0] S128x128.size hi_inb

/-- The first rows of a stitched array are its first part. -/
theorem stitch_lo {α : Type} (p q : S128x128.Idx → α) (x : S128x128.Idx) : stitch p q (lo.emb x) = p x := by
  have h : ((lo.emb x) 0).val < 128 := by
    show 0 + 1 * (x 0).val < 128
    have := (x 0).isLt; simp at this; omega
  unfold stitch
  rw [dif_pos h]
  congr 1
  funext a
  match a with
  | ⟨0, _⟩ => exact Fin.ext (by show 0 + 1 * (x 0).val = (x 0).val; omega)
  | ⟨1, _⟩ => exact Fin.ext (by show 0 + 1 * (x 1).val = (x 1).val; omega)

/-- The last rows of a stitched array are its second part. -/
theorem stitch_hi {α : Type} (p q : S128x128.Idx → α) (x : S128x128.Idx) : stitch p q (hi.emb x) = q x := by
  have h : ¬ ((hi.emb x) 0).val < 128 := by
    show ¬ 128 + 1 * (x 0).val < 128
    omega
  unfold stitch
  rw [dif_neg h]
  congr 1
  funext a
  match a with
  | ⟨0, _⟩ => exact Fin.ext (by show 128 + 1 * (x 0).val - 128 = (x 0).val; omega)
  | ⟨1, _⟩ => exact Fin.ext (by show 0 + 1 * (x 1).val = (x 1).val; omega)

/-- Two stores that cover both halves, in either order, leave the stitched array. -/
theorem read_halves {κ : Kind} {sp : Space} {e : EltTy} [∀ e, Nonempty (Elt F e)] (v : View sig κ sp S256x128 e) (f : v.ty.Contents (Elt F)) (p q : Vec F S128x128 e) :
    v.read (Elt F) (v.writes (Elt F) f [⟨hi, q⟩, ⟨lo, p⟩]) = stitch p q
    ∧ v.read (Elt F) (v.writes (Elt F) f [⟨lo, p⟩, ⟨hi, q⟩]) = stitch p q := by
  have c1 : ∀ y : S256x128.Idx, ∃ pc ∈ ([⟨hi, q⟩, ⟨lo, p⟩] : List (View.Piece (Elt F) S256x128 e)), y ∈ pc.1.set := fun y =>
    View.cover_of_tiledL ([⟨hi, q⟩, ⟨lo, p⟩] : List (View.Piece (Elt F) S256x128 e)) S128x128.size (by sl_kernel_rfl) y
  have c2 : ∀ y : S256x128.Idx, ∃ pc ∈ ([⟨lo, p⟩, ⟨hi, q⟩] : List (View.Piece (Elt F) S256x128 e)), y ∈ pc.1.set := fun y =>
    View.cover_of_tiledL ([⟨lo, p⟩, ⟨hi, q⟩] : List (View.Piece (Elt F) S256x128 e)) S128x128.size (by sl_kernel_rfl) y
  refine ⟨?_, ?_⟩
  · rw [View.read_writes_eq_canon _ _ _ c1]
    funext y
    refine View.canon_apply_of_pieces (stitch p q) _ ?_ y (c1 y)
    intro pc hpc x
    rcases List.mem_cons.mp hpc with rfl | hpc
    · exact (stitch_hi p q x).symm
    · rcases List.mem_cons.mp hpc with rfl | hpc
      · exact (stitch_lo p q x).symm
      · simp at hpc
  · rw [View.read_writes_eq_canon _ _ _ c2]
    funext y
    refine View.canon_apply_of_pieces (stitch p q) _ ?_ y (c2 y)
    intro pc hpc x
    rcases List.mem_cons.mp hpc with rfl | hpc
    · exact (stitch_lo p q x).symm
    · rcases List.mem_cons.mp hpc with rfl | hpc
      · exact (stitch_hi p q x).symm
      · simp at hpc

/-- Reading a half of a stitched array. -/
theorem ld_lo {e : EltTy} (p q : Vec F S128x128 e) : View.ld (stitch p q) lo = p := funext fun x => stitch_lo p q x
theorem ld_hi {e : EltTy} (p q : Vec F S128x128 e) : View.ld (stitch p q) hi = q := funext fun x => stitch_hi p q x

/-- Each loop has a trip 0 and a trip 1. -/
theorem z1 : 0 < k0_t1_loop.trips := by decide
theorem u1 : 1 < k0_t1_loop.trips := by decide
theorem z2 : 0 < k0_t2_loop.trips := by decide
theorem u2 : 1 < k0_t2_loop.trips := by decide
theorem z3 : 0 < k0_t3_loop.trips := by decide
theorem u3 : 1 < k0_t3_loop.trips := by decide

/-! ## The two output blocks -/

/-- The states of one chunk of the forward scan, from the convolved rows `x` and the state `h` before them. -/
def fwdOf (x : Vec F S128x128 .f32) (w : Vec F S1x128x512 .bf16) (gb : Vec F S1x1x512 .f32) (ca : Vec F S2x128 .f32) (h : FVec F S1x128 .f32) : FVec F S128x128 .f32 :=
  let c : Vec F S1x128 .f32 := View.ld ca (Rect.unit (s := S2x128) ![0, 0] S1x128.size inb_S2x128_S1x128_0_0)
  fwdChain (k0_pay19 x w gb c) (k0_pay20 x w gb c) h

/-- The states of one chunk of the backward scan, from the convolved rows `x` and the state `h` after them. -/
def bwdOf (x : Vec F S128x128 .f32) (w : Vec F S1x128x512 .bf16) (gb : Vec F S1x1x512 .f32) (ca : Vec F S2x128 .f32) (h : FVec F S1x128 .f32) : FVec F S128x128 .f32 :=
  let c : Vec F S1x128 .f32 := View.ld ca (Rect.unit (s := S2x128) ![1, 0] S1x128.size inb_S2x128_S1x128_1_0)
  bwdChain (k0_pay23 (k0_pay21 x w) gb c) (k0_pay24 x (k0_pay21 x w) gb c) h

/-- What the body reads: its eight input blocks. -/
structure Blocks (F : FTy → Type) where
  x : Vec F S256x128 .f32
  gate : Vec F S256x128 .f32
  cw : Vec F S4x128 .f32
  cb : Vec F S1x128 .f32
  w : Vec F S1x128x512 .bf16
  gb : Vec F S1x1x512 .f32
  ca : Vec F S2x128 .f32
  h0 : Vec F S1x2x128 .f32

/-- The convolution of the first chunk, and of the last. -/
def convLo (b : Blocks F) : FVec F S128x128 .f32 := convRows b.x b.cw b.cb ⟨0, z1⟩
def convHi (b : Blocks F) : FVec F S128x128 .f32 := convRows b.x b.cw b.cb ⟨1, u1⟩

/-- The states of the forward scan, first chunk then last. -/
def fwdLo (b : Blocks F) : FVec F S128x128 .f32 := fwdOf (convLo b) b.w b.gb b.ca (k0_pay2 b.h0)
def fwdHi (b : Blocks F) : FVec F S128x128 .f32 := fwdOf (convHi b) b.w b.gb b.ca (lastRow (fwdLo b))

/-- The states of the backward scan, last chunk then first. -/
def bwdHi (b : Blocks F) : FVec F S128x128 .f32 := bwdOf (convHi b) b.w b.gb b.ca (k0_pay3 b.h0)
def bwdLo (b : Blocks F) : FVec F S128x128 .f32 := bwdOf (convLo b) b.w b.gb b.ca (firstRow (bwdHi b))

/-- The gated output block. -/
def yBlock (b : Blocks F) : Vec F S256x128 .f32 :=
  stitch (k0_pay9 (k0_pay6 (fwdLo b)) (k0_pay6 (bwdLo b)) (View.ld b.gate lo)) (k0_pay9 (k0_pay6 (fwdHi b)) (k0_pay6 (bwdHi b)) (View.ld b.gate hi))

/-- The block of final states: the forward scan's last row, the backward scan's first. -/
def hBlock (b : Blocks F) : Vec F S1x2x128 .f32 := k0_pay8 (lastRow (fwdHi b)) (firstRow (bwdLo b))

/-! ## The loops' stores -/

theorem trips1 : k0_t1_loop.trips = 2 := by decide
theorem trips2 : k0_t2_loop.trips = 2 := by decide
theorem trips3 : k0_t3_loop.trips = 2 := by decide

/-- A piece at an offset equal to another is the piece there. -/
theorem piece_eq {e : EltTy} {o o' : Fin 2 → ℕ} (h : o = o') (i : ∀ a, o a + S128x128.size a ≤ S256x128.size a) (i' : ∀ a, o' a + S128x128.size a ≤ S256x128.size a) (v : Vec F S128x128 e) :
    (⟨Rect.unit (s := S256x128) o S128x128.size i, v⟩ : View.Piece (Elt F) S256x128 e) = ⟨Rect.unit (s := S256x128) o' S128x128.size i', v⟩ := by
  subst h; rfl

/-- A load at an offset equal to another is the load there. -/
theorem ld_eq {e : EltTy} {o o' : Fin 2 → ℕ} (h : o = o') (i : ∀ a, o a + S128x128.size a ≤ S256x128.size a) (i' : ∀ a, o' a + S128x128.size a ≤ S256x128.size a) (X : Vec F S256x128 e) :
    (View.ld X (Rect.unit (s := S256x128) o S128x128.size i) : Vec F S128x128 e) = View.ld X (Rect.unit (s := S256x128) o' S128x128.size i') := by
  subst h; rfl

theorem o1_0 : k0_off1 ⟨0, z1⟩ = ![0, 0] := by decide
theorem o1_1 : k0_off1 ⟨1, u1⟩ = ![128, 0] := by decide
theorem o4_0 : k0_off4 ⟨0, z2⟩ = ![0, 0] := by decide
theorem o4_1 : k0_off4 ⟨1, u2⟩ = ![128, 0] := by decide
theorem o5_0 : k0_off5 ⟨0, z2⟩ = ![128, 0] := by decide
theorem o5_1 : k0_off5 ⟨1, u2⟩ = ![0, 0] := by decide
theorem o6_0 : k0_off6 ⟨0, z3⟩ = ![0, 0] := by decide
theorem o6_1 : k0_off6 ⟨1, u3⟩ = ![128, 0] := by decide

section
variable (𝒱 : Variants) (c : Dev nD) (bd : Option 𝒱.V) (i : grid0.Coords)
  (arg2 : Memref sig .tc .vmem S256x128 .f32) (harg2 : arg2.IsWhole)
  (arg3 : Memref sig .tc .vmem S256x128 .f32) (harg3 : arg3.IsWhole)
  (arg4 : Memref sig .tc .vmem S4x128 .f32) (harg4 : arg4.IsWhole)
  (arg5 : Memref sig .tc .vmem S1x128 .f32) (harg5 : arg5.IsWhole)
  (arg6 : Memref sig .tc .vmem S1x128x512 .bf16) (harg6 : arg6.IsWhole)
  (arg7 : Memref sig .tc .vmem S1x1x512 .f32) (harg7 : arg7.IsWhole)
  (arg8 : Memref sig .tc .vmem S2x128 .f32) (harg8 : arg8.IsWhole)
  (arg9 : Memref sig .tc .vmem S1x2x128 .f32) (harg9 : arg9.IsWhole)
  (arg10 : Memref sig .tc .vmem S256x128 .f32) (harg10 : arg10.IsWhole)
  (arg11 : Memref sig .tc .vmem S1x2x128 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S256x128 .f32) (harg14 : arg14.IsWhole)

/-- The convolution's stores, read back. -/
theorem conv_read (cw : Vec F S4x128 .f32) (cb : Vec F S1x128 .f32) (X : BufTy.Contents (Elt F) arg2.view.ty) (f : arg12.view.ty.Contents (Elt F)) :
    arg12.view.read (Elt F) (arg12.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 rows cw cb X k0_t1_loop.trips))
      = stitch (convRows (arg2.view.read (Elt F) X) cw cb ⟨0, z1⟩) (convRows (arg2.view.read (Elt F) X) cw cb ⟨1, u1⟩) := by
  have e : pb_k0_t1 𝒱 c bd i arg2 harg2 arg3 harg3 arg4 harg4 arg5 harg5 arg6 harg6 arg7 harg7 arg8 harg8 arg9 harg9 arg10 harg10 arg11 harg11 arg12 harg12 arg13 harg13 arg14 harg14 rows cw cb X k0_t1_loop.trips
      = [⟨hi, convRows (arg2.view.read (Elt F) X) cw cb ⟨1, u1⟩⟩, ⟨lo, convRows (arg2.view.read (Elt F) X) cw cb ⟨0, z1⟩⟩] := by
    refine (congrArg (pb_k0_t1 𝒱 c bd i arg2 harg2 arg3 harg3 arg4 harg4 arg5 harg5 arg6 harg6 arg7 harg7 arg8 harg8 arg9 harg9 arg10 harg10 arg11 harg11 arg12 harg12 arg13 harg13 arg14 harg14 rows cw cb X) (trips1 : _ = (⟨1, u1⟩ : Fin k0_t1_loop.trips).val + 1)).trans ((pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 rows cw cb X ⟨1, u1⟩).trans ?_)
    refine congrArg₂ (· ++ ·) ((trip1_pieces 𝒱 c bd i arg2 harg2 arg3 harg3 arg4 harg4 arg5 harg5 arg6 harg6 arg7 harg7 arg8 harg8 arg9 harg9 arg10 harg10 arg11 harg11 arg12 harg12 arg13 harg13 arg14 harg14 cw cb X ⟨1, u1⟩).trans (congrArg (· :: []) ?_)) ((pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 rows cw cb X ⟨0, z1⟩).trans
      (congrArg₂ (· ++ ·) ((trip1_pieces 𝒱 c bd i arg2 harg2 arg3 harg3 arg4 harg4 arg5 harg5 arg6 harg6 arg7 harg7 arg8 harg8 arg9 harg9 arg10 harg10 arg11 harg11 arg12 harg12 arg13 harg13 arg14 harg14 cw cb X ⟨0, z1⟩).trans (congrArg (· :: []) ?_)) rfl))
    · exact piece_eq (F := F) (e := .f32) o1_1 _ hi_inb _
    · exact piece_eq (F := F) (e := .f32) o1_0 _ lo_inb _
  rw [e]
  exact (read_halves _ _ _ _).1

/-- The scans' loop, from convolved rows `p`, `q` in the scratch and states `h`: what it yields, and what its stores
    leave, read back. -/
theorem scan_read (w : Vec F S1x128x512 .bf16) (gb : Vec F S1x1x512 .f32) (ca : Vec F S2x128 .f32) (X : BufTy.Contents (Elt F) arg12.view.ty)
    (p q : Vec F S128x128 .f32) (hX : arg12.view.read (Elt F) X = stitch p q) (h h' : FVec F S1x128 .f32)
    (f : arg13.view.ty.Contents (Elt F)) (f' : arg14.view.ty.Contents (Elt F)) :
    let T := st_k0_t2 𝒱 c bd i arg2 harg2 arg3 harg3 arg4 harg4 arg5 harg5 arg6 harg6 arg7 harg7 arg8 harg8 arg9 harg9 arg10 harg10 arg11 harg11 arg12 harg12 arg13 harg13 arg14 harg14 (harg6.unread w) (harg7.unread gb) (harg8.unread ca) X (h, h') k0_t2_loop.trips
    let F0 := fwdOf p w gb ca h
    let F1 := fwdOf q w gb ca (lastRow F0)
    let B1 := bwdOf q w gb ca h'
    let B0 := bwdOf p w gb ca (firstRow B1)
    T.1 = (lastRow F1, firstRow B0)
    ∧ arg13.view.read (Elt F) (arg13.view.writes (Elt F) f T.2.1) = stitch (k0_pay6 F0) (k0_pay6 F1)
    ∧ arg14.view.read (Elt F) (arg14.view.writes (Elt F) f' T.2.2) = stitch (k0_pay6 B0) (k0_pay6 B1) := by
  intro T F0 F1 B1 B0
  have f0 : ∀ h, fwdRows (arg12.view.read (Elt F) X) w gb ca ⟨0, z2⟩ h = fwdOf p w gb ca h := fun h => by
    unfold fwdRows fwdOf; rw [hX]; dsimp only; rw [ld_eq o4_0 _ lo_inb, ld_lo]
  have f1 : ∀ h, fwdRows (arg12.view.read (Elt F) X) w gb ca ⟨1, u2⟩ h = fwdOf q w gb ca h := fun h => by
    unfold fwdRows fwdOf; rw [hX]; dsimp only; rw [ld_eq o4_1 _ hi_inb, ld_hi]
  have b0 : ∀ h, bwdRows (arg12.view.read (Elt F) X) w gb ca ⟨0, z2⟩ h = bwdOf q w gb ca h := fun h => by
    unfold bwdRows bwdOf; rw [hX]; dsimp only; rw [ld_eq o5_0 _ hi_inb, ld_hi]
  have b1 : ∀ h, bwdRows (arg12.view.read (Elt F) X) w gb ca ⟨1, u2⟩ h = bwdOf p w gb ca h := fun h => by
    unfold bwdRows bwdOf; rw [hX]; dsimp only; rw [ld_eq o5_1 _ lo_inb, ld_lo]
  have ⟨ta, tb, tc⟩ : _ ∧ _ ∧ _ := trip2_pieces 𝒱 c bd i arg2 harg2 arg3 harg3 arg4 harg4 arg5 harg5 arg6 harg6 arg7 harg7 arg8 harg8 arg9 harg9 arg10 harg10 arg11 harg11 arg12 harg12 arg13 harg13 arg14 harg14 w gb ca X ⟨0, z2⟩ (h, h')
  have ⟨sa, sb, sc⟩ : _ ∧ _ ∧ _ := trip2_pieces 𝒱 c bd i arg2 harg2 arg3 harg3 arg4 harg4 arg5 harg5 arg6 harg6 arg7 harg7 arg8 harg8 arg9 harg9 arg10 harg10 arg11 harg11 arg12 harg12 arg13 harg13 arg14 harg14 w gb ca X ⟨1, u2⟩ (lastRow F0, firstRow B1)
  rw [f0, b0] at ta
  rw [f0] at tb
  rw [b0] at tc
  rw [f1, b1] at sa
  rw [f1] at sb
  rw [b1] at sc
  have e1 : st_k0_t2 𝒱 c bd i arg2 harg2 arg3 harg3 arg4 harg4 arg5 harg5 arg6 harg6 arg7 harg7 arg8 harg8 arg9 harg9 arg10 harg10 arg11 harg11 arg12 harg12 arg13 harg13 arg14 harg14 (harg6.unread w) (harg7.unread gb) (harg8.unread ca) X (h, h') (⟨1, u2⟩ : Fin k0_t2_loop.trips).val = ((lastRow F0, firstRow B1), [⟨lo, k0_pay6 F0⟩], [⟨hi, k0_pay6 B1⟩]) := by
    refine (st_k0_t2_succ 𝒱 c bd i arg2 harg2 arg3 harg3 arg4 harg4 arg5 harg5 arg6 harg6 arg7 harg7 arg8 harg8 arg9 harg9 arg10 harg10 arg11 harg11 arg12 harg12 arg13 harg13 arg14 harg14 (harg6.unread w) (harg7.unread gb) (harg8.unread ca) X (h, h') ⟨0, z2⟩).trans (Prod.ext ta (Prod.ext ?_ ?_))
    · exact congrArg₂ (· ++ ·) (tb.trans (congrArg (· :: []) (piece_eq (F := F) (e := .f32) o4_0 _ lo_inb _))) rfl
    · exact congrArg₂ (· ++ ·) (tc.trans (congrArg (· :: []) (piece_eq (F := F) (e := .f32) o5_0 _ hi_inb _))) rfl
  have e : T = ((lastRow F1, firstRow B0), [⟨hi, k0_pay6 F1⟩, ⟨lo, k0_pay6 F0⟩], [⟨lo, k0_pay6 B0⟩, ⟨hi, k0_pay6 B1⟩]) := by
    refine (congrArg (st_k0_t2 𝒱 c bd i arg2 harg2 arg3 harg3 arg4 harg4 arg5 harg5 arg6 harg6 arg7 harg7 arg8 harg8 arg9 harg9 arg10 harg10 arg11 harg11 arg12 harg12 arg13 harg13 arg14 harg14 (harg6.unread w) (harg7.unread gb) (harg8.unread ca) X (h, h')) (trips2 : _ = (⟨1, u2⟩ : Fin k0_t2_loop.trips).val + 1)).trans
      ((st_k0_t2_succ 𝒱 c bd i arg2 harg2 arg3 harg3 arg4 harg4 arg5 harg5 arg6 harg6 arg7 harg7 arg8 harg8 arg9 harg9 arg10 harg10 arg11 harg11 arg12 harg12 arg13 harg13 arg14 harg14 (harg6.unread w) (harg7.unread gb) (harg8.unread ca) X (h, h') ⟨1, u2⟩).trans ?_)
    rw [e1]
    refine Prod.ext sa (Prod.ext ?_ ?_)
    · exact congrArg₂ (· ++ ·) (sb.trans (congrArg (· :: []) (piece_eq (F := F) (e := .f32) o4_1 _ hi_inb _))) rfl
    · exact congrArg₂ (· ++ ·) (sc.trans (congrArg (· :: []) (piece_eq (F := F) (e := .f32) o5_1 _ lo_inb _))) rfl
  rw [e]
  exact ⟨rfl, (read_halves _ _ _ _).1, (read_halves _ _ _ _).2⟩

/-- The output's stores, read back. -/
theorem out_read (X3 : BufTy.Contents (Elt F) arg3.view.ty) (X13 : BufTy.Contents (Elt F) arg13.view.ty) (X14 : BufTy.Contents (Elt F) arg14.view.ty) (p q p' q' : Vec F S128x128 .f32)
    (h13 : arg13.view.read (Elt F) X13 = stitch p q) (h14 : arg14.view.read (Elt F) X14 = stitch p' q') (f : arg10.view.ty.Contents (Elt F)) :
    arg10.view.read (Elt F) (arg10.view.writes (Elt F) f (pb_k0_t3 𝒱 c bd i arg2 harg2 arg3 harg3 arg4 harg4 arg5 harg5 arg6 harg6 arg7 harg7 arg8 harg8 arg9 harg9 arg10 harg10 arg11 harg11 arg12 harg12 arg13 harg13 arg14 harg14 X3 X13 X14 k0_t3_loop.trips))
      = stitch (k0_pay9 p p' (View.ld (arg3.view.read (Elt F) X3) lo)) (k0_pay9 q q' (View.ld (arg3.view.read (Elt F) X3) hi)) := by
  have e : pb_k0_t3 𝒱 c bd i arg2 harg2 arg3 harg3 arg4 harg4 arg5 harg5 arg6 harg6 arg7 harg7 arg8 harg8 arg9 harg9 arg10 harg10 arg11 harg11 arg12 harg12 arg13 harg13 arg14 harg14 X3 X13 X14 k0_t3_loop.trips
      = [⟨hi, k0_pay9 q q' (View.ld (arg3.view.read (Elt F) X3) hi)⟩, ⟨lo, k0_pay9 p p' (View.ld (arg3.view.read (Elt F) X3) lo)⟩] := by
    refine (congrArg (pb_k0_t3 𝒱 c bd i arg2 harg2 arg3 harg3 arg4 harg4 arg5 harg5 arg6 harg6 arg7 harg7 arg8 harg8 arg9 harg9 arg10 harg10 arg11 harg11 arg12 harg12 arg13 harg13 arg14 harg14 X3 X13 X14) (trips3 : _ = (⟨1, u3⟩ : Fin k0_t3_loop.trips).val + 1)).trans ((pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 X3 X13 X14 ⟨1, u3⟩).trans ?_)
    refine congrArg₂ (· ++ ·) ((trip3_pieces 𝒱 c bd i arg2 harg2 arg3 harg3 arg4 harg4 arg5 harg5 arg6 harg6 arg7 harg7 arg8 harg8 arg9 harg9 arg10 harg10 arg11 harg11 arg12 harg12 arg13 harg13 arg14 harg14 X3 X13 X14 ⟨1, u3⟩).trans (congrArg (· :: []) ?_)) ((pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 X3 X13 X14 ⟨0, z3⟩).trans
      (congrArg₂ (· ++ ·) ((trip3_pieces 𝒱 c bd i arg2 harg2 arg3 harg3 arg4 harg4 arg5 harg5 arg6 harg6 arg7 harg7 arg8 harg8 arg9 harg9 arg10 harg10 arg11 harg11 arg12 harg12 arg13 harg13 arg14 harg14 X3 X13 X14 ⟨0, z3⟩).trans (congrArg (· :: []) ?_)) rfl))
    · rw [h13, h14]
      beta_reduce
      rw [ld_eq (F := F) (e := .f32) o6_1 _ hi_inb, ld_eq (F := F) (e := .f32) o6_1 _ hi_inb, ld_eq (F := F) (e := .f32) o6_1 _ hi_inb, ld_hi, ld_hi]
      exact piece_eq (F := F) (e := .f32) o6_1 _ hi_inb _
    · rw [h13, h14]
      beta_reduce
      rw [ld_eq (F := F) (e := .f32) o6_0 _ lo_inb, ld_eq (F := F) (e := .f32) o6_0 _ lo_inb, ld_eq (F := F) (e := .f32) o6_0 _ lo_inb, ld_lo, ld_lo]
      exact piece_eq (F := F) (e := .f32) o6_0 _ lo_inb _
  rw [e]
  exact (read_halves _ _ _ _).1

/-- The two output blocks: what the three loops leave in the output buffer and what the scans yield. -/
theorem all_read (b : Blocks F) (C4 : Vec F S4x128 .f32) (h4 : C4 = b.cw) (C5 : Vec F S1x128 .f32) (h5 : C5 = b.cb) (H : Vec F S1x2x128 .f32) (hH : H = b.h0)
    (f8 : arg10.view.ty.Contents (Elt F)) (fs0 : arg12.view.ty.Contents (Elt F)) (fs1 : arg13.view.ty.Contents (Elt F)) (fs2 : arg14.view.ty.Contents (Elt F)) :
    let T := st_k0_t2 𝒱 c bd i arg2 harg2 arg3 harg3 arg4 harg4 arg5 harg5 arg6 harg6 arg7 harg7 arg8 harg8 arg9 harg9 arg10 harg10 arg11 harg11 arg12 harg12 arg13 harg13 arg14 harg14 (harg6.unread b.w) (harg7.unread b.gb) (harg8.unread b.ca)
      (arg12.view.writes (Elt F) fs0 (pb_k0_t1 𝒱 c bd i arg2 harg2 arg3 harg3 arg4 harg4 arg5 harg5 arg6 harg6 arg7 harg7 arg8 harg8 arg9 harg9 arg10 harg10 arg11 harg11 arg12 harg12 arg13 harg13 arg14 harg14 rows C4 C5 (harg2.unread b.x) k0_t1_loop.trips)) (k0_pay2 H, k0_pay3 H) k0_t2_loop.trips
    T.1 = (lastRow (fwdHi b), firstRow (bwdLo b))
    ∧ arg10.view.read (Elt F) (arg10.view.writes (Elt F) f8 (pb_k0_t3 𝒱 c bd i arg2 harg2 arg3 harg3 arg4 harg4 arg5 harg5 arg6 harg6 arg7 harg7 arg8 harg8 arg9 harg9 arg10 harg10 arg11 harg11 arg12 harg12 arg13 harg13 arg14 harg14 (harg3.unread b.gate)
        (arg13.view.writes (Elt F) fs1 T.2.1) (arg14.view.writes (Elt F) fs2 T.2.2) k0_t3_loop.trips)) = yBlock b := by
  subst h4; subst h5; subst hH
  intro T
  have hc := conv_read 𝒱 c bd i arg2 harg2 arg3 harg3 arg4 harg4 arg5 harg5 arg6 harg6 arg7 harg7 arg8 harg8 arg9 harg9 arg10 harg10 arg11 harg11 arg12 harg12 arg13 harg13 arg14 harg14 b.cw b.cb (harg2.unread b.x) fs0
  rw [harg2.read_unread] at hc
  have ⟨e1, e2, e3⟩ : _ ∧ _ ∧ _ := scan_read 𝒱 c bd i arg2 harg2 arg3 harg3 arg4 harg4 arg5 harg5 arg6 harg6 arg7 harg7 arg8 harg8 arg9 harg9 arg10 harg10 arg11 harg11 arg12 harg12 arg13 harg13 arg14 harg14 b.w b.gb b.ca _ _ _ hc (k0_pay2 b.h0) (k0_pay3 b.h0) fs1 fs2
  refine ⟨e1, ?_⟩
  refine (out_read 𝒱 c bd i arg2 harg2 arg3 harg3 arg4 harg4 arg5 harg5 arg6 harg6 arg7 harg7 arg8 harg8 arg9 harg9 arg10 harg10 arg11 harg11 arg12 harg12 arg13 harg13 arg14 harg14 (harg3.unread b.gate) _ _ _ _ _ _ e2 e3 f8).trans ?_
  rw [harg3.read_unread]
  rfl

end

end Cert.Rg

end
-- ==== Proof.RgRun.lean ====
/-
  The recurrence kernel's run at every grid point, and the frame.

  At each point the body leaves `yBlock` and `hBlock` of the point's input blocks in its two output buffers and gives its
  scratch buffers back at some contents; the run of the whole launch and the frame follow.
-/
module

public import proofs.«01_k».proof.Proof.RgBlock
public import Idealize.ShloMosaic.Lib.Claim

@[expose] public section

set_option maxRecDepth 16384

noncomputable section

namespace Cert.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body on whole buffers holding `b`: it ends with the inputs as they were and the outputs at their blocks. -/
theorem body_run (c : Dev nD) (i : grid0.Coords)
  (arg2 : Memref sig .tc .vmem S256x128 .f32) (harg2 : arg2.IsWhole)
  (arg3 : Memref sig .tc .vmem S256x128 .f32) (harg3 : arg3.IsWhole)
  (arg4 : Memref sig .tc .vmem S4x128 .f32) (harg4 : arg4.IsWhole)
  (arg5 : Memref sig .tc .vmem S1x128 .f32) (harg5 : arg5.IsWhole)
  (arg6 : Memref sig .tc .vmem S1x128x512 .bf16) (harg6 : arg6.IsWhole)
  (arg7 : Memref sig .tc .vmem S1x1x512 .f32) (harg7 : arg7.IsWhole)
  (arg8 : Memref sig .tc .vmem S2x128 .f32) (harg8 : arg8.IsWhole)
  (arg9 : Memref sig .tc .vmem S1x2x128 .f32) (harg9 : arg9.IsWhole)
  (arg10 : Memref sig .tc .vmem S256x128 .f32) (harg10 : arg10.IsWhole)
  (arg11 : Memref sig .tc .vmem S1x2x128 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S256x128 .f32) (harg14 : arg14.IsWhole)
    (b : Blocks F) (E : Set ℕ) (K : PUnit → sProp 𝕄) :
    iprop(owns (c : Thread nD τ) arg2 fullShare b.x ∗ owns (c : Thread nD τ) arg3 fullShare b.gate ∗ owns (c : Thread nD τ) arg4 fullShare b.cw ∗ owns (c : Thread nD τ) arg5 fullShare b.cb ∗ owns (c : Thread nD τ) arg6 fullShare b.w ∗ owns (c : Thread nD τ) arg7 fullShare b.gb ∗ owns (c : Thread nD τ) arg8 fullShare b.ca ∗ owns (c : Thread nD τ) arg9 fullShare b.h0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare b.x ∗ owns (c : Thread nD τ) arg3 fullShare b.gate ∗ owns (c : Thread nD τ) arg4 fullShare b.cw ∗ owns (c : Thread nD τ) arg5 fullShare b.cb ∗ owns (c : Thread nD τ) arg6 fullShare b.w ∗ owns (c : Thread nD τ) arg7 fullShare b.gb ∗ owns (c : Thread nD τ) arg8 fullShare b.ca ∗ owns (c : Thread nD τ) arg9 fullShare b.h0 ∗ owns (c : Thread nD τ) arg10 fullShare (yBlock b) ∗ owns (c : Thread nD τ) arg11 fullShare (hBlock b) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14) K := by
  simp only [cc0_rglru_eq_skeleton]; unfold cc0_rglru_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  have z2 : (![0, 0] : Fin 2 → ℕ) = fun _ => 0 := by funext a; fin_cases a <;> rfl
  have z3 : (![0, 0, 0] : Fin 3 → ℕ) = fun _ => 0 := by funext a; fin_cases a <;> rfl
  have e4 : View.readAt (Elt F) arg4.view (Rect.unit ![0, 0] S4x128.size inb_S4x128_S4x128_0_0).toLoadRect (harg4.unread b.cw) = b.cw := by
    rw [View.readAt_eq_ld, harg4.read_unread]; exact View.ld_unit_zero (S := S4x128) z2 _ _
  have e5 : View.readAt (Elt F) arg5.view (Rect.unit ![0, 0] S1x128.size inb_S1x128_S1x128_0_0).toLoadRect (harg5.unread b.cb) = b.cb := by
    rw [View.readAt_eq_ld, harg5.read_unread]; exact View.ld_unit_zero (S := S1x128) z2 _ _
  have e9 : View.readAt (Elt F) arg9.view (Rect.unit ![0, 0, 0] S1x2x128.size inb_S1x2x128_S1x2x128_0_0_0).toLoadRect (harg9.unread b.h0) = b.h0 := by
    rw [View.readAt_eq_ld, harg9.read_unread]; exact View.ld_unit_zero (S := S1x2x128) z3 _ _
  sl_exec
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap; · iexact H8
    ipureintro
    exact (all_read Variants.none c none i arg2 harg2 arg3 harg3 arg4 harg4 arg5 harg5 arg6 harg6 arg7 harg7 arg8 harg8 arg9 harg9 arg10 harg10 arg11 harg11 arg12 harg12 arg13 harg13 arg14 harg14 b b.cw rfl b.cb rfl b.h0 rfl f8 fs0 fs1 fs2).2
  isplitl [H9]
  · iexists _; isplitr
    swap; · iexact H9
    ipureintro
    have e : body_run.sl.H9_1 c i arg2 harg2 arg3 harg3 arg4 harg4 arg5 harg5 arg6 harg6 arg7 harg7 arg8 harg8 arg9 harg9 arg10 harg10 arg11 harg11 arg12 harg12 arg13 harg13 arg14 harg14 b fs0 = [⟨Rect.unit (s := S1x2x128) ![0, 0, 0] S1x2x128.size inb_S1x2x128_S1x2x128_0_0_0, hBlock b⟩] := by
      unfold body_run.sl.H9_1
      sl_unfold_words
      have a := (all_read Variants.none c none i arg2 harg2 arg3 harg3 arg4 harg4 arg5 harg5 arg6 harg6 arg7 harg7 arg8 harg8 arg9 harg9 arg10 harg10 arg11 harg11 arg12 harg12 arg13 harg13 arg14 harg14 b b.cw rfl b.cb rfl b.h0 rfl f8 fs0 fs1 fs2).1
      exact congrArg (fun T : FVec F S1x128 .f32 × FVec F S1x128 .f32 => ([⟨Rect.unit (s := S1x2x128) ![0, 0, 0] S1x2x128.size inb_S1x2x128_S1x2x128_0_0_0, k0_pay8 T.1 T.2⟩] : List (View.Piece (Elt F) S1x2x128 .f32))) a
    rw [e, View.read_writes_eq_canon _ _ _ (fun y => ⟨_, List.mem_singleton_self _, View.mem_set_unit_zero (S := S1x2x128) z3 inb_S1x2x128_S1x2x128_0_0_0 y⟩)]
    exact View.canon_unit_zero (S := S1x2x128) z3 inb_S1x2x128_S1x2x128_0_0_0 _
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Rg

end
-- ==== Proof.RgFrame.lean ====
/-
  The recurrence kernel's launch: the proof data of its pipeline, the run, the frame, and its final arrays.
-/
module

public import proofs.«01_k».proof.Proof.RgRun
public import Idealize.ShloMosaic.Lib.Claim

@[expose] public section

set_option maxRecDepth 16384

noncomputable section

namespace Cert.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of point `t`. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- The pipeline's proof data: inputs keep their blocks, the outputs end at the blocks the body computes. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yBlock (blocksAt m c t)
    | ⟨9, _⟩ => hBlock (blocksAt m c t)
  Φ _ := Pipeline.ΦA spec0 c
  q w := Pipeline.shareOf spec0 w
  owed _ := 0

/-- The arrays the data starts from are those the launch finds. -/
theorem entry (c : Dev nD) (w : Fin cfg0.W) : (dat m 0 c).A w = V m c (Pipeline.arrRef spec0 w) := by
  dsimp only [dat]

theorem aft0 (c : Dev nD) (t : Fin cfg0.N) : (dat m 0 c).after 0 t = iblk m c 0 t := by dsimp only [dat]
theorem aft1 (c : Dev nD) (t : Fin cfg0.N) : (dat m 0 c).after 1 t = iblk m c 1 t := by dsimp only [dat]
theorem aft2 (c : Dev nD) (t : Fin cfg0.N) : (dat m 0 c).after 2 t = iblk m c 2 t := by dsimp only [dat]
theorem aft3 (c : Dev nD) (t : Fin cfg0.N) : (dat m 0 c).after 3 t = iblk m c 3 t := by dsimp only [dat]
theorem aft4 (c : Dev nD) (t : Fin cfg0.N) : (dat m 0 c).after 4 t = iblk m c 4 t := by dsimp only [dat]
theorem aft5 (c : Dev nD) (t : Fin cfg0.N) : (dat m 0 c).after 5 t = iblk m c 5 t := by dsimp only [dat]
theorem aft6 (c : Dev nD) (t : Fin cfg0.N) : (dat m 0 c).after 6 t = iblk m c 6 t := by dsimp only [dat]
theorem aft7 (c : Dev nD) (t : Fin cfg0.N) : (dat m 0 c).after 7 t = iblk m c 7 t := by dsimp only [dat]
theorem aft8 (c : Dev nD) (t : Fin cfg0.N) : (dat m 0 c).after 8 t = yBlock (blocksAt m c t) := by dsimp only [dat]
theorem aft9 (c : Dev nD) (t : Fin cfg0.N) : (dat m 0 c).after 9 t = hBlock (blocksAt m c t) := by dsimp only [dat]
theorem bef0 (c : Dev nD) (t : Fin cfg0.N) (d) : (dat m 0 c).before 0 t d = iblk m c 0 t :=
  before0_0_of m (dat m 0 c) (entry m c 0) (aft0 m c) t d
theorem bef1 (c : Dev nD) (t : Fin cfg0.N) (d) : (dat m 0 c).before 1 t d = iblk m c 1 t :=
  before0_1_of m (dat m 0 c) (entry m c 1) (aft1 m c) t d
theorem bef2 (c : Dev nD) (t : Fin cfg0.N) (d) : (dat m 0 c).before 2 t d = iblk m c 2 t :=
  before0_2_of m (dat m 0 c) (entry m c 2) (aft2 m c) t d
theorem bef3 (c : Dev nD) (t : Fin cfg0.N) (d) : (dat m 0 c).before 3 t d = iblk m c 3 t :=
  before0_3_of m (dat m 0 c) (entry m c 3) (aft3 m c) t d
theorem bef4 (c : Dev nD) (t : Fin cfg0.N) (d) : (dat m 0 c).before 4 t d = iblk m c 4 t :=
  before0_4_of m (dat m 0 c) (entry m c 4) (aft4 m c) t d
theorem bef5 (c : Dev nD) (t : Fin cfg0.N) (d) : (dat m 0 c).before 5 t d = iblk m c 5 t :=
  before0_5_of m (dat m 0 c) (entry m c 5) (aft5 m c) t d
theorem bef6 (c : Dev nD) (t : Fin cfg0.N) (d) : (dat m 0 c).before 6 t d = iblk m c 6 t :=
  before0_6_of m (dat m 0 c) (entry m c 6) (aft6 m c) t d
theorem bef7 (c : Dev nD) (t : Fin cfg0.N) (d) : (dat m 0 c).before 7 t d = iblk m c 7 t :=
  before0_7_of m (dat m 0 c) (entry m c 7) (aft7 m c) t d

/-- What the body starts from at point `t`, and what it ends with. -/
def preAt (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d))
    ∗ (∃ d, owns (c : Thread nD τ) (ms0_9 t) fullShare ((dat m 0 c).before 9 t d)))
def postAt (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t)
    ∗ owns (c : Thread nD τ) (ms0_7 t) fullShare ((dat m 0 c).after 7 t)
    ∗ owns (c : Thread nD τ) (ms0_8 t) fullShare ((dat m 0 c).after 8 t)
    ∗ owns (c : Thread nD τ) (ms0_9 t) fullShare ((dat m 0 c).after 9 t))

set_option maxHeartbeats 1200000 in
/-- The body at any point. -/
theorem body_at (c : Dev nD) (t : Fin cfg0.N) :
    preAt m c t ⊢ wp frame (wpE (defs₀ (F := F)) Variants.none c none) Set.univ (bodyAt0 t) (fun _ => postAt m c t) := by
  unfold preAt postAt bodyAt0
  simp only [bef0, bef1, bef2, bef3, bef4, bef5, bef6, bef7]
  rw [show (dat m 0 c).Φ t.succ = (dat m 0 c).Φ t.castSucc from rfl,
    show (dat m 0 c).owesAt () t.succ = (dat m 0 c).owesAt () t.castSucc from rfl,
    aft0, aft1, aft2, aft3, aft4, aft5, aft6, aft7, aft8, aft9,
    show (dat m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ (blocksAt m c t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [HS0]
  · iexact HS0
  isplitl [HS1]
  · iexact HS1
  isplitl [HS2]
  · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

/-- The body table's row at point `t` is the body there. -/
theorem row_at (t : Fin cfg0.N) : defs₀ (F := F) .tc cfg0.body (cfg0.bodyArgs t (cfg0.slots t)) = bodyAt0 t := by
  unfold defs₀; rw [Defs.onTc_tc]

/-- The pipeline's obligation on its body. -/
theorem obligation (c : Dev nD) : BodyObligation (dat (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The launch: it ends, with every pipeline array at what the proof data says and every counter zero. -/
theorem launch_run : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (obligation m c).loose) (hq := fun _ _ _ => rfl)
    (howed := fun _ _ => rfl) (V := V m) (hmain := hmain m Variants.none) (hA := entry m) (hΦ := fun _ _ => rfl)

/-- The run, without the counters. -/
theorem run_post : θ_run defs (onTc (τ := τ) (main (F := F))) (s₀ m ρ) (Pipeline.FramePost cfgs (dat m) 0 (V m)) :=
  (θ_run defs _ _).mono (fun _ h => h.1) (launch_run m ρ)

/-- The frame: the arguments end unchanged, the counters at zero. -/
theorem frame_rg : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dat m) (entry m) (run_post m ρ)) ((θ_run defs _ _).mono (fun _ h => h.2) (launch_run m ρ))

end Cert.Rg

end
-- ==== Proof.Frames.lean ====
module

public import proofs.«01_k».proof.Proof.RgFrame
public import proofs.«01_k».proof.Proof.Gen.Kernel
public import proofs.«01_k».proof.Proof.Gen.ReferenceIdeal.Run
public import proofs.«01_k».proof.Proof.Gen.Ffn
public import proofs.«01_k».proof.Proof.Gen.FfnIdeal.Frame
public import proofs.«01_k».proof.Proof.Gen.FfnRefIdeal.Run
public import proofs.«01_k».proof.Defs
public import Idealize.ShloMosaic.Adequacy
public import Idealize.ShloMosaic.Init

/-! The six frames, each read off its program's run. -/

@[expose] public section

set_option maxRecDepth 16384

noncomputable section

namespace Cert.Proof

open Idealize.ShloMosaic Idealize.SL.Sem

/-- Two functions of two values that agree at both. -/
theorem two {α : Type} {f g : Fin 2 → α} (h0 : f 0 = g 0) (h1 : f 1 = g 1) : f = g := by
  funext x
  match x with
  | 0 => exact h0
  | 1 => exact h1

/-- The recurrence: the body of the one text is the body of the other. -/
theorem rg_body : @Cert.Kernel.cc0_rglru Bits _ Cert.Kernel.Gen.facts = @Cert.KernelIdeal.cc0_rglru Bits _ Cert.KernelIdeal.Gen.facts := by
  unfold Cert.Kernel.cc0_rglru Cert.KernelIdeal.cc0_rglru
  rfl

set_option maxHeartbeats 2000000 in
/-- The recurrence: the same labels name the same programs. -/
theorem rg_defs : @Cert.Kernel.defs Bits _ Cert.Kernel.Gen.facts = @Cert.KernelIdeal.defs Bits _ Cert.KernelIdeal.Gen.facts := by
  refine congrArg (Pipeline.defs (@Cert.KernelIdeal.pcfgs Bits Cert.KernelIdeal.Gen.facts)) ?_
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀))
    (funext fun l => funext fun a => ?_)
  match l, a with
  | 0, (t, s) =>
    dsimp only
    rw [rg_body]
    simp only [two (f := Cert.Kernel.stage0_0) (g := Cert.KernelIdeal.stage0_0) rfl rfl,
      two (f := Cert.Kernel.stage0_1) (g := Cert.KernelIdeal.stage0_1) rfl rfl,
      two (f := Cert.Kernel.stage0_2) (g := Cert.KernelIdeal.stage0_2) rfl rfl,
      two (f := Cert.Kernel.stage0_3) (g := Cert.KernelIdeal.stage0_3) rfl rfl,
      two (f := Cert.Kernel.stage0_4) (g := Cert.KernelIdeal.stage0_4) rfl rfl,
      two (f := Cert.Kernel.stage0_5) (g := Cert.KernelIdeal.stage0_5) rfl rfl,
      two (f := Cert.Kernel.stage0_6) (g := Cert.KernelIdeal.stage0_6) rfl rfl,
      two (f := Cert.Kernel.stage0_7) (g := Cert.KernelIdeal.stage0_7) rfl rfl,
      two (f := Cert.Kernel.stage0_8) (g := Cert.KernelIdeal.stage0_8) rfl rfl,
      two (f := Cert.Kernel.stage0_9) (g := Cert.KernelIdeal.stage0_9) rfl rfl]
    rfl

/-- The feed-forward block: the body of the one text is the body of the other. -/
theorem ffn_body : @Cert.Ffn.cc0_conv_ffn Bits _ Cert.Ffn.Gen.facts = @Cert.FfnIdeal.cc0_conv_ffn Bits _ Cert.FfnIdeal.Gen.facts := by
  unfold Cert.Ffn.cc0_conv_ffn Cert.FfnIdeal.cc0_conv_ffn
  rfl

set_option maxHeartbeats 2000000 in
/-- The feed-forward block: the same labels name the same programs. -/
theorem ffn_defs : @Cert.Ffn.defs Bits _ Cert.Ffn.Gen.facts = @Cert.FfnIdeal.defs Bits _ Cert.FfnIdeal.Gen.facts := by
  refine congrArg (Pipeline.defs (@Cert.FfnIdeal.pcfgs Bits Cert.FfnIdeal.Gen.facts)) ?_
  unfold Cert.Ffn.defs₀ Cert.FfnIdeal.defs₀
  refine congrArg (Defs.onTc (nD := Cert.FfnIdeal.nD) (τ := Cert.FfnIdeal.τ) (sig := Cert.FfnIdeal.sig) (Λ := Cert.FfnIdeal.Λ₀))
    (funext fun l => funext fun a => ?_)
  match l, a with
  | 0, (t, s) =>
    dsimp only
    rw [ffn_body]
    simp only [two (f := Cert.Ffn.stage0_0) (g := Cert.FfnIdeal.stage0_0) rfl rfl,
      two (f := Cert.Ffn.stage0_1) (g := Cert.FfnIdeal.stage0_1) rfl rfl,
      two (f := Cert.Ffn.stage0_2) (g := Cert.FfnIdeal.stage0_2) rfl rfl,
      two (f := Cert.Ffn.stage0_3) (g := Cert.FfnIdeal.stage0_3) rfl rfl,
      two (f := Cert.Ffn.stage0_4) (g := Cert.FfnIdeal.stage0_4) rfl rfl,
      two (f := Cert.Ffn.stage0_5) (g := Cert.FfnIdeal.stage0_5) rfl rfl,
      two (f := Cert.Ffn.stage0_6) (g := Cert.FfnIdeal.stage0_6) rfl rfl,
      two (f := Cert.Ffn.stage0_7) (g := Cert.FfnIdeal.stage0_7) rfl rfl,
      two (f := Cert.Ffn.stage0_8) (g := Cert.FfnIdeal.stage0_8) rfl rfl,
      two (f := Cert.Ffn.stage0_9) (g := Cert.FfnIdeal.stage0_9) rfl rfl,
      two (f := Cert.Ffn.stage0_10) (g := Cert.FfnIdeal.stage0_10) rfl rfl,
      two (f := Cert.Ffn.stage0_11) (g := Cert.FfnIdeal.stage0_11) rfl rfl,
      two (f := Cert.Ffn.stage0_12) (g := Cert.FfnIdeal.stage0_12) rfl rfl]
    rfl

/-- The gated recurrence's kernel, bit for bit, leaves its arguments as they were and its counters at zero: the run
    over any float values, taken at the bits. -/
theorem frame_kernel : Cert.quiescent_Kernel (hKernel := Cert.Kernel.Gen.facts) :=
  fun m ρ _ => by
    rw [rg_defs]
    exact Cert.Rg.frame_rg (F := Bits) m ρ

/-- The same kernel in exact arithmetic. -/
theorem frame_kernel_ideal : Cert.quiescent_KernelIdeal (hKernelIdeal := Cert.KernelIdeal.Gen.facts) :=
  fun m ρ _ => Cert.Rg.frame_rg m ρ

/-- The recurrence's reference: the loop's run at its arguments; it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- The feed-forward block's kernel, bit for bit. -/
theorem frame_ffn : Cert.quiescent_Ffn (hFfn := Cert.Ffn.Gen.facts) :=
  fun m ρ _ => by
    rw [ffn_defs]
    exact Cert.FfnIdeal.Gen.frame (F := Bits) m ρ

/-- The feed-forward block's kernel in exact arithmetic. -/
theorem frame_ffn_ideal : Cert.quiescent_FfnIdeal (hFfnIdeal := Cert.FfnIdeal.Gen.facts) :=
  fun m ρ _ => Cert.FfnIdeal.Gen.frame m ρ

/-- The feed-forward block's reference, a host program with no semaphore. -/
theorem frame_ffn_reference : Cert.quiescent_FfnRefIdeal (hFfnRefIdeal := Cert.FfnRefIdeal.Gen.facts) :=
  fun m ρ _ => (θ_run Cert.FfnRefIdeal.defs _ _).mono
    (fun r h => ⟨fun c => (h c).2, sem_eq_zero_of_no_sems (by decide) r.2⟩)
    (Cert.FfnRefIdeal.Value.run (F := Ideal) m ρ)

end Cert.Proof

end
-- ==== Proof.FramesProj.lean ====
module

public import proofs.«01_k».proof.Proof.Frames
public import proofs.«01_k».proof.Proof.Gen.InProj
public import proofs.«01_k».proof.Proof.Gen.InProjIdeal.Frame
public import proofs.«01_k».proof.Proof.Gen.InProjRefIdeal.Run
public import proofs.«01_k».proof.Proof.Gen.OutProj
public import proofs.«01_k».proof.Proof.Gen.OutProjIdeal.Frame
public import proofs.«01_k».proof.Proof.Gen.OutProjRefIdeal.Run

/-! The frames of the two projections, each read off its program's run. -/

@[expose] public section

set_option maxRecDepth 16384

noncomputable section

namespace Cert.Proof

open Idealize.ShloMosaic Idealize.SL.Sem

/-- Two functions of one value that agree at it. -/
theorem one {α : Type} {f g : Fin 1 → α} (h : f 0 = g 0) : f = g := by
  funext x
  match x with
  | 0 => exact h

/-- The input projection: the body of the one text is the body of the other. -/
theorem in_proj_body : @Cert.InProj.cc0_in_proj Bits _ Cert.InProj.Gen.facts = @Cert.InProjIdeal.cc0_in_proj Bits _ Cert.InProjIdeal.Gen.facts := by
  unfold Cert.InProj.cc0_in_proj Cert.InProjIdeal.cc0_in_proj
  rfl

set_option maxHeartbeats 2000000 in
/-- The input projection: the same labels name the same programs. -/
theorem in_proj_defs : @Cert.InProj.defs Bits _ Cert.InProj.Gen.facts = @Cert.InProjIdeal.defs Bits _ Cert.InProjIdeal.Gen.facts := by
  refine congrArg (Pipeline.defs (@Cert.InProjIdeal.pcfgs Bits Cert.InProjIdeal.Gen.facts)) ?_
  unfold Cert.InProj.defs₀ Cert.InProjIdeal.defs₀
  refine congrArg (Defs.onTc (nD := Cert.InProjIdeal.nD) (τ := Cert.InProjIdeal.τ) (sig := Cert.InProjIdeal.sig) (Λ := Cert.InProjIdeal.Λ₀))
    (funext fun l => funext fun a => ?_)
  match l, a with
  | 0, (t, s) =>
    dsimp only
    rw [in_proj_body]
    simp only [two (f := Cert.InProj.stage0_0) (g := Cert.InProjIdeal.stage0_0) rfl rfl,
      one (f := Cert.InProj.stage0_1) (g := Cert.InProjIdeal.stage0_1) rfl,
      one (f := Cert.InProj.stage0_2) (g := Cert.InProjIdeal.stage0_2) rfl,
      two (f := Cert.InProj.stage0_3) (g := Cert.InProjIdeal.stage0_3) rfl rfl,
      two (f := Cert.InProj.stage0_4) (g := Cert.InProjIdeal.stage0_4) rfl rfl]
    rfl

/-- The input projection's kernel, bit for bit, leaves its arguments as they were and its counters at zero. -/
theorem frame_in_proj : Cert.quiescent_InProj (hInProj := Cert.InProj.Gen.facts) :=
  fun m ρ _ => by
    rw [in_proj_defs]
    exact Cert.InProjIdeal.Gen.frame (F := Bits) m ρ

/-- The input projection's kernel in exact arithmetic. -/
theorem frame_in_proj_ideal : Cert.quiescent_InProjIdeal (hInProjIdeal := Cert.InProjIdeal.Gen.facts) :=
  fun m ρ _ => Cert.InProjIdeal.Gen.frame m ρ

/-- The input projection's reference, a host program with no semaphore. -/
theorem frame_in_proj_reference : Cert.quiescent_InProjRefIdeal (hInProjRefIdeal := Cert.InProjRefIdeal.Gen.facts) :=
  fun m ρ _ => (θ_run Cert.InProjRefIdeal.defs _ _).mono
    (fun r h => ⟨fun c => (h c).2, sem_eq_zero_of_no_sems (by decide) r.2⟩)
    (Cert.InProjRefIdeal.Value.run (F := Ideal) m ρ)

/-- The output projection: the body of the one text is the body of the other. -/
theorem out_proj_body : @Cert.OutProj.cc0_out_proj Bits _ Cert.OutProj.Gen.facts = @Cert.OutProjIdeal.cc0_out_proj Bits _ Cert.OutProjIdeal.Gen.facts := by
  unfold Cert.OutProj.cc0_out_proj Cert.OutProjIdeal.cc0_out_proj Cert.OutProj.k0_part1 Cert.OutProjIdeal.k0_part1
  rfl

set_option maxHeartbeats 2000000 in
/-- The output projection: the same labels name the same programs. -/
theorem out_proj_defs : @Cert.OutProj.defs Bits _ Cert.OutProj.Gen.facts = @Cert.OutProjIdeal.defs Bits _ Cert.OutProjIdeal.Gen.facts := by
  refine congrArg (Pipeline.defs (@Cert.OutProjIdeal.pcfgs Bits Cert.OutProjIdeal.Gen.facts)) ?_
  unfold Cert.OutProj.defs₀ Cert.OutProjIdeal.defs₀
  refine congrArg (Defs.onTc (nD := Cert.OutProjIdeal.nD) (τ := Cert.OutProjIdeal.τ) (sig := Cert.OutProjIdeal.sig) (Λ := Cert.OutProjIdeal.Λ₀))
    (funext fun l => funext fun a => ?_)
  match l, a with
  | 0, (t, s) =>
    dsimp only
    rw [out_proj_body]
    simp only [two (f := Cert.OutProj.stage0_0) (g := Cert.OutProjIdeal.stage0_0) rfl rfl,
      two (f := Cert.OutProj.stage0_1) (g := Cert.OutProjIdeal.stage0_1) rfl rfl,
      two (f := Cert.OutProj.stage0_2) (g := Cert.OutProjIdeal.stage0_2) rfl rfl,
      two (f := Cert.OutProj.stage0_3) (g := Cert.OutProjIdeal.stage0_3) rfl rfl,
      two (f := Cert.OutProj.stage0_4) (g := Cert.OutProjIdeal.stage0_4) rfl rfl,
      two (f := Cert.OutProj.stage0_5) (g := Cert.OutProjIdeal.stage0_5) rfl rfl,
      one (f := Cert.OutProj.stage0_6) (g := Cert.OutProjIdeal.stage0_6) rfl,
      two (f := Cert.OutProj.stage0_7) (g := Cert.OutProjIdeal.stage0_7) rfl rfl,
      two (f := Cert.OutProj.stage0_8) (g := Cert.OutProjIdeal.stage0_8) rfl rfl,
      two (f := Cert.OutProj.stage0_9) (g := Cert.OutProjIdeal.stage0_9) rfl rfl,
      two (f := Cert.OutProj.stage0_10) (g := Cert.OutProjIdeal.stage0_10) rfl rfl,
      two (f := Cert.OutProj.stage0_11) (g := Cert.OutProjIdeal.stage0_11) rfl rfl,
      two (f := Cert.OutProj.stage0_12) (g := Cert.OutProjIdeal.stage0_12) rfl rfl]
    rfl

/-- The output projection's kernel, bit for bit, leaves its arguments as they were and its counters at zero. -/
theorem frame_out_proj : Cert.quiescent_OutProj (hOutProj := Cert.OutProj.Gen.facts) :=
  fun m ρ _ => by
    rw [out_proj_defs]
    exact Cert.OutProjIdeal.Gen.frame (F := Bits) m ρ

/-- The output projection's kernel in exact arithmetic. -/
theorem frame_out_proj_ideal : Cert.quiescent_OutProjIdeal (hOutProjIdeal := Cert.OutProjIdeal.Gen.facts) :=
  fun m ρ _ => Cert.OutProjIdeal.Gen.frame m ρ

/-- The output projection's reference, a host program with no semaphore. -/
theorem frame_out_proj_reference : Cert.quiescent_OutProjRefIdeal (hOutProjRefIdeal := Cert.OutProjRefIdeal.Gen.facts) :=
  fun m ρ _ => (θ_run Cert.OutProjRefIdeal.defs _ _).mono
    (fun r h => ⟨fun c => (h c).2.2, sem_eq_zero_of_no_sems (by decide) r.2⟩)
    (Cert.OutProjRefIdeal.Value.run (F := Ideal) m ρ)

end Cert.Proof

end
-- ==== Proof.RgScan.lean ====
module

public import Mathlib.Data.EReal.Inv

@[expose] public section

noncomputable section

namespace Cert.Rg

/-- The state after the `n` steps from `s`, each of which takes `v` to `a * v + b`. -/
def run (a b : ℕ → EReal) (s : ℕ) : ℕ → EReal → EReal
  | 0, v => v
  | n + 1, v => a (s + n) * run a b s n v + b (s + n)

/-- Steps compose. -/
theorem run_add (a b : ℕ → EReal) (s m n : ℕ) (v : EReal) :
    run a b s (m + n) v = run a b (s + m) n (run a b s m v) := by
  induction n with
  | zero => rfl
  | succ n ih =>
    show a (s + (m + n)) * run a b s (m + n) v + b (s + (m + n)) = a (s + m + n) * _ + b (s + m + n)
    rw [ih, Nat.add_assoc]

/-- A run depends only on the steps it takes. -/
theorem run_congr {a b a' b' : ℕ → EReal} {s s' n : ℕ} (h : ∀ i < n, a (s + i) = a' (s' + i) ∧ b (s + i) = b' (s' + i))
    (v : EReal) : run a b s n v = run a' b' s' n v := by
  induction n with
  | zero => rfl
  | succ n ih =>
    show a (s + n) * run a b s n v + b (s + n) = a' (s' + n) * run a' b' s' n v + b' (s' + n)
    rw [ih fun i hi => h i (by omega), (h n (by omega)).1, (h n (by omega)).2]

/-- At every row `i`, the pair `A i`, `B i` takes the state to what the last `w` steps up to `i` make of it (all of them, near the start). -/
def Aff (a b : ℕ → EReal) (w : ℕ) (A B : ℕ → EReal) : Prop :=
  ∀ i < 128, 0 ≤ A i ∧ A i ≠ ⊤ ∧ ∀ v, A i * v + B i = run a b (i + 1 - min w (i + 1)) (min w (i + 1)) v

theorem aff_one {a b : ℕ → EReal} (h : ∀ i < 128, 0 ≤ a i ∧ a i ≠ ⊤) : Aff a b 1 a b := by
  intro i hi
  refine ⟨(h i hi).1, (h i hi).2, fun v => ?_⟩
  have e : min 1 (i + 1) = 1 := by omega
  rw [e]
  show _ = a (i + 1 - 1 + 0) * v + b (i + 1 - 1 + 0)
  simp

/-- Joining each row with the row `w` above it doubles the number of steps. -/
theorem aff_double {a b : ℕ → EReal} {w : ℕ} {A B A' B' : ℕ → EReal} (h : Aff a b w A B)
    (hA : ∀ i < 128, A' i = A i * if w ≤ i then A (i - w) else 1)
    (hB : ∀ i < 128, B' i = B i + A i * if w ≤ i then B (i - w) else 0) : Aff a b (w + w) A' B' := by
  intro i hi
  rw [hA i hi, hB i hi]
  obtain ⟨h0, h1, h2⟩ := h i hi
  by_cases hw : w ≤ i
  · obtain ⟨g0, g1, g2⟩ := h (i - w) (by omega)
    rw [if_pos hw, if_pos hw]
    refine ⟨EReal.mul_nonneg h0 g0, ?_, fun v => ?_⟩
    · lift A i to ℝ using ⟨h1, ne_of_gt (lt_of_lt_of_le EReal.bot_lt_zero h0)⟩ with x
      lift A (i - w) to ℝ using ⟨g1, ne_of_gt (lt_of_lt_of_le EReal.bot_lt_zero g0)⟩ with y
      rw [← EReal.coe_mul]; exact EReal.coe_ne_top _
    · have e : (A i * A (i - w)) * v + (B i + A i * B (i - w)) = A i * (A (i - w) * v + B (i - w)) + B i := by
        rw [EReal.left_distrib_of_nonneg_of_ne_top h0 h1, mul_assoc (A i) (A (i - w)) v, add_comm (B i), add_assoc]
      have m1 : min w (i + 1) = w := by omega
      have m2 : min (w + w) (i + 1) = min w (i - w + 1) + w := by omega
      rw [e, h2, g2, m1, m2, run_add]
      congr 1
      · omega
      · congr 1; omega
  · rw [if_neg hw, if_neg hw, mul_one, mul_zero, add_zero]
    refine ⟨h0, h1, fun v => ?_⟩
    have m1 : min w (i + 1) = i + 1 := by omega
    have m2 : min (w + w) (i + 1) = i + 1 := by omega
    rw [h2, m1, m2]

/-- After enough doublings a row holds all steps from the start. -/
theorem aff_all {a b : ℕ → EReal} {A B : ℕ → EReal} (h : Aff a b 128 A B) {i : ℕ} (hi : i < 128) (v : EReal) :
    A i * v + B i = run a b 0 (i + 1) v := by
  have m : min 128 (i + 1) = i + 1 := by omega
  have := (h i hi).2.2 v
  rw [m] at this
  simpa using this

end Cert.Rg
-- ==== Proof.RgChain.lean ====
module

public import proofs.«01_k».proof.Proof.RgBlock
public import proofs.«01_k».proof.Proof.RgScan
public import Idealize.ShloMosaic.Lib.Pointwise
public import Idealize.ShloMosaic.Lib.KernelVsHost
public import Idealize.ShloMosaic.Lib.WordCmp

@[expose] public section

noncomputable section

namespace Cert.Rg

open Idealize.ShloMosaic Cert.KernelIdeal Cert.KernelIdeal.Gen

/-- One rows-mask spread over the columns. -/
abbrev spread (m : IVec S128x1 1) : IVec S128x128 1 :=
  broadcastTo S128x128 (shapeCast S128x1 m shapeCasts_S128x1_S128x1) broadcasts_S128x1_S128x128

/-- Under the mask `m` the rows of `v` moved down by `s`, elsewhere the constant. -/
abbrev moved {F : FTy → Type} [FloatOps F] (m : IVec S128x1 1) (s z : BitVec 32) (v : FVec F S128x128 .f32) : FVec F S128x128 .f32 :=
  select (spread m) (dynamicRotate 0 s none v rotates_S128x128_d0) (broadcast S128x128 (Scalar.ofBits .f32 z))

/-- The rows from `s` on, and the rows before `s`. -/
abbrev from_ (s : BitVec 32) : IVec S128x1 1 := cmpi .sge rows (broadcast S128x1 s)
abbrev upto_ (s : BitVec 32) : IVec S128x1 1 := cmpi .slt rows (broadcast S128x1 s)

/-- One doubling of a scan: the decays, and the inputs. -/
def dblA {F : FTy → Type} [FloatOps F] (m : IVec S128x1 1) (s : BitVec 32) (A : FVec F S128x128 .f32) : FVec F S128x128 .f32 :=
  mulf A (moved m s 0x3F800000#32 A)
def dblB {F : FTy → Type} [FloatOps F] (m : IVec S128x1 1) (s : BitVec 32) (A B : FVec F S128x128 .f32) : FVec F S128x128 .f32 :=
  addf B (mulf A (moved m s 0x00000000#32 B))

/-- The scan's end: the state before it, carried through. -/
def close {F : FTy → Type} [FloatOps F] (A B : FVec F S128x128 .f32) (h : FVec F S1x128 .f32) : FVec F S128x128 .f32 :=
  addf B (mulf A (broadcastTo S128x128 h broadcasts_S1x128_S128x128))

variable {F : FTy → Type} [FloatOps F]

theorem fwdChain_eq (a b A1 B1 A2 B2 A3 B3 A4 B4 A5 B5 A6 B6 A7 B7 : FVec F S128x128 .f32) (h : FVec F S1x128 .f32)
    (hA1 : A1 = dblA (from_ 1#32) 1#32 a) (hB1 : B1 = dblB (from_ 1#32) 1#32 a b)
    (hA2 : A2 = dblA (from_ 2#32) 2#32 A1) (hB2 : B2 = dblB (from_ 2#32) 2#32 A1 B1)
    (hA3 : A3 = dblA (from_ 4#32) 4#32 A2) (hB3 : B3 = dblB (from_ 4#32) 4#32 A2 B2)
    (hA4 : A4 = dblA (from_ 8#32) 8#32 A3) (hB4 : B4 = dblB (from_ 8#32) 8#32 A3 B3)
    (hA5 : A5 = dblA (from_ 16#32) 16#32 A4) (hB5 : B5 = dblB (from_ 16#32) 16#32 A4 B4)
    (hA6 : A6 = dblA (from_ 32#32) 32#32 A5) (hB6 : B6 = dblB (from_ 32#32) 32#32 A5 B5)
    (hA7 : A7 = dblA (from_ 64#32) 64#32 A6) (hB7 : B7 = dblB (from_ 64#32) 64#32 A6 B6) :
    fwdChain a b h = close A7 B7 h := by
  have e1 : k0_pay27 a = A1 := hA1.symm
  have e2 : k0_pay26 a b = B1 := hB1.symm
  have e3 : k0_pay32 A1 (k0_pay29 a) = A2 := by
    rw [hA2, ← e1]; rfl
  have e4 : k0_pay34 rows A1 (k0_pay29 a) = A3 := by
    rw [hA3, ← e3]; rfl
  have e5 : k0_pay37 rows A1 (k0_pay29 a) = A4 := by
    rw [hA4, ← e4]; rfl
  have e6 : k0_pay36 rows B1 A1 (k0_pay29 a) (k0_pay30 a b) (Scalar.ofBits .f32 0x00000000#32) k0_pay31 = B4 := by
    unfold k0_pay36
    rw [e3, e4]
    unfold k0_pay30
    rw [e2, hB4, hB3, hB2]; rfl
  unfold fwdChain
  show k0_pay42 h rows (k0_pay36 rows (k0_pay26 a b) (k0_pay27 a) (k0_pay29 a) (k0_pay30 a b) (Scalar.ofBits .f32 0x00000000#32) k0_pay31)
    (k0_pay37 rows (k0_pay27 a) (k0_pay29 a)) (k0_pay39 rows (k0_pay27 a) (k0_pay29 a))
    (k0_pay40 rows (k0_pay26 a b) (k0_pay27 a) (k0_pay29 a) (k0_pay30 a b) (Scalar.ofBits .f32 0x00000000#32) k0_pay31)
    (Scalar.ofBits .f32 0x00000000#32) (k0_pay41 rows) = _
  unfold k0_pay40 k0_pay39
  rw [e1, e2, e5, e6, hA7, hB7, hA6, hB6, hA5, hB5]
  rfl

theorem bwdChain_eq (a b A1 B1 A2 B2 A3 B3 A4 B4 A5 B5 A6 B6 A7 B7 : FVec F S128x128 .f32) (h : FVec F S1x128 .f32)
    (hA1 : A1 = dblA (upto_ 127#32) 127#32 a) (hB1 : B1 = dblB (upto_ 127#32) 127#32 a b)
    (hA2 : A2 = dblA (upto_ 126#32) 126#32 A1) (hB2 : B2 = dblB (upto_ 126#32) 126#32 A1 B1)
    (hA3 : A3 = dblA (upto_ 124#32) 124#32 A2) (hB3 : B3 = dblB (upto_ 124#32) 124#32 A2 B2)
    (hA4 : A4 = dblA (upto_ 120#32) 120#32 A3) (hB4 : B4 = dblB (upto_ 120#32) 120#32 A3 B3)
    (hA5 : A5 = dblA (upto_ 112#32) 112#32 A4) (hB5 : B5 = dblB (upto_ 112#32) 112#32 A4 B4)
    (hA6 : A6 = dblA (upto_ 96#32) 96#32 A5) (hB6 : B6 = dblB (upto_ 96#32) 96#32 A5 B5)
    (hA7 : A7 = dblA (upto_ 64#32) 64#32 A6) (hB7 : B7 = dblB (upto_ 64#32) 64#32 A6 B6) :
    bwdChain a b h = close A7 B7 h := by
  have e1 : k0_pay48 a (k0_pay45 a) k0_pay46 k0_pay47 = A1 := hA1.symm
  have e2 : k0_pay50 a rows (k0_pay45 a) k0_pay46 k0_pay47 = A2 := by
    unfold k0_pay50; rw [e1, hA2]; rfl
  have e3 : k0_pay53 a rows (k0_pay45 a) k0_pay46 k0_pay47 = A3 := by
    unfold k0_pay53; rw [e2, hA3]; rfl
  have e4 : k0_pay52 a b rows k0_pay44 (k0_pay45 a) k0_pay46 k0_pay47 = B3 := by
    unfold k0_pay52; rw [e1, e2, hB3, hB2, hB1]; rfl
  have e5 : k0_pay58 A3 (k0_pay55 a rows (k0_pay45 a) k0_pay46 k0_pay47) (k0_pay56 rows) k0_pay57 = A4 := by
    unfold k0_pay55; rw [e3, hA4]; rfl
  have e6 : k0_pay60 rows A3 (k0_pay55 a rows (k0_pay45 a) k0_pay46 k0_pay47) (k0_pay56 rows) k0_pay57 = A5 := by
    unfold k0_pay60; rw [e5, hA5]; rfl
  have e7 : k0_pay63 rows A3 (k0_pay55 a rows (k0_pay45 a) k0_pay46 k0_pay47) (k0_pay56 rows) k0_pay57 = A6 := by
    unfold k0_pay63; rw [e6, hA6]; rfl
  have e8 : k0_pay62 rows B3 A3 (k0_pay54 rows) (k0_pay55 a rows (k0_pay45 a) k0_pay46 k0_pay47) (k0_pay56 rows) k0_pay57 = B6 := by
    unfold k0_pay62; rw [e5, e6, hB6, hB5, hB4]; rfl
  unfold bwdChain
  show k0_pay4 h (k0_pay62 rows (k0_pay52 a b rows k0_pay44 (k0_pay45 a) k0_pay46 k0_pay47) (k0_pay53 a rows (k0_pay45 a) k0_pay46 k0_pay47) (k0_pay54 rows) (k0_pay55 a rows (k0_pay45 a) k0_pay46 k0_pay47) (k0_pay56 rows) k0_pay57)
    (k0_pay63 rows (k0_pay53 a rows (k0_pay45 a) k0_pay46 k0_pay47) (k0_pay55 a rows (k0_pay45 a) k0_pay46 k0_pay47) (k0_pay56 rows) k0_pay57) (k0_pay64 rows)
    (k0_pay65 rows (k0_pay53 a rows (k0_pay45 a) k0_pay46 k0_pay47) (k0_pay55 a rows (k0_pay45 a) k0_pay46 k0_pay47) (k0_pay56 rows) k0_pay57) (k0_pay66 rows) k0_pay67 = _
  unfold k0_pay65
  rw [e3, e4, e7, e8, hA7, hB7]
  rfl

/-- The rows' numbers. -/
theorem rows_apply (r : Fin 128) (c : Fin 1) : rows (ix2 r c) = BitVec.ofNat 32 r.val := by
  unfold rows
  rw [iota_single_apply]
  rfl

theorem spread_apply (m : IVec S128x1 1) (r l : Fin 128) : spread m (ix2 r l) = m (ix2 r 0) := by
  unfold spread
  rw [shapeCast_self]
  pointwise []

theorem rot_apply (v : FVec Ideal S128x128 .f32) (s : BitVec 32) (r r' l : Fin 128)
    (h : r'.val = (r.val + 128 - s.toNat % 128) % 128) :
    dynamicRotate 0 s none v rotates_S128x128_d0 (ix2 r l) = v (ix2 r' l) := by
  refine dynamicRotate_apply 0 s v rotates_S128x128_d0 (ix2 r l) (ix2 r' l) fun b => ?_
  match b with
  | ⟨0, _⟩ => simpa using h
  | ⟨1, _⟩ => simp [ix2]

end Cert.Rg
-- ==== Proof.RgChainVal.lean ====
module

public import proofs.«01_k».proof.Proof.RgChain
public import Idealize.ShloMosaic.Lib.IdealHost

@[expose] public section

noncomputable section

namespace Cert.Rg

open Idealize.ShloMosaic Cert.KernelIdeal Cert.KernelIdeal.Gen

/-- Column `l` of a block of 128 rows, by the row's number; and read from the last row up. -/
def col (v : FVec Ideal S128x128 .f32) (l : Fin 128) (i : ℕ) : EReal := v (ix2 (Fin.ofNat 128 i) l)
def rcol (v : FVec Ideal S128x128 .f32) (l : Fin 128) (i : ℕ) : EReal := col v l (127 - i)

theorem col_eq (v : FVec Ideal S128x128 .f32) (l r : Fin 128) : v (ix2 r l) = col v l r.val := by
  unfold col; congr; ext; simp [Nat.mod_eq_of_lt r.isLt]

theorem from_apply (s : ℕ) (hs : s < 128) (r : Fin 128) :
    from_ (BitVec.ofNat 32 s) (ix2 r 0) = 1 ↔ s ≤ r.val := by
  show IntOp.cmpi .sge (rows (ix2 r 0)) (BitVec.ofNat 32 s) = 1 ↔ _
  rw [rows_apply]
  rw [WordCmp.cmpi_sge_ofNat (by have := r.isLt; omega) (by omega)]; exact WordCmp.ofBool_decide_eq_one_iff _

theorem upto_apply (s : ℕ) (hs : s < 128) (r : Fin 128) :
    upto_ (BitVec.ofNat 32 s) (ix2 r 0) = 1 ↔ r.val < s := by
  show IntOp.cmpi .slt (rows (ix2 r 0)) (BitVec.ofNat 32 s) = 1 ↔ _
  rw [rows_apply]
  rw [WordCmp.cmpi_slt_ofNat (by have := r.isLt; omega) (by omega)]; exact WordCmp.ofBool_decide_eq_one_iff _

theorem moved_apply (m : IVec S128x1 1) (s z : BitVec 32) (v : FVec Ideal S128x128 .f32) (r l : Fin 128) :
    moved m s z v (ix2 r l) = if m (ix2 r 0) = 1 then dynamicRotate 0 s none v rotates_S128x128_d0 (ix2 r l) else Ideal.ofBits .f32 z := by
  show Scalar.select (spread m (ix2 r l)) _ _ = _
  rw [spread_apply]; rfl

theorem col_moved_from (s : ℕ) (hs : s < 128) (z : BitVec 32) (v : FVec Ideal S128x128 .f32) (l : Fin 128) (i : ℕ) (hi : i < 128) :
    col (moved (from_ (BitVec.ofNat 32 s)) (BitVec.ofNat 32 s) z v) l i = if s ≤ i then col v l (i - s) else Ideal.ofBits .f32 z := by
  have e : (Fin.ofNat 128 i).val = i := Nat.mod_eq_of_lt hi
  unfold col
  rw [moved_apply]
  simp only [from_apply s hs, e]
  by_cases h : s ≤ i
  · rw [if_pos h, if_pos h, rot_apply v _ (Fin.ofNat 128 i) (Fin.ofNat 128 (i - s)) l]
    rw [e]; simp only [BitVec.toNat_ofNat, Fin.ofNat]; omega
  · rw [if_neg h, if_neg h]

theorem rcol_moved_upto (s : ℕ) (h0 : 0 < s) (hs : s < 128) (z : BitVec 32) (v : FVec Ideal S128x128 .f32) (l : Fin 128) (i : ℕ) (hi : i < 128) :
    rcol (moved (upto_ (BitVec.ofNat 32 (128 - s))) (BitVec.ofNat 32 (128 - s)) z v) l i = if s ≤ i then rcol v l (i - s) else Ideal.ofBits .f32 z := by
  have e : (Fin.ofNat 128 (127 - i)).val = 127 - i := Nat.mod_eq_of_lt (by omega)
  unfold rcol col
  rw [moved_apply]
  simp only [upto_apply (128 - s) (by omega), e]
  by_cases h : s ≤ i
  · rw [if_pos h, if_pos (by omega), rot_apply v _ (Fin.ofNat 128 (127 - i)) (Fin.ofNat 128 (127 - (i - s))) l]
    rw [e]; simp only [BitVec.toNat_ofNat, Fin.ofNat]; omega
  · rw [if_neg h, if_neg (by omega)]

/-- One doubling of the forward scan, from the first row down. -/
theorem aff_from {a b : ℕ → EReal} {l : Fin 128} (s : ℕ) (hs : s < 128) {A B : FVec Ideal S128x128 .f32}
    (h : Aff a b s (col A l) (col B l)) :
    Aff a b (s + s) (col (dblA (from_ (BitVec.ofNat 32 s)) (BitVec.ofNat 32 s) A) l) (col (dblB (from_ (BitVec.ofNat 32 s)) (BitVec.ofNat 32 s) A B) l) := by
  refine aff_double h (fun i hi => ?_) (fun i hi => ?_)
  · show col A l i * col (moved _ _ _ A) l i = _
    rw [col_moved_from s hs _ _ _ _ hi, Ideal.ofBits_one_f32]
  · show col B l i + col A l i * col (moved _ _ _ B) l i = _
    rw [col_moved_from s hs _ _ _ _ hi, Ideal.ofBits_zero_f32]

/-- One doubling of the backward scan, from the last row up. -/
theorem aff_upto {a b : ℕ → EReal} {l : Fin 128} (s : ℕ) (h0 : 0 < s) (hs : s < 128) {A B : FVec Ideal S128x128 .f32}
    (h : Aff a b s (rcol A l) (rcol B l)) :
    Aff a b (s + s) (rcol (dblA (upto_ (BitVec.ofNat 32 (128 - s))) (BitVec.ofNat 32 (128 - s)) A) l)
      (rcol (dblB (upto_ (BitVec.ofNat 32 (128 - s))) (BitVec.ofNat 32 (128 - s)) A B) l) := by
  refine aff_double h (fun i hi => ?_) (fun i hi => ?_)
  · show rcol A l i * rcol (moved _ _ _ A) l i = _
    rw [rcol_moved_upto s h0 hs _ _ _ _ hi, Ideal.ofBits_one_f32]
  · show rcol B l i + rcol A l i * rcol (moved _ _ _ B) l i = _
    rw [rcol_moved_upto s h0 hs _ _ _ _ hi, Ideal.ofBits_zero_f32]

theorem close_apply (A B : FVec Ideal S128x128 .f32) (h : FVec Ideal S1x128 .f32) (l : Fin 128) (i : ℕ) :
    col (close A B h) l i = col A l i * h (ix2 0 l) + col B l i := by
  have e : broadcastTo S128x128 h broadcasts_S1x128_S128x128 (ix2 (Fin.ofNat 128 i) l) = h (ix2 0 l) := by pointwise []
  show col B l i + col A l i * broadcastTo S128x128 h broadcasts_S1x128_S128x128 (ix2 (Fin.ofNat 128 i) l) = _
  rw [e, add_comm]

/-- The forward scan of a chunk is the sequential one: row `i` holds the state after the steps up to `i`. -/
theorem fwdChain_apply (a b : FVec Ideal S128x128 .f32) (h : FVec Ideal S1x128 .f32) (l : Fin 128)
    (ha : ∀ i < 128, 0 ≤ col a l i ∧ col a l i ≠ ⊤) (i : ℕ) (hi : i < 128) :
    col (fwdChain a b h) l i = run (col a l) (col b l) 0 (i + 1) (h (ix2 0 l)) := by
  rw [fwdChain_eq a b _ _ _ _ _ _ _ _ _ _ _ _ _ _ h rfl rfl rfl rfl rfl rfl rfl rfl rfl rfl rfl rfl rfl rfl, close_apply]
  have h1 := aff_one (a := col a l) (b := col b l) ha
  have h7 := aff_from 64 (by decide) (aff_from 32 (by decide) (aff_from 16 (by decide) (aff_from 8 (by decide)
    (aff_from 4 (by decide) (aff_from 2 (by decide) (aff_from 1 (by decide) h1))))))
  exact aff_all h7 hi _

/-- The backward scan of a chunk, from its last row up. -/
theorem bwdChain_apply (a b : FVec Ideal S128x128 .f32) (h : FVec Ideal S1x128 .f32) (l : Fin 128)
    (ha : ∀ i < 128, 0 ≤ col a l i ∧ col a l i ≠ ⊤) (i : ℕ) (hi : i < 128) :
    rcol (bwdChain a b h) l i = run (rcol a l) (rcol b l) 0 (i + 1) (h (ix2 0 l)) := by
  rw [bwdChain_eq a b _ _ _ _ _ _ _ _ _ _ _ _ _ _ h rfl rfl rfl rfl rfl rfl rfl rfl rfl rfl rfl rfl rfl rfl]
  unfold rcol
  rw [close_apply]
  have h1 := aff_one (a := rcol a l) (b := rcol b l) fun i hi => ha (127 - i) (by omega)
  have h7 := aff_upto 64 (by decide) (by decide) (aff_upto 32 (by decide) (by decide) (aff_upto 16 (by decide) (by decide) (aff_upto 8 (by decide) (by decide)
    (aff_upto 4 (by decide) (by decide) (aff_upto 2 (by decide) (by decide) (aff_upto 1 (by decide) (by decide) h1))))))
  exact aff_all h7 hi _

end Cert.Rg
-- ==== Proof.RgConv.lean ====
module

public import proofs.«01_k».proof.Proof.RgChainVal

@[expose] public section

noncomputable section

namespace Cert.Rg

open Idealize.ShloMosaic Cert.KernelIdeal Cert.KernelIdeal.Gen

theorem rot_col (v : FVec Ideal S128x128 .f32) (s : BitVec 32) (r l : Fin 128) :
    dynamicRotate 0 s none v rotates_S128x128_d0 (ix2 r l) = col v l ((r.val + 128 - s.toNat % 128) % 128) := by
  rw [rot_apply v s r (Fin.ofNat 128 ((r.val + 128 - s.toNat % 128) % 128)) l (by simp)]
  rfl

theorem eqmask_apply (s : ℕ) (hs : s < 128) (r : Fin 128) :
    (cmpi .eq rows (broadcast S128x1 (BitVec.ofNat 32 s)) : IVec S128x1 1) (ix2 r 0) = 1 ↔ r.val = s := by
  show IntOp.cmpi .eq (rows (ix2 r 0)) (BitVec.ofNat 32 s) = 1 ↔ _
  rw [rows_apply, WordCmp.cmpi_eq_ofNat (by have := r.isLt; omega) (by omega)]; exact WordCmp.ofBool_decide_eq_one_iff _

/-- A chunk row's number in its sequence. -/
theorem pos_apply (k : Fin k0_t1_loop.trips) (r : Fin 128) :
    k0_pay10 rows 0#32 1#32 k (ix2 r 0) = BitVec.ofNat 32 (r.val + k.val * 128) := by
  show IntOp.addi (rows (ix2 r 0)) (Scalar.muli (Scf.iv 0#32 1#32 k) 128#32) = _
  rw [rows_apply]
  have hk : k.val < 2 := k.isLt
  have : Scalar.muli (Scf.iv 0#32 1#32 k) 128#32 = BitVec.ofNat 32 (k.val * 128) := by
    rcases (show k.val = 0 ∨ k.val = 1 by omega) with h | h <;> rw [h] <;> decide
  rw [this, WordCmp.addi_ofNat]

theorem posge_apply (k : Fin k0_t1_loop.trips) (r : Fin 128) (s : ℕ) (hs : s < 1000) :
    (cmpi .sge (k0_pay10 rows 0#32 1#32 k) (broadcast S128x1 (BitVec.ofNat 32 s)) : IVec S128x1 1) (ix2 r 0) = 1 ↔ s ≤ r.val + k.val * 128 := by
  show IntOp.cmpi .sge (k0_pay10 rows 0#32 1#32 k (ix2 r 0)) (BitVec.ofNat 32 s) = 1 ↔ _
  have hk : k.val < 2 := k.isLt
  rw [pos_apply, WordCmp.cmpi_sge_ofNat (by have := r.isLt; omega) (by omega)]; exact WordCmp.ofBool_decide_eq_one_iff _

theorem poslt_apply (k : Fin k0_t1_loop.trips) (r : Fin 128) (s : ℕ) (hs : s < 1000) :
    (cmpi .slt (k0_pay10 rows 0#32 1#32 k) (broadcast S128x1 (BitVec.ofNat 32 s)) : IVec S128x1 1) (ix2 r 0) = 1 ↔ r.val + k.val * 128 < s := by
  show IntOp.cmpi .slt (k0_pay10 rows 0#32 1#32 k (ix2 r 0)) (BitVec.ofNat 32 s) = 1 ↔ _
  have hk : k.val < 2 := k.isLt
  rw [pos_apply, WordCmp.cmpi_slt_ofNat (by have := r.isLt; omega) (by omega)]; exact WordCmp.ofBool_decide_eq_one_iff _

/-- A choice under a mask of rows. -/
theorem pick_apply (m : IVec S128x1 1) (x y : FVec Ideal S128x128 .f32) (r l : Fin 128) :
    select (spread m) x y (ix2 r l) = if m (ix2 r 0) = 1 then x (ix2 r l) else y (ix2 r l) := by
  show Scalar.select (spread m (ix2 r l)) _ _ = _
  rw [spread_apply]; rfl

/-- A row spread over the chunk's rows. -/
theorem row_apply (v : FVec Ideal S1x128 .f32) (r l : Fin 128) :
    broadcastTo S128x128 v broadcasts_S1x128_S128x128 (ix2 r l) = v (ix2 0 l) := by pointwise []

theorem prev_apply (x : FVec Ideal S128x128 .f32) (y : Vec Ideal S8x128 .f32) (r l : Fin 128) :
    k0_pay11 rows x y (ix2 r l) = if r.val = 0 then y (ix2 7 l) else col x l (r.val - 1) := by
  show select (spread (cmpi .eq rows (broadcast S128x1 (BitVec.ofNat 32 0)))) (broadcastTo S128x128 (shapeCast S1x128 (extractStridedSlice S1x128 ![7, 0] y slices_S8x128_o7_0_S1x128) shapeCasts_S1x128_S1x128) broadcasts_S1x128_S128x128)
    (dynamicRotate 0 1#32 none x rotates_S128x128_d0) (ix2 r l) = _
  rw [pick_apply, row_apply, shapeCast_self, rot_col]
  simp only [eqmask_apply 0 (by decide)]
  by_cases h : r.val = 0
  · rw [if_pos h, if_pos h]; pointwise []
  · rw [if_neg h, if_neg h]; congr 1
    simp only [BitVec.toNat_ofNat]; have := r.isLt; omega

theorem next_apply (x : FVec Ideal S128x128 .f32) (y : Vec Ideal S8x128 .f32) (r l : Fin 128) :
    k0_pay12 rows x y (ix2 r l) = if r.val = 127 then y (ix2 0 l) else col x l (r.val + 1) := by
  show select (spread (cmpi .eq rows (broadcast S128x1 (BitVec.ofNat 32 127)))) (broadcastTo S128x128 (shapeCast S1x128 (extractStridedSlice S1x128 ![0, 0] y slices_S8x128_o0_0_S1x128) shapeCasts_S1x128_S1x128) broadcasts_S1x128_S128x128)
    (dynamicRotate 0 127#32 none x rotates_S128x128_d0) (ix2 r l) = _
  rw [pick_apply, row_apply, shapeCast_self, rot_col]
  simp only [eqmask_apply 127 (by decide)]
  by_cases h : r.val = 127
  · rw [if_pos h, if_pos h]; pointwise []
  · rw [if_neg h, if_neg h]; congr 1
    simp only [BitVec.toNat_ofNat]; have := r.isLt; omega

/-- The row two below. -/
abbrev next2 (x : FVec Ideal S128x128 .f32) (y : Vec Ideal S8x128 .f32) : FVec Ideal S128x128 .f32 :=
  select (spread (k0_pay13 rows)) (broadcastTo S128x128 (shapeCast S1x128 (k0_pay14 y) shapeCasts_S1x128_S1x128) broadcasts_S1x128_S128x128)
    (select (k0_pay16 rows) (broadcastTo S128x128 (k0_pay17 y) broadcasts_S1x128_S128x128) (k0_pay15 x))

theorem next2_apply (x : FVec Ideal S128x128 .f32) (y : Vec Ideal S8x128 .f32) (r l : Fin 128) :
    next2 x y (ix2 r l) = if r.val = 126 then y (ix2 0 l) else if r.val = 127 then y (ix2 1 l) else col x l (r.val + 2) := by
  show select (spread (cmpi .eq rows (broadcast S128x1 (BitVec.ofNat 32 126)))) (broadcastTo S128x128 (shapeCast S1x128 (extractStridedSlice S1x128 ![0, 0] y slices_S8x128_o0_0_S1x128) shapeCasts_S1x128_S1x128) broadcasts_S1x128_S128x128)
    (select (spread (cmpi .eq rows (broadcast S128x1 (BitVec.ofNat 32 127)))) (broadcastTo S128x128 (shapeCast S1x128 (extractStridedSlice S1x128 ![1, 0] y slices_S8x128_o1_0_S1x128) shapeCasts_S1x128_S1x128) broadcasts_S1x128_S128x128)
    (dynamicRotate 0 126#32 none x rotates_S128x128_d0)) (ix2 r l) = _
  rw [pick_apply, pick_apply, row_apply, row_apply, shapeCast_self, shapeCast_self, rot_col]
  simp only [eqmask_apply 127 (by decide), eqmask_apply 126 (by decide)]
  by_cases h : r.val = 126
  · rw [if_pos h, if_pos h]; pointwise []
  · rw [if_neg h, if_neg h]
    by_cases h : r.val = 127
    · rw [if_pos h, if_pos h]; pointwise []
    · rw [if_neg h, if_neg h]; congr 1
      simp only [BitVec.toNat_ofNat]; have := r.isLt; omega

/-- Row `t` of the convolution of one sequence: the taps read rows `t - 1` to `t + 2`, zero outside the 256 rows. -/
def taps (x : ℕ → Fin 128 → EReal) (cw : Vec Ideal S4x128 .f32) (cb : Vec Ideal S1x128 .f32) (t : ℕ) (l : Fin 128) : EReal :=
  cw (ix2 0 l) * (if 1 ≤ t then x (t - 1) l else 0) + cw (ix2 1 l) * x t l + cw (ix2 2 l) * (if t < 255 then x (t + 1) l else 0)
    + cw (ix2 3 l) * (if t < 254 then x (t + 2) l else 0) + cb (ix2 0 l)

/-- A block of 256 rows by the row's number. -/
def seq (X : Vec Ideal S256x128 .f32) (t : ℕ) (l : Fin 128) : EReal := X (ix2 (Fin.ofNat 256 t) l)

/-- Row `r` of the rows read from row `c` on. -/
theorem ld_rows8 (X : Vec Ideal S256x128 .f32) (o : Fin 2 → ℕ) (c : ℕ) (ho : o = ![c, 0]) (hb : ∀ a, o a + S8x128.size a ≤ S256x128.size a)
    (r : Fin 8) (l : Fin 128) : (View.ld X (Rect.unit (s := S256x128) o S8x128.size hb) : Vec Ideal S8x128 .f32) (ix2 r l) = seq X (c + r.val) l := by
  subst ho
  have h0 := hb 0
  simp at h0
  unfold seq
  refine congrArg X (funext fun a => ?_)
  match a with
  | ⟨0, _⟩ => exact Fin.ext (by show c + 1 * r.val = (c + r.val) % 256; have := r.isLt; omega)
  | ⟨1, _⟩ => exact Fin.ext (by show 0 + 1 * l.val = l.val; omega)

theorem ld_rows (X : Vec Ideal S256x128 .f32) (o : Fin 2 → ℕ) (c : ℕ) (ho : o = ![c, 0]) (hb : ∀ a, o a + S128x128.size a ≤ S256x128.size a)
    (l : Fin 128) (i : ℕ) (hi : i < 128) : col (View.ld X (Rect.unit (s := S256x128) o S128x128.size hb)) l i = seq X (c + i) l := by
  subst ho
  have h0 := hb 0
  simp at h0
  unfold seq col
  refine congrArg X (funext fun a => ?_)
  match a with
  | ⟨0, _⟩ => exact Fin.ext (by show c + 1 * (i % 128) = (c + i) % 256; omega)
  | ⟨1, _⟩ => exact Fin.ext (by show 0 + 1 * l.val = l.val; omega)

theorem o2_0 : k0_off2 ⟨0, z1⟩ = ![0, 0] := by decide
theorem o2_1 : k0_off2 ⟨1, u1⟩ = ![120, 0] := by decide
theorem o3_0 : k0_off3 ⟨0, z1⟩ = ![128, 0] := by decide
theorem o3_1 : k0_off3 ⟨1, u1⟩ = ![248, 0] := by decide

/-- The convolution payload at an entry, from the chunk and the rows before and after it. -/
theorem conv_apply (cw : Vec Ideal S4x128 .f32) (cb : Vec Ideal S1x128 .f32) (x : Vec Ideal S128x128 .f32) (p q : Vec Ideal S8x128 .f32)
    (k : Fin k0_t1_loop.trips) (n : ℕ) (hn : k.val = n) (r l : Fin 128) :
    k0_pay1 cw cb x (k0_pay10 rows 0#32 1#32 k) (k0_pay11 rows x p) (k0_pay12 rows x q) (k0_pay13 rows) (k0_pay14 q)
      (k0_pay15 x) (k0_pay16 rows) (k0_pay17 q) (ix2 r l)
    = cw (ix2 0 l) * (if 1 ≤ r.val + n * 128 then (if r.val = 0 then p (ix2 7 l) else col x l (r.val - 1)) else 0) + cw (ix2 1 l) * x (ix2 r l)
      + cw (ix2 2 l) * (if r.val + n * 128 < 255 then (if r.val = 127 then q (ix2 0 l) else col x l (r.val + 1)) else 0)
      + cw (ix2 3 l) * (if r.val + n * 128 < 254 then (if r.val = 126 then q (ix2 0 l) else if r.val = 127 then q (ix2 1 l) else col x l (r.val + 2)) else 0)
      + cb (ix2 0 l) := by
  subst hn
  unfold k0_pay1
  rw [shapeCast_self _ shapeCasts_S128x128_S128x128]
  show broadcastTo S128x128 (extractStridedSlice S1x128 ![0, 0] cw slices_S4x128_o0_0_S1x128) broadcasts_S1x128_S128x128 (ix2 r l)
        * select (spread (cmpi .sge (k0_pay10 rows 0#32 1#32 k) (broadcast S128x1 (BitVec.ofNat 32 1)))) (k0_pay11 rows x p) (broadcast S128x128 (Scalar.ofBits .f32 0x00000000#32)) (ix2 r l)
      + broadcastTo S128x128 (extractStridedSlice S1x128 ![1, 0] cw slices_S4x128_o1_0_S1x128) broadcasts_S1x128_S128x128 (ix2 r l) * x (ix2 r l)
      + broadcastTo S128x128 (extractStridedSlice S1x128 ![2, 0] cw slices_S4x128_o2_0_S1x128) broadcasts_S1x128_S128x128 (ix2 r l)
        * select (spread (cmpi .slt (k0_pay10 rows 0#32 1#32 k) (broadcast S128x1 (BitVec.ofNat 32 255)))) (k0_pay12 rows x q) (broadcast S128x128 (Scalar.ofBits .f32 0x00000000#32)) (ix2 r l)
      + broadcastTo S128x128 (extractStridedSlice S1x128 ![3, 0] cw slices_S4x128_o3_0_S1x128) broadcasts_S1x128_S128x128 (ix2 r l)
        * select (spread (cmpi .slt (k0_pay10 rows 0#32 1#32 k) (broadcast S128x1 (BitVec.ofNat 32 254)))) (next2 x q) (broadcast S128x128 (Scalar.ofBits .f32 0x00000000#32)) (ix2 r l)
      + broadcastTo S128x128 (shapeCast S1x128 cb shapeCasts_S1x128_S1x128) broadcasts_S1x128_S128x128 (ix2 r l) = _
  have z : (broadcast S128x128 (Scalar.ofBits (F := Ideal) .f32 0x00000000#32) : FVec Ideal S128x128 .f32) (ix2 r l) = 0 := Ideal.ofBits_zero_f32
  rw [pick_apply, pick_apply, pick_apply, row_apply, row_apply, row_apply, row_apply, row_apply, shapeCast_self, prev_apply, next_apply, next2_apply, z]
  simp only [posge_apply k r 1 (by decide), poslt_apply k r 255 (by decide), poslt_apply k r 254 (by decide)]
  have e0 : extractStridedSlice S1x128 ![0, 0] cw slices_S4x128_o0_0_S1x128 (ix2 0 l) = cw (ix2 0 l) := by pointwise []
  have e1 : extractStridedSlice S1x128 ![1, 0] cw slices_S4x128_o1_0_S1x128 (ix2 0 l) = cw (ix2 1 l) := by pointwise []
  have e2 : extractStridedSlice S1x128 ![2, 0] cw slices_S4x128_o2_0_S1x128 (ix2 0 l) = cw (ix2 2 l) := by pointwise []
  have e3 : extractStridedSlice S1x128 ![3, 0] cw slices_S4x128_o3_0_S1x128 (ix2 0 l) = cw (ix2 3 l) := by pointwise []
  rw [e0, e1, e2, e3]

/-- The first chunk's convolution, and the last's. -/
theorem convLo_apply (b : Blocks Ideal) (l : Fin 128) (i : ℕ) (hi : i < 128) :
    col (convLo b) l i = taps (seq b.x) b.cw b.cb i l := by
  have e : (Fin.ofNat 128 i).val = i := Nat.mod_eq_of_lt hi
  unfold col convLo convRows
  dsimp only
  rw [conv_apply _ _ _ _ _ _ 0 rfl, col_eq (chunk1 b.x ⟨0, z1⟩), ld_rows8 b.x _ 0 o2_0, ld_rows8 b.x _ 128 o3_0, ld_rows8 b.x _ 128 o3_0]
  simp only [e]
  unfold taps chunk1
  rw [ld_rows b.x _ 0 o1_0 _ l i hi]
  congr 1; congr 1
  · congr 1
    · congr 1
      · congr 1
        by_cases h : 1 ≤ i
        · rw [if_pos (show 1 ≤ i + 0 * 128 by omega), if_neg (show ¬ i = 0 by omega), if_pos h, ld_rows b.x _ 0 o1_0 _ l (i - 1) (by omega), Nat.zero_add]
        · rw [if_neg (show ¬ 1 ≤ i + 0 * 128 by omega), if_neg h]
      · rw [Nat.zero_add]
    · congr 1
      rw [if_pos (show i + 0 * 128 < 255 by omega), if_pos (show i < 255 by omega)]
      by_cases h : i = 127
      · rw [if_pos h, h]; rfl
      · rw [if_neg h, ld_rows b.x _ 0 o1_0 _ l (i + 1) (by omega), Nat.zero_add]
  · congr 1
    rw [if_pos (show i + 0 * 128 < 254 by omega), if_pos (show i < 254 by omega)]
    by_cases h : i = 126
    · rw [if_pos h, h]; rfl
    · rw [if_neg h]
      by_cases h : i = 127
      · rw [if_pos h, h]; rfl
      · rw [if_neg h, ld_rows b.x _ 0 o1_0 _ l (i + 2) (by omega), Nat.zero_add]

theorem convHi_apply (b : Blocks Ideal) (l : Fin 128) (i : ℕ) (hi : i < 128) :
    col (convHi b) l i = taps (seq b.x) b.cw b.cb (128 + i) l := by
  have e : (Fin.ofNat 128 i).val = i := Nat.mod_eq_of_lt hi
  unfold col convHi convRows
  dsimp only
  rw [conv_apply _ _ _ _ _ _ 1 rfl, col_eq (chunk1 b.x ⟨1, u1⟩), ld_rows8 b.x _ 120 o2_1, ld_rows8 b.x _ 248 o3_1, ld_rows8 b.x _ 248 o3_1]
  simp only [e]
  unfold taps chunk1
  rw [ld_rows b.x _ 128 o1_1 _ l i hi]
  congr 1; congr 1
  · congr 1
    · congr 1
      congr 1
      rw [if_pos (show 1 ≤ i + 1 * 128 by omega), if_pos (show 1 ≤ 128 + i by omega)]
      by_cases h : i = 0
      · rw [if_pos h, h]; rfl
      · rw [if_neg h, ld_rows b.x _ 128 o1_1 _ l (i - 1) (by omega)]; congr 1; omega
    · congr 1
      by_cases h : i < 127
      · rw [if_pos (show i + 1 * 128 < 255 by omega), if_pos (show 128 + i < 255 by omega), if_neg (show ¬ i = 127 by omega), ld_rows b.x _ 128 o1_1 _ l (i + 1) (by omega)]; rfl
      · rw [if_neg (show ¬ i + 1 * 128 < 255 by omega), if_neg (show ¬ 128 + i < 255 by omega)]
  · congr 1
    by_cases h : i < 126
    · rw [if_pos (show i + 1 * 128 < 254 by omega), if_pos (show 128 + i < 254 by omega), if_neg (show ¬ i = 126 by omega), if_neg (show ¬ i = 127 by omega), ld_rows b.x _ 128 o1_1 _ l (i + 2) (by omega)]; rfl
    · rw [if_neg (show ¬ i + 1 * 128 < 254 by omega), if_neg (show ¬ 128 + i < 254 by omega)]

end Cert.Rg
-- ==== Proof.RgGate.lean ====
module

public import proofs.«01_k».proof.Proof.RgConv

@[expose] public section

noncomputable section

namespace Cert.Rg

open Idealize.ShloMosaic Cert.KernelIdeal Cert.KernelIdeal.Gen

/-- One gate before the sigmoid: row `x` of the convolution against column `j` of the block's weights, and the bias. -/
def pre (x : Fin 128 → EReal) (w : Vec Ideal S1x128x512 .bf16) (gb : Vec Ideal S1x1x512 .f32) (j : Fin 512) : EReal :=
  (∑ k : Fin 128, x k * w (ix3 0 k j)) + gb (ix3 0 0 j)

/-- The decay of one step, and what the step adds. -/
def decay (c g : EReal) : EReal := Ideal.exp (c * Ideal.logistic g)
def gain (a g x : EReal) : EReal := Ideal.sqrt (1 - a * a) * (Ideal.logistic g * x)

/-- Column `l` of the gate `g` (0 the decay's, 1 the input's) of direction `d`. -/
def gcol (d g : ℕ) (h : d * 256 + g * 128 + 128 ≤ 512) (l : Fin 128) : Fin 512 := ⟨d * 256 + g * 128 + l.val, by have := l.isLt; omega⟩

theorem decay_fwd (x : Vec Ideal S128x128 .f32) (w : Vec Ideal S1x128x512 .bf16) (gb : Vec Ideal S1x1x512 .f32) (c : Vec Ideal S1x128 .f32)
    (r l : Fin 128) : k0_pay19 x w gb c (ix2 r l) = decay (c (ix2 0 l)) (pre (fun k => x (ix2 r k)) w gb (gcol 0 0 (by decide) l)) := by
  pointwise [k0_pay19, k0_pay18, decay, pre, gcol]

theorem gain_fwd (x : Vec Ideal S128x128 .f32) (w : Vec Ideal S1x128x512 .bf16) (gb : Vec Ideal S1x1x512 .f32) (c : Vec Ideal S1x128 .f32)
    (r l : Fin 128) : k0_pay20 x w gb c (ix2 r l)
      = gain (k0_pay19 x w gb c (ix2 r l)) (pre (fun k => x (ix2 r k)) w gb (gcol 0 1 (by decide) l)) (x (ix2 r l)) := by
  pointwise [k0_pay20, k0_pay18, gain, pre, gcol]

theorem decay_bwd (x : Vec Ideal S128x128 .f32) (w : Vec Ideal S1x128x512 .bf16) (gb : Vec Ideal S1x1x512 .f32) (c : Vec Ideal S1x128 .f32)
    (r l : Fin 128) : k0_pay23 (k0_pay21 x w) gb c (ix2 r l) = decay (c (ix2 0 l)) (pre (fun k => x (ix2 r k)) w gb (gcol 1 0 (by decide) l)) := by
  pointwise [k0_pay23, k0_pay22, k0_pay21, decay, pre, gcol]

theorem gain_bwd (x : Vec Ideal S128x128 .f32) (w : Vec Ideal S1x128x512 .bf16) (gb : Vec Ideal S1x1x512 .f32) (c : Vec Ideal S1x128 .f32)
    (r l : Fin 128) : k0_pay24 x (k0_pay21 x w) gb c (ix2 r l)
      = gain (k0_pay23 (k0_pay21 x w) gb c (ix2 r l)) (pre (fun k => x (ix2 r k)) w gb (gcol 1 1 (by decide) l)) (x (ix2 r l)) := by
  pointwise [k0_pay24, k0_pay22, k0_pay21, gain, pre, gcol]
  simp only [show 256 + (128 + l.val) = 384 + l.val by omega]

/-- The tanh form of the gated output's nonlinearity. -/
def gelu (g : EReal) : EReal :=
  g * (Ideal.ofBits .f32 0x3F000000#32 * (1 + Ideal.tanh (Ideal.ofBits .f32 0x3F4C422A#32 * (g + Ideal.ofBits .f32 0x3D372713#32 * (g * (g * g))))))

theorem out_apply (p q g : Vec Ideal S128x128 .f32) (r l : Fin 128) :
    k0_pay9 (k0_pay6 p) (k0_pay6 q) g (ix2 r l) = (p (ix2 r l) + q (ix2 r l)) * gelu (g (ix2 r l)) := by
  unfold k0_pay6
  rw [shapeCast_self, shapeCast_self]
  pointwise [k0_pay9, gelu]

theorem state0_apply (h : Vec Ideal S1x2x128 .f32) (l : Fin 128) : k0_pay2 h (ix2 0 l) = h (ix3 0 0 l) := by
  pointwise [k0_pay2]
theorem state1_apply (h : Vec Ideal S1x2x128 .f32) (l : Fin 128) : k0_pay3 h (ix2 0 l) = h (ix3 0 1 l) := by
  pointwise [k0_pay3]
theorem last_apply (v : FVec Ideal S128x128 .f32) (l : Fin 128) : lastRow v (ix2 0 l) = col v l 127 := by
  unfold col
  pointwise [lastRow]
  rfl
theorem first_apply (v : FVec Ideal S128x128 .f32) (l : Fin 128) : firstRow v (ix2 0 l) = rcol v l 127 := by
  unfold rcol col
  pointwise [firstRow]
  rfl
theorem states_apply (p q : FVec Ideal S1x128 .f32) (l : Fin 128) :
    k0_pay8 p q (ix3 0 0 l) = p (ix2 0 l) ∧ k0_pay8 p q (ix3 0 1 l) = q (ix2 0 l) := by
  constructor <;> pointwise [k0_pay8]

end Cert.Rg
-- ==== Proof.RgBlockVal.lean ====
module

public import proofs.«01_k».proof.Proof.RgGate

@[expose] public section

noncomputable section

namespace Cert.Rg

open Idealize.ShloMosaic Cert.KernelIdeal Cert.KernelIdeal.Gen

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≤ 0) : Ideal.exp x ≠ ⊤ := by
  induction x with
  | bot => exact EReal.zero_ne_top
  | top => simp at h
  | coe r => exact EReal.coe_ne_top _

theorem logistic_nonneg (x : EReal) : 0 ≤ Ideal.logistic x := by
  unfold Ideal.logistic Ideal.div
  have hy : 0 ≤ 1 + Ideal.exp (-x) := add_nonneg zero_le_one (exp_nonneg _)
  split_ifs
  · exact le_top
  · simp at *
  · rw [one_mul]; exact EReal.inv_nonneg_of_nonneg hy

theorem mul_nonpos {x y : EReal} (hx : x ≤ 0) (hy : 0 ≤ y) : x * y ≤ 0 := by
  have h : 0 ≤ -x := by simpa using EReal.neg_le_neg_iff.mpr hx
  have := EReal.mul_nonneg h hy
  rw [EReal.neg_mul] at this
  simpa using EReal.neg_le_neg_iff.mpr this

/-- A decay lies between zero and one. -/
theorem decay_bounds {c : EReal} (hc : c ≤ 0) (g : EReal) : 0 ≤ decay c g ∧ decay c g ≠ ⊤ :=
  ⟨exp_nonneg _, exp_ne_top (mul_nonpos hc (logistic_nonneg g))⟩

/-- The decay of row `t` in each direction, and what the row adds. -/
def aF (b : Blocks Ideal) (l : Fin 128) (t : ℕ) : EReal :=
  decay (b.ca (ix2 0 l)) (pre (taps (seq b.x) b.cw b.cb t) b.w b.gb (gcol 0 0 (by decide) l))
def bF (b : Blocks Ideal) (l : Fin 128) (t : ℕ) : EReal :=
  gain (aF b l t) (pre (taps (seq b.x) b.cw b.cb t) b.w b.gb (gcol 0 1 (by decide) l)) (taps (seq b.x) b.cw b.cb t l)
def aB (b : Blocks Ideal) (l : Fin 128) (t : ℕ) : EReal :=
  decay (b.ca (ix2 1 l)) (pre (taps (seq b.x) b.cw b.cb t) b.w b.gb (gcol 1 0 (by decide) l))
def bB (b : Blocks Ideal) (l : Fin 128) (t : ℕ) : EReal :=
  gain (aB b l t) (pre (taps (seq b.x) b.cw b.cb t) b.w b.gb (gcol 1 1 (by decide) l)) (taps (seq b.x) b.cw b.cb t l)

/-- The forward state after row `t`, and the backward state after row `t` (which comes `256 - t` steps from the end). -/
def stF (b : Blocks Ideal) (l : Fin 128) (t : ℕ) : EReal := run (aF b l) (bF b l) 0 (t + 1) (b.h0 (ix3 0 0 l))
def stB (b : Blocks Ideal) (l : Fin 128) (t : ℕ) : EReal :=
  run (fun n => aB b l (255 - n)) (fun n => bB b l (255 - n)) 0 (256 - t) (b.h0 (ix3 0 1 l))

theorem ca_row (ca : Vec Ideal S2x128 .f32) (l : Fin 128) :
    (View.ld ca (Rect.unit (s := S2x128) ![0, 0] S1x128.size inb_S2x128_S1x128_0_0) : Vec Ideal S1x128 .f32) (ix2 0 l) = ca (ix2 0 l)
    ∧ (View.ld ca (Rect.unit (s := S2x128) ![1, 0] S1x128.size inb_S2x128_S1x128_1_0) : Vec Ideal S1x128 .f32) (ix2 0 l) = ca (ix2 1 l) := by
  constructor
  · refine congrArg ca (funext fun a => ?_)
    match a with
    | ⟨0, _⟩ => rfl
    | ⟨1, _⟩ => exact Fin.ext (by show 0 + 1 * l.val = l.val; omega)
  · refine congrArg ca (funext fun a => ?_)
    match a with
    | ⟨0, _⟩ => rfl
    | ⟨1, _⟩ => exact Fin.ext (by show 0 + 1 * l.val = l.val; omega)

/-- A chunk of the forward scan whose first row is row `s` of the sequence. -/
theorem fwdOf_apply (b : Blocks Ideal) (hca : ∀ d l, b.ca (ix2 d l) ≤ 0) (x : FVec Ideal S128x128 .f32) (s : ℕ)
    (hx : ∀ l, ∀ i < 128, col x l i = taps (seq b.x) b.cw b.cb (s + i) l) (h : FVec Ideal S1x128 .f32) (l : Fin 128) (i : ℕ) (hi : i < 128) :
    col (fwdOf x b.w b.gb b.ca h) l i = run (aF b l) (bF b l) s (i + 1) (h (ix2 0 l)) := by
  have hrow : ∀ j < 128, (fun k => x (ix2 (Fin.ofNat 128 j) k)) = taps (seq b.x) b.cw b.cb (s + j) := fun j hj => funext fun k => hx k j hj
  unfold fwdOf
  dsimp only
  have hA : ∀ j < 128, col (k0_pay19 x b.w b.gb (View.ld b.ca (Rect.unit (s := S2x128) ![0, 0] S1x128.size inb_S2x128_S1x128_0_0))) l j = aF b l (s + j) := by
    intro j hj
    unfold col
    rw [decay_fwd, hrow j hj, (ca_row b.ca l).1]
    rfl
  have hB : ∀ j < 128, col (k0_pay20 x b.w b.gb (View.ld b.ca (Rect.unit (s := S2x128) ![0, 0] S1x128.size inb_S2x128_S1x128_0_0))) l j = bF b l (s + j) := by
    intro j hj
    have := hA j hj
    unfold col at this ⊢
    rw [gain_fwd, hrow j hj, this]
    unfold bF
    rw [← hx l j hj]
    rfl
  rw [fwdChain_apply _ _ _ _ (fun j hj => by rw [hA j hj]; exact decay_bounds (hca 0 l) _) i hi]
  exact run_congr (fun j hj => by
    rw [Nat.zero_add]
    exact ⟨hA j (by omega), hB j (by omega)⟩) _

/-- A chunk of the backward scan whose last row is row `255 - s` of the sequence. -/
theorem bwdOf_apply (b : Blocks Ideal) (hca : ∀ d l, b.ca (ix2 d l) ≤ 0) (x : FVec Ideal S128x128 .f32) (s : ℕ)
    (hx : ∀ l, ∀ i < 128, col x l (127 - i) = taps (seq b.x) b.cw b.cb (255 - (s + i)) l) (h : FVec Ideal S1x128 .f32) (l : Fin 128) (i : ℕ) (hi : i < 128) :
    rcol (bwdOf x b.w b.gb b.ca h) l i = run (fun n => aB b l (255 - n)) (fun n => bB b l (255 - n)) s (i + 1) (h (ix2 0 l)) := by
  have hrow : ∀ j < 128, (fun k => x (ix2 (Fin.ofNat 128 (127 - j)) k)) = taps (seq b.x) b.cw b.cb (255 - (s + j)) := fun j hj => funext fun k => hx k j hj
  unfold bwdOf
  dsimp only
  have hA : ∀ j < 128, rcol (k0_pay23 (k0_pay21 x b.w) b.gb (View.ld b.ca (Rect.unit (s := S2x128) ![1, 0] S1x128.size inb_S2x128_S1x128_1_0))) l j = aB b l (255 - (s + j)) := by
    intro j hj
    unfold rcol col
    rw [decay_bwd, hrow j hj, (ca_row b.ca l).2]
    rfl
  have hB : ∀ j < 128, rcol (k0_pay24 x (k0_pay21 x b.w) b.gb (View.ld b.ca (Rect.unit (s := S2x128) ![1, 0] S1x128.size inb_S2x128_S1x128_1_0))) l j = bB b l (255 - (s + j)) := by
    intro j hj
    have := hA j hj
    unfold rcol col at this ⊢
    rw [gain_bwd, hrow j hj, this]
    unfold bB
    rw [← hx l j hj]
    rfl
  have hb : ∀ j < 128, 0 ≤ rcol (k0_pay23 (k0_pay21 x b.w) b.gb (View.ld b.ca (Rect.unit (s := S2x128) ![1, 0] S1x128.size inb_S2x128_S1x128_1_0))) l j
      ∧ rcol (k0_pay23 (k0_pay21 x b.w) b.gb (View.ld b.ca (Rect.unit (s := S2x128) ![1, 0] S1x128.size inb_S2x128_S1x128_1_0))) l j ≠ ⊤ :=
    fun j hj => by rw [hA j hj]; exact decay_bounds (hca 1 l) _
  rw [bwdChain_apply _ _ _ _ (fun j hj => by
    have := hb (127 - j) (by omega)
    unfold rcol at this
    rwa [show 127 - (127 - j) = j by omega] at this) i hi]
  exact run_congr (fun j hj => by
    rw [Nat.zero_add]
    exact ⟨hA j (by omega), hB j (by omega)⟩) _

variable (b : Blocks Ideal) (hca : ∀ d l, b.ca (ix2 d l) ≤ 0)
include hca

theorem fwdLo_apply (l : Fin 128) (i : ℕ) (hi : i < 128) : col (fwdLo b) l i = stF b l i := by
  unfold fwdLo stF
  rw [fwdOf_apply b hca _ 0 (fun l i hi => by rw [convLo_apply b l i hi, Nat.zero_add]) _ l i hi, state0_apply]

theorem fwdHi_apply (l : Fin 128) (i : ℕ) (hi : i < 128) : col (fwdHi b) l i = stF b l (128 + i) := by
  unfold fwdHi
  rw [fwdOf_apply b hca _ 128 (fun l i hi => convHi_apply b l i hi) _ l i hi, last_apply, fwdLo_apply b hca l 127 (by decide)]
  unfold stF
  rw [show 128 + i + 1 = 128 + (i + 1) by omega, run_add _ _ 0 128 (i + 1), Nat.zero_add]

theorem bwdHi_apply (l : Fin 128) (i : ℕ) (hi : i < 128) : rcol (bwdHi b) l i = stB b l (255 - i) := by
  unfold bwdHi stB
  rw [bwdOf_apply b hca _ 0 (fun l i hi => by rw [convHi_apply b l _ (by omega)]; congr 1; omega) _ l i hi, state1_apply,
    show 256 - (255 - i) = i + 1 by omega]

theorem bwdLo_apply (l : Fin 128) (i : ℕ) (hi : i < 128) : rcol (bwdLo b) l i = stB b l (127 - i) := by
  unfold bwdLo
  rw [bwdOf_apply b hca _ 128 (fun l i hi => by rw [convLo_apply b l _ (by omega)]; congr 1; omega) _ l i hi, first_apply, bwdHi_apply b hca l 127 (by decide)]
  unfold stB
  rw [show 256 - (127 - i) = 128 + (i + 1) by omega, run_add _ _ 0 128 (i + 1), Nat.zero_add]

/-- The output block at row `t`, column `l`. -/
theorem yBlock_apply (t : Fin 256) (l : Fin 128) :
    yBlock b (ix2 t l) = (stF b l t.val + stB b l t.val) * gelu (seq b.gate t.val l) := by
  have ht := t.isLt
  unfold yBlock stitch
  by_cases h : t.val < 128
  · rw [dif_pos (show ((ix2 t l : S256x128.Idx) 0).val < 128 from h)]
    show k0_pay9 _ _ _ (ix2 ⟨t.val, h⟩ l) = _
    rw [out_apply, col_eq (fwdLo b), col_eq (bwdLo b), col_eq (View.ld b.gate lo), ld_rows b.gate _ 0 rfl _ l _ h, fwdLo_apply b hca l _ h, Nat.zero_add]
    have := bwdLo_apply b hca l (127 - t.val) (by omega)
    unfold rcol at this
    rw [show 127 - (127 - t.val) = t.val by omega] at this
    rw [this]
  · rw [dif_neg (show ¬ ((ix2 t l : S256x128.Idx) 0).val < 128 from h)]
    show k0_pay9 _ _ _ (ix2 ⟨t.val - 128, by omega⟩ l) = _
    rw [out_apply, col_eq (fwdHi b), col_eq (bwdHi b), col_eq (View.ld b.gate hi), ld_rows b.gate _ 128 rfl _ l _ (show t.val - 128 < 128 by omega),
      fwdHi_apply b hca l _ (show t.val - 128 < 128 by omega)]
    have := bwdHi_apply b hca l (255 - t.val) (by omega)
    unfold rcol at this
    rw [show 127 - (255 - t.val) = t.val - 128 by omega, show 255 - (255 - t.val) = t.val by omega] at this
    rw [this, show 128 + (t.val - 128) = t.val by omega]

/-- The block of final states. -/
theorem hBlock_apply (l : Fin 128) : hBlock b (ix3 0 0 l) = stF b l 255 ∧ hBlock b (ix3 0 1 l) = stB b l 0 := by
  unfold hBlock
  rw [(states_apply _ _ l).1, (states_apply _ _ l).2, last_apply, first_apply, fwdHi_apply b hca l 127 (by decide), bwdLo_apply b hca l 127 (by decide)]
  exact ⟨rfl, rfl⟩

end Cert.Rg
-- ==== Proof.RgArray.lean ====
/-
  The arrays the recurrence kernel's launch finds: what the host operations before it leave, read at an index.
-/
module

public import proofs.«01_k».proof.Proof.RgBlockVal
public import proofs.«01_k».proof.Proof.RgFrame

@[expose] public section

set_option maxRecDepth 16384

noncomputable section

namespace Cert.Rg

open Idealize.ShloMosaic Idealize.ShloMosaic.TcCoe Idealize.SL.Sem Cert.KernelIdeal Cert.KernelIdeal.Gen

variable (m : (ℓ : Loc nD τ sig) → Buf (Elt Ideal) ℓ)

/-- The gate weights as the launch finds them. -/
theorem V_w (c : Dev nD) : V m c main_v2 = truncf (F := Ideal) .bf16 (shapeCast S4x128x512
    (transpose S4x128x2x2x128 [2, 3, 0, 1, 4] (m ((c : Thread nD τ).loc main_arg3)) transposes_S2x2x4x128x128_S4x128x2x2x128_2_3_0_1_4)
    shapeCasts_S4x128x2x2x128_S4x128x512) bitsLt_bf16_f32 := by
  show StableHlo.after _ _ _ = _
  simp only [List.flatten_cons, List.flatten_nil, List.append_nil, List.cons_append, List.nil_append, StableHlo.after_cons, StableHlo.after_nil]
  rfl

/-- The gate biases as the launch finds them. -/
theorem V_gb (c : Dev nD) : V m c main_v5 = shapeCast S4x1x512 (transpose S4x2x2x128 [2, 0, 1, 3]
    (shapeCast S2x2x4x128 (m ((c : Thread nD τ).loc main_arg4)) shapeCasts_S2x2x512_S2x2x4x128)
    transposes_S2x2x4x128_S4x2x2x128_2_0_1_3) shapeCasts_S4x2x2x128_S4x1x512 := by
  show StableHlo.after _ _ _ = _
  simp only [List.flatten_cons, List.flatten_nil, List.append_nil, List.cons_append, List.nil_append, StableHlo.after_cons, StableHlo.after_nil]
  rfl

/-- The convolution's bias as the launch finds it. -/
theorem V_cb (c : Dev nD) : V m c main_v10 = shapeCast S1x512 (m ((c : Thread nD τ).loc main_arg2)) shapeCasts_S512_S1x512 := by
  show StableHlo.after _ _ _ = _
  simp only [List.flatten_cons, List.flatten_nil, List.append_nil, List.cons_append, List.nil_append, StableHlo.after_cons, StableHlo.after_nil]
  rfl

/-- `log (1 + exp x)` as the host computes it over an array. -/
def splusV (x : FVec Ideal S2x512 .f32) : FVec Ideal S2x512 .f32 :=
  let z := broadcastInDim S2x512 ![] bcast_S_S2x512 (constant (F := Ideal) S_ .f32 0x00000000#32)
  select (cmpf .une (subf x z) (subf x z)) (addf x z)
    (addf (maximumf x z) (Host.log1p (Host.exp (Host.negf (Host.absf (subf x z))))))

/-- The decay rates as the launch finds them. -/
theorem V_ca (c : Dev nD) : V m c main_v9 = mulf (broadcastInDim S2x512 ![] bcast_S_S2x512 (constant (F := Ideal) S_ .f32 0xC1000000#32))
    (splusV (Host.negf (F := Ideal) (m ((c : Thread nD τ).loc main_arg5)))) := by
  show StableHlo.after _ _ _ = _
  simp only [List.flatten_cons, List.flatten_nil, List.append_nil, List.cons_append, List.nil_append, StableHlo.after_cons, StableHlo.after_nil]
  rfl

/-- `log (1 + exp x)`, as `max x 0 + log (1 + exp (- |x|))`. -/
def splus (x : EReal) : EReal := max x 0 + Ideal.log1p (Ideal.exp (-(FloatOps.absf (F := Ideal) (φ := .f32) x : EReal)))

/-- The decay rate of a channel: `-8 · log (1 + exp (- x))`. -/
def rate (x : EReal) : EReal := Ideal.ofBits .f32 0xC1000000#32 * splus (-x)

theorem splusV_apply (x : FVec Ideal S2x512 .f32) (d : Fin 2) (l : Fin 512) : splusV x (ix2 d l) = splus (x (ix2 d l)) := by
  unfold splusV
  pointwise [splus]
  rw [if_neg (not_not.mpr rfl)]

/-- Channel `l` of head `h`. -/
def hl (h : Fin 4) (l : Fin 128) : Fin 512 := ⟨128 * h.val + l.val, by have := l.isLt; have := h.isLt; omega⟩

/-- Channel `l` of head `h` among the projection's columns from `o` on. -/
def zc (o : ℕ) (ho : o + 512 ≤ 6144) (h : Fin 4) (l : Fin 128) : Fin 6144 := ⟨o + 128 * h.val + l.val, by have := l.isLt; have := h.isLt; omega⟩

/-- Row `t` of sequence `b`. -/
def bt (b : Fin 32) (t : Fin 256) : Fin 8192 := ⟨256 * b.val + t.val, by have := t.isLt; have := b.isLt; omega⟩

/-- The gate weights the launch finds, at an index: column `d·256 + g·128 + l` of head `h` is column `l` of gate `g`, direction `d`. -/
theorem w_apply (c : Dev nD) (h : Fin 4) (k : Fin 128) (d g : Fin 2) (l : Fin 128) (hc) :
    V m c main_v2 (ix3 h k (gcol d g hc l)) = m ((c : Thread nD τ).loc main_arg3) (ix5 d g h k l) := by
  rw [V_w]
  generalize m ((c : Thread nD τ).loc main_arg3) = A
  unfold gcol
  pointwise

/-- The gate biases the launch finds, at an index. -/
theorem gb_apply (c : Dev nD) (h : Fin 4) (d g : Fin 2) (l : Fin 128) (hc) :
    V m c main_v5 (ix3 h 0 (gcol d g hc l)) = m ((c : Thread nD τ).loc main_arg4) (ix3 d g (hl h l)) := by
  rw [V_gb]
  generalize m ((c : Thread nD τ).loc main_arg4) = A
  unfold gcol hl
  pointwise
  simp only [Nat.mul_comm]

theorem cb_apply (c : Dev nD) (l : Fin 512) : V m c main_v10 (ix2 0 l) = m ((c : Thread nD τ).loc main_arg2) (ix1 l) := by
  rw [V_cb]
  pointwise

theorem ca_apply (c : Dev nD) (d : Fin 2) (l : Fin 512) :
    V m c main_v9 (ix2 d l) = rate (m ((c : Thread nD τ).loc main_arg5) (ix2 d l)) := by
  rw [V_ca]
  pointwise [splusV_apply, rate]

/-- Point `(b, h)` of the grid. -/
def pt (b : Fin 32) (h : Fin 4) : Fin cfg0.N := ⟨4 * b.val + h.val, by rw [show cfg0.N = 128 from N_0]; have := b.isLt; have := h.isLt; omega⟩

theorem idx0 : ∀ t : Fin cfg0.N, win0_0.index t = ![t.val / 4, 12 + t.val % 4] := (by decide +kernel : ∀ t : Fin grid0.N, _)
theorem idx1 : ∀ t : Fin cfg0.N, win0_1.index t = ![t.val / 4, 16 + t.val % 4] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![t.val % 4, 0, 0] := (by decide +kernel : ∀ t : Fin grid0.N, _)
theorem idx5 : ∀ t : Fin cfg0.N, win0_5.index t = ![t.val % 4, 0, 0] := (by decide +kernel : ∀ t : Fin grid0.N, _)
theorem idx6 : ∀ t : Fin cfg0.N, win0_6.index t = ![0, t.val % 4] := (by decide +kernel : ∀ t : Fin grid0.N, _)
theorem idx7 : ∀ t : Fin cfg0.N, win0_7.index t = ![t.val / 4, 0, t.val % 4] := (by decide +kernel : ∀ t : Fin grid0.N, _)
theorem idx8 : ∀ t : Fin cfg0.N, win0_8.index t = ![t.val / 4, t.val % 4] := (by decide +kernel : ∀ t : Fin grid0.N, _)
theorem idx9 : ∀ t : Fin cfg0.N, win0_9.index t = ![t.val / 4, 0, t.val % 4] := (by decide +kernel : ∀ t : Fin grid0.N, _)

/-- The block of the recurrence's input. -/
theorem blk_x (c : Dev nD) (b : Fin 32) (h : Fin 4) (t : Fin 256) (l : Fin 128) :
    (blocksAt m c (pt b h)).x (ix2 t l) = m ((c : Thread nD τ).loc main_arg0) (ix2 (bt b t) (zc 1536 (by decide) h l)) := by
  show V m c main_arg0 ((win0_0.rect (pt b h)).emb _) = _
  rw [V_main_arg0]
  congr 1
  funext a
  have h1 := b.isLt
  have h2 := h.isLt
  match a with
  | ⟨0, _⟩ =>
    refine Fin.ext ?_
    show win0_0.index (pt b h) 0 * 256 + 1 * t.val = 256 * b.val + t.val
    rw [idx0]
    show (4 * b.val + h.val) / 4 * 256 + 1 * t.val = 256 * b.val + t.val
    omega
  | ⟨1, _⟩ =>
    refine Fin.ext ?_
    show win0_0.index (pt b h) 1 * 128 + 1 * l.val = 1536 + 128 * h.val + l.val
    rw [idx0]
    show (12 + (4 * b.val + h.val) % 4) * 128 + 1 * l.val = 1536 + 128 * h.val + l.val
    omega

/-- The block of the gate. -/
theorem blk_gate (c : Dev nD) (b : Fin 32) (h : Fin 4) (t : Fin 256) (l : Fin 128) :
    (blocksAt m c (pt b h)).gate (ix2 t l) = m ((c : Thread nD τ).loc main_arg0) (ix2 (bt b t) (zc 2048 (by decide) h l)) := by
  show V m c main_arg0 ((win0_1.rect (pt b h)).emb _) = _
  rw [V_main_arg0]
  congr 1
  funext a
  have h1 := b.isLt
  have h2 := h.isLt
  match a with
  | ⟨0, _⟩ =>
    refine Fin.ext ?_
    show win0_1.index (pt b h) 0 * 256 + 1 * t.val = 256 * b.val + t.val
    rw [idx1]
    show (4 * b.val + h.val) / 4 * 256 + 1 * t.val = 256 * b.val + t.val
    omega
  | ⟨1, _⟩ =>
    refine Fin.ext ?_
    show win0_1.index (pt b h) 1 * 128 + 1 * l.val = 2048 + 128 * h.val + l.val
    rw [idx1]
    show (16 + (4 * b.val + h.val) % 4) * 128 + 1 * l.val = 2048 + 128 * h.val + l.val
    omega

/-- The block of the convolution's taps. -/
theorem blk_cw (c : Dev nD) (b : Fin 32) (h : Fin 4) (k : Fin 4) (l : Fin 128) :
    (blocksAt m c (pt b h)).cw (ix2 k l) = m ((c : Thread nD τ).loc main_arg1) (ix2 k (hl h l)) := by
  show V m c main_arg1 ((win0_2.rect (pt b h)).emb _) = _
  rw [V_main_arg1]
  congr 1
  funext a
  have h1 := b.isLt
  have h2 := h.isLt
  match a with
  | ⟨0, _⟩ =>
    refine Fin.ext ?_
    show win0_2.index (pt b h) 0 * 4 + 1 * k.val = k.val
    rw [idx2]
    show 0 * 4 + 1 * k.val = k.val
    omega
  | ⟨1, _⟩ =>
    refine Fin.ext ?_
    show win0_2.index (pt b h) 1 * 128 + 1 * l.val = 128 * h.val + l.val
    rw [idx2]
    show ((4 * b.val + h.val) % 4) * 128 + 1 * l.val = 128 * h.val + l.val
    omega

/-- The block of the convolution's bias. -/
theorem blk_cb (c : Dev nD) (b : Fin 32) (h : Fin 4) (l : Fin 128) :
    (blocksAt m c (pt b h)).cb (ix2 0 l) = m ((c : Thread nD τ).loc main_arg2) (ix1 (hl h l)) := by
  show V m c main_v10 ((win0_3.rect (pt b h)).emb _) = _
  rw [← cb_apply m]
  congr 1
  funext a
  have h1 := b.isLt
  have h2 := h.isLt
  match a with
  | ⟨0, _⟩ =>
    refine Fin.ext ?_
    show win0_3.index (pt b h) 0 * 1 + 1 * 0 = 0
    rw [idx3]
    show 0 * 1 + 1 * 0 = 0
    omega
  | ⟨1, _⟩ =>
    refine Fin.ext ?_
    show win0_3.index (pt b h) 1 * 128 + 1 * l.val = 128 * h.val + l.val
    rw [idx3]
    show ((4 * b.val + h.val) % 4) * 128 + 1 * l.val = 128 * h.val + l.val
    omega

/-- The block of the gate weights. -/
theorem blk_w (c : Dev nD) (b : Fin 32) (h : Fin 4) (k : Fin 128) (d g : Fin 2) (l : Fin 128) (hc) :
    (blocksAt m c (pt b h)).w (ix3 0 k (gcol d g hc l)) = m ((c : Thread nD τ).loc main_arg3) (ix5 d g h k l) := by
  show V m c main_v2 ((win0_4.rect (pt b h)).emb _) = _
  rw [← w_apply m c h k d g l hc]
  congr 1
  funext a
  have h1 := b.isLt
  have h2 := h.isLt
  match a with
  | ⟨0, _⟩ =>
    refine Fin.ext ?_
    show win0_4.index (pt b h) 0 * 1 + 1 * 0 = h.val
    rw [idx4]
    show ((4 * b.val + h.val) % 4) * 1 + 1 * 0 = h.val
    omega
  | ⟨1, _⟩ =>
    refine Fin.ext ?_
    show win0_4.index (pt b h) 1 * 128 + 1 * k.val = k.val
    rw [idx4]
    show 0 * 128 + 1 * k.val = k.val
    omega
  | ⟨2, _⟩ =>
    refine Fin.ext ?_
    show win0_4.index (pt b h) 2 * 512 + 1 * (d.val * 256 + g.val * 128 + l.val) = d.val * 256 + g.val * 128 + l.val
    rw [idx4]
    show 0 * 512 + 1 * (d.val * 256 + g.val * 128 + l.val) = d.val * 256 + g.val * 128 + l.val
    omega

/-- The block of the gate biases. -/
theorem blk_gb (c : Dev nD) (b : Fin 32) (h : Fin 4) (d g : Fin 2) (l : Fin 128) (hc) :
    (blocksAt m c (pt b h)).gb (ix3 0 0 (gcol d g hc l)) = m ((c : Thread nD τ).loc main_arg4) (ix3 d g (hl h l)) := by
  show V m c main_v5 ((win0_5.rect (pt b h)).emb _) = _
  rw [← gb_apply m c h d g l hc]
  congr 1
  funext a
  have h1 := b.isLt
  have h2 := h.isLt
  match a with
  | ⟨0, _⟩ =>
    refine Fin.ext ?_
    show win0_5.index (pt b h) 0 * 1 + 1 * 0 = h.val
    rw [idx5]
    show ((4 * b.val + h.val) % 4) * 1 + 1 * 0 = h.val
    omega
  | ⟨1, _⟩ =>
    refine Fin.ext ?_
    show win0_5.index (pt b h) 1 * 1 + 1 * 0 = 0
    rw [idx5]
    show 0 * 1 + 1 * 0 = 0
    omega
  | ⟨2, _⟩ =>
    refine Fin.ext ?_
    show win0_5.index (pt b h) 2 * 512 + 1 * (d.val * 256 + g.val * 128 + l.val) = d.val * 256 + g.val * 128 + l.val
    rw [idx5]
    show 0 * 512 + 1 * (d.val * 256 + g.val * 128 + l.val) = d.val * 256 + g.val * 128 + l.val
    omega

/-- The block of the decay rates. -/
theorem blk_ca (c : Dev nD) (b : Fin 32) (h : Fin 4) (d : Fin 2) (l : Fin 128) :
    (blocksAt m c (pt b h)).ca (ix2 d l) = rate (m ((c : Thread nD τ).loc main_arg5) (ix2 d (hl h l))) := by
  show V m c main_v9 ((win0_6.rect (pt b h)).emb _) = _
  rw [← ca_apply m]
  congr 1
  funext a
  have h1 := b.isLt
  have h2 := h.isLt
  match a with
  | ⟨0, _⟩ =>
    refine Fin.ext ?_
    show win0_6.index (pt b h) 0 * 2 + 1 * d.val = d.val
    rw [idx6]
    show 0 * 2 + 1 * d.val = d.val
    omega
  | ⟨1, _⟩ =>
    refine Fin.ext ?_
    show win0_6.index (pt b h) 1 * 128 + 1 * l.val = 128 * h.val + l.val
    rw [idx6]
    show ((4 * b.val + h.val) % 4) * 128 + 1 * l.val = 128 * h.val + l.val
    omega

/-- The block of the starting state. -/
theorem blk_h0 (c : Dev nD) (b : Fin 32) (h : Fin 4) (d : Fin 2) (l : Fin 128) :
    (blocksAt m c (pt b h)).h0 (ix3 0 d l) = m ((c : Thread nD τ).loc main_arg6) (ix3 b d (hl h l)) := by
  show V m c main_arg6 ((win0_7.rect (pt b h)).emb _) = _
  rw [V_main_arg6]
  congr 1
  funext a
  have h1 := b.isLt
  have h2 := h.isLt
  match a with
  | ⟨0, _⟩ =>
    refine Fin.ext ?_
    show win0_7.index (pt b h) 0 * 1 + 1 * 0 = b.val
    rw [idx7]
    show (4 * b.val + h.val) / 4 * 1 + 1 * 0 = b.val
    omega
  | ⟨1, _⟩ =>
    refine Fin.ext ?_
    show win0_7.index (pt b h) 1 * 2 + 1 * d.val = d.val
    rw [idx7]
    show 0 * 2 + 1 * d.val = d.val
    omega
  | ⟨2, _⟩ =>
    refine Fin.ext ?_
    show win0_7.index (pt b h) 2 * 128 + 1 * l.val = 128 * h.val + l.val
    rw [idx7]
    show ((4 * b.val + h.val) % 4) * 128 + 1 * l.val = 128 * h.val + l.val
    omega

/-- Two points' blocks of the outputs are apart. -/
theorem inj8 (t t' : Fin cfg0.N) (h : win0_8.index t = win0_8.index t') : t = t' := by
  rw [idx8, idx8] at h
  have h0 : t.val / 4 = t'.val / 4 := congrFun h 0
  have h1 : t.val % 4 = t'.val % 4 := congrFun h 1
  exact Fin.ext (by omega)

theorem inj9 (t t' : Fin cfg0.N) (h : win0_9.index t = win0_9.index t') : t = t' := by
  rw [idx9, idx9] at h
  have h0 : t.val / 4 = t'.val / 4 := congrFun h 0
  have h1 : t.val % 4 = t'.val % 4 := congrFun h 2
  exact Fin.ext (by omega)

/-- The first result after the run, at row `t` of sequence `b` and channel `l` of head `h`: what point `(b, h)` computes there. -/
theorem y_at (c : Dev nD) (b : Fin 32) (h : Fin 4) (t : Fin 256) (l : Fin 128) :
    (dat m 0 c).arrAt 8 cfg0.N (ix2 (bt b t) (hl h l)) = yBlock (blocksAt m c (pt b h)) (ix2 t l) := by
  have e := (dat m 0 c).read_blk_arrAt_eq_flushed 8
    (fun t t' _ _ hne => (cfg0.win 8).disjoint_blk fun h => hne (inj8 t t' h)) cfg0.N (pt b h) (pt b h).isLt (flush0_8 _)
  have e2 : (dat m 0 c).flushed 8 (pt b h) = yBlock (blocksAt m c (pt b h)) := by
    show (cfg0.win 8).cut (grid0.coords (pt b h)) ((dat m 0 c).after 8 (pt b h)) = _
    rw [aft8]
    rfl
  rw [e2] at e
  rw [← congrFun e (ix2 t l)]
  show _ = (dat m 0 c).arrAt 8 cfg0.N ((win0_8.rect (pt b h)).emb (ix2 t l))
  congr 1
  funext a
  have h1 := b.isLt
  have h2 := h.isLt
  match a with
  | ⟨0, _⟩ =>
    refine Fin.ext ?_
    show 256 * b.val + t.val = win0_8.index (pt b h) 0 * 256 + 1 * t.val
    rw [idx8]
    show 256 * b.val + t.val = (4 * b.val + h.val) / 4 * 256 + 1 * t.val
    omega
  | ⟨1, _⟩ =>
    refine Fin.ext ?_
    show 128 * h.val + l.val = win0_8.index (pt b h) 1 * 128 + 1 * l.val
    rw [idx8]
    show 128 * h.val + l.val = (4 * b.val + h.val) % 4 * 128 + 1 * l.val
    omega

/-- The second result after the run: the state point `(b, h)` ends with. -/
theorem h_at (c : Dev nD) (b : Fin 32) (h : Fin 4) (d : Fin 2) (l : Fin 128) :
    (dat m 0 c).arrAt 9 cfg0.N (ix3 b d (hl h l)) = hBlock (blocksAt m c (pt b h)) (ix3 0 d l) := by
  have e := (dat m 0 c).read_blk_arrAt_eq_flushed 9
    (fun t t' _ _ hne => (cfg0.win 9).disjoint_blk fun h => hne (inj9 t t' h)) cfg0.N (pt b h) (pt b h).isLt (flush0_9 _)
  have e2 : (dat m 0 c).flushed 9 (pt b h) = hBlock (blocksAt m c (pt b h)) := by
    show (cfg0.win 9).cut (grid0.coords (pt b h)) ((dat m 0 c).after 9 (pt b h)) = _
    rw [aft9]
    rfl
  rw [e2] at e
  rw [← congrFun e (ix3 0 d l)]
  show _ = (dat m 0 c).arrAt 9 cfg0.N ((win0_9.rect (pt b h)).emb (ix3 0 d l))
  congr 1
  funext a
  have h1 := b.isLt
  have h2 := h.isLt
  match a with
  | ⟨0, _⟩ =>
    refine Fin.ext ?_
    show b.val = win0_9.index (pt b h) 0 * 1 + 1 * 0
    rw [idx9]
    show b.val = (4 * b.val + h.val) / 4 * 1 + 1 * 0
    omega
  | ⟨1, _⟩ =>
    refine Fin.ext ?_
    show d.val = win0_9.index (pt b h) 1 * 2 + 1 * d.val
    rw [idx9]
    show d.val = 0 * 2 + 1 * d.val
    omega
  | ⟨2, _⟩ =>
    refine Fin.ext ?_
    show 128 * h.val + l.val = win0_9.index (pt b h) 2 * 128 + 1 * l.val
    rw [idx9]
    show 128 * h.val + l.val = (4 * b.val + h.val) % 4 * 128 + 1 * l.val
    omega

/-- The run: the results are the final arrays, the arguments unchanged. -/
theorem run_rg (ρ : Dev nD → PrngReg) : θ_run defs (onTc (τ := τ) (main (F := Ideal))) ⟨m, fun _ => 0, ρ⟩ fun r => ∀ c : Dev nD,
      r.2.mem ((c : Thread nD τ).loc main_v11_0) = (dat m 0 c).arrAt 8 cfg0.N
      ∧ r.2.mem ((c : Thread nD τ).loc main_v11_1) = (dat m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1 8, (h c).1 9,
    ((h c).1 1).trans (((dat m 0 c).arrAt_in 1 rfl _).trans ((entry m c 1).trans (V_main_arg0 m c))),
    ((h c).1 2).trans (((dat m 0 c).arrAt_in 2 rfl _).trans ((entry m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 7).trans (((dat m 0 c).arrAt_in 7 rfl _).trans ((entry m c 7).trans (V_main_arg6 m c)))⟩)
    (run_post m ρ)

end Cert.Rg
end
-- ==== Proof.RgRef.lean ====
/-
  The recurrence's reference, read at an index.
-/
module

public import proofs.«01_k».proof.Proof.RgArray
public import proofs.«01_k».proof.Proof.Gen.ReferenceIdeal.StepRun

@[expose] public section

set_option maxRecDepth 16384

noncomputable section

namespace Cert.Rg.Ref

open Idealize.ShloMosaic Idealize.ShloMosaic.TcCoe Cert.ReferenceIdeal Cert.ReferenceIdeal.Gen Cert.ReferenceIdeal.Step

variable (Z : FVec Ideal S8192x6144 .f32) (CW : FVec Ideal S4x512 .f32) (CB : FVec Ideal S512 .f32)
  (GW : FVec Ideal S2x2x4x128x128 .f32) (GB : FVec Ideal S2x2x512 .f32) (LA : FVec Ideal S2x512 .f32) (H0 : FVec Ideal S32x2x512 .f32)

/-- The padded input at a row: the projection's columns from 1536 on, shifted by one row, zero outside. -/
theorem pad_apply (b : Fin 32) (t : Fin 259) (c : Fin 512) : A_main_v2 (F := Ideal) Z CW CB GW GB LA H0 (ix3 b t c)
    = if h : 1 ≤ t.val ∧ t.val < 257 then Z (ix2 (bt b ⟨t.val - 1, by omega⟩) ⟨1536 + c.val, by omega⟩) else 0 := by
  pointwise [A_main_v2, A_main_v1, A_main_v0, K_main_call0_v0, K_main_c, bt]
  have ht := t.isLt
  by_cases h : 1 ≤ t.val ∧ t.val < 257
  · rw [dif_pos h, dif_pos ⟨h.1, by omega⟩]
    simp only [Nat.mul_comm]
  · rw [dif_neg h, dif_neg (by omega)]
    show (((0#32 : BitVec 32).toInt : ℝ) : EReal) = 0
    simp

/-- The convolution at a row. -/
theorem conv_apply (b : Fin 32) (t : Fin 256) (c : Fin 512) : A_main_v32 (F := Ideal) Z CW CB GW GB LA H0 (ix3 b t c)
    = CB (ix1 c) + A_main_v2 (F := Ideal) Z CW CB GW GB LA H0 (ix3 b ⟨t.val, by omega⟩ c) * CW (ix2 0 c)
      + A_main_v2 (F := Ideal) Z CW CB GW GB LA H0 (ix3 b ⟨1 + t.val, by omega⟩ c) * CW (ix2 1 c)
      + A_main_v2 (F := Ideal) Z CW CB GW GB LA H0 (ix3 b ⟨2 + t.val, by omega⟩ c) * CW (ix2 2 c)
      + A_main_v2 (F := Ideal) Z CW CB GW GB LA H0 (ix3 b ⟨3 + t.val, by omega⟩ c) * CW (ix2 3 c) := by
  pointwise [A_main_v32, A_main_v31, A_main_v30, A_main_v29, A_main_v28, A_main_v27, A_main_v26, A_main_v25, A_main_v24, A_main_v23, A_main_v22,
   A_main_v21, A_main_v20, A_main_v19, A_main_v18, A_main_v17, A_main_v16, A_main_v15, A_main_v14, A_main_v13, A_main_v12, A_main_v11, A_main_v10,
   A_main_v9, A_main_v8, A_main_v7, A_main_v6, A_main_v5, A_main_v4, A_main_v3]

/-- A gate before its nonlinearity: the row's channels of the head against the head's weights, plus the bias. -/
theorem gate_apply (d g : Fin 2) (b : Fin 32) (t : Fin 256) (h : Fin 4) (l : Fin 128) : A_main_v44 (F := Ideal) Z CW CB GW GB LA H0 (ix5 d g b t (hl h l))
    = (∑ k : Fin 128, GW (ix5 d g h k l) * A_main_v36 (F := Ideal) Z CW CB GW GB LA H0 (ix4 d b t (hl h k))) + GB (ix3 d g (hl h l)) := by
  pointwise [A_main_v44, A_main_v43, A_main_v42, A_main_v41, A_main_v40, A_main_v39, A_main_v38, A_main_v37, hl]
  simp only [Nat.mul_comm]

/-- The first direction's sequence is the convolution, -/
theorem seq0_apply (b : Fin 32) (t : Fin 256) (c : Fin 512) :
    A_main_v36 (F := Ideal) Z CW CB GW GB LA H0 (ix4 0 b t c) = A_main_v32 (F := Ideal) Z CW CB GW GB LA H0 (ix3 b t c) := by
  pointwise [A_main_v36, A_main_v34, A_main_v35, A_main_v33]

/-- the second's is it backwards. -/
theorem seq1_apply (b : Fin 32) (t : Fin 256) (c : Fin 512) :
    A_main_v36 (F := Ideal) Z CW CB GW GB LA H0 (ix4 1 b t c) = A_main_v32 (F := Ideal) Z CW CB GW GB LA H0 (ix3 b ⟨255 - t.val, by omega⟩ c) := by
  pointwise [A_main_v36, A_main_v34, A_main_v35, A_main_v33]
  show A_main_v32 (F := Ideal) Z CW CB GW GB LA H0 (ix3 b t.rev c) = _
  congr 2
  exact Fin.ext (by rw [Fin.val_rev]; show 256 - (t.val + 1) = 255 - t.val; omega)

/-- The logarithm of the decay at a row. -/
theorem loga_apply (d : Fin 2) (b : Fin 32) (t : Fin 256) (c : Fin 512) : A_main_v67 (F := Ideal) Z CW CB GW GB LA H0 (ix4 d b t c)
    = rate (LA (ix2 d c)) * Ideal.logistic (A_main_v44 (F := Ideal) Z CW CB GW GB LA H0 (ix5 d 0 b t c)) := by
  pointwise [A_main_v67, A_main_v66, A_main_v65, A_main_v64, A_main_call1_v1, A_main_call1_v3, A_main_call1_v4,
    A_main_call1_v6, A_main_call1_v7, A_main_call1_v8, A_main_call1_v9, A_main_call1_v10, A_main_call1_v11, A_main_v63, A_main_v62, A_main_v52,
    A_main_v50, A_main_v48, A_main_v47, A_main_v46, A_main_v45, K_main_v49, K_main_v51, K_main_v57, K_main_v59, K_main_v61, K_main_cst, K_main_cst_0,
    K_main_cst_1, K_main_cst_2, K_main_cst_3, K_main_cst_4, K_main_call1_cst, K_main_call1_v0, K_main_call1_v2, K_main_call1_v5]
  rw [if_neg (not_not.mpr rfl)]
  unfold rate splus Ideal.logistic
  rw [mul_assoc, mul_assoc]
  congr 1
  exact mul_comm _ _

/-- The decay at a row. -/
theorem a_apply (d : Fin 2) (b : Fin 32) (t : Fin 256) (c : Fin 512) : A_main_v80 (F := Ideal) Z CW CB GW GB LA H0 (ix4 t d b c)
    = decay (rate (LA (ix2 d c))) (A_main_v44 (F := Ideal) Z CW CB GW GB LA H0 (ix5 d 0 b t c)) := by
  pointwise [A_main_v80, A_main_v68]
  rw [loga_apply]
  rfl

theorem two : Ideal.ofBits .f32 0x40000000#32 = 2 := by
  have h : Ideal.ofBits .f32 0x40000000#32 = ((2 : ℝ) : EReal) := by
    simp [Ideal.ofBits, Ideal.ieee, -EReal.coe_mul]; norm_num
  rw [h]; rfl

/-- `-(exp (2 x) - 1)` is one less the square of `exp x`, infinite or not. -/
theorem one_sub_sq (x : EReal) : -(Ideal.exp (Ideal.ofBits .f32 0x40000000#32 * x) - 1) = 1 - Ideal.exp x * Ideal.exp x := by
  have e : Ideal.exp (2 * x) = Ideal.exp x * Ideal.exp x := by
    induction x with
    | bot => rw [EReal.mul_bot_of_pos (by norm_num)]; exact (mul_zero (0 : EReal)).symm
    | top => rw [EReal.mul_top_of_pos (by norm_num)]; exact EReal.top_mul_top.symm
    | coe r =>
      have h2 : (2 : EReal) * (r : EReal) = ((r + r : ℝ) : EReal) := by
        rw [← two_mul, EReal.coe_mul]; rfl
      rw [h2]
      show ((Real.exp (r + r) : ℝ) : EReal) = (Real.exp r : EReal) * (Real.exp r : EReal)
      rw [Real.exp_add, EReal.coe_mul]
  rw [two, e, EReal.neg_sub (y := 1) (Or.inr (EReal.coe_ne_bot 1)) (Or.inr (EReal.coe_ne_top 1)), sub_eq_add_neg, add_comm]

/-- What a row adds to the state. -/
theorem b_apply (d : Fin 2) (b : Fin 32) (t : Fin 256) (c : Fin 512) : A_main_v81 (F := Ideal) Z CW CB GW GB LA H0 (ix4 t d b c)
    = gain (A_main_v80 (F := Ideal) Z CW CB GW GB LA H0 (ix4 t d b c)) (A_main_v44 (F := Ideal) Z CW CB GW GB LA H0 (ix5 d 1 b t c))
      (A_main_v36 (F := Ideal) Z CW CB GW GB LA H0 (ix4 d b t c)) := by
  pointwise [A_main_v81, A_main_v75, A_main_v74, A_main_v73, A_main_v72, A_main_v71, A_main_v70, K_main_v69, A_main_v60,
    A_main_v58, A_main_v56, A_main_v55, A_main_v54, A_main_v53, K_main_v49, K_main_v51, K_main_v57, K_main_v59, K_main_v61, K_main_cst, K_main_cst_0,
    K_main_cst_1, K_main_cst_2, K_main_cst_3, K_main_cst_4, A_main_v80, A_main_v68, gain]
  rw [one_sub_sq]
  rfl

end Cert.Rg.Ref
end
-- ==== Proof.RgRefLoop.lean ====
/-
  The recurrence's reference: its loop over the rows, and its results read at an index.
-/
module

public import proofs.«01_k».proof.Proof.RgRef

@[expose] public section

set_option maxRecDepth 16384

noncomputable section

namespace Cert.Rg.Ref

open Idealize.ShloMosaic Idealize.ShloMosaic.TcCoe Cert.ReferenceIdeal Cert.ReferenceIdeal.Gen Cert.ReferenceIdeal.Step

/-- The states of the loop, from `s` on. -/
def states (s : State Ideal) : ℕ → State Ideal
  | 0 => s
  | n + 1 => step n (states s n)

/-- The decay, and what is added, of row `t` of direction `d`, sequence `b`, channel `c`. -/
def rowA (s : State Ideal) (d : Fin 2) (b : Fin 32) (c : Fin 512) (t : ℕ) : EReal := s.main_v82_0 (ix4 (Fin.ofNat 256 t) d b c)
def rowB (s : State Ideal) (d : Fin 2) (b : Fin 32) (c : Fin 512) (t : ℕ) : EReal := s.main_v82_1 (ix4 (Fin.ofNat 256 t) d b c)

/-- The row a trip reads. -/
theorem slice_apply (v : FVec Ideal S256x2x32x512 .f32) (j : ℕ) (hj : j < 256) (d : Fin 2) (b : Fin 32) (c : Fin 512) (k0 k1 k2) :
    shapeCast S2x32x512 (Host.dynamicSlice S1x2x32x512 v (fun k => (((![(constantI S_ 32 (BitVec.ofNat 32 j) : IVec S_ 32), k0, k1, k2] : Fin 4 → IVec S_ 32)) k (Shape.Idx.first h_S_)).toInt) sliceFits_S256x2x32x512_S1x2x32x512)
      shapeCasts_S1x2x32x512_S2x32x512 (ix3 d b c) = v (ix4 (Fin.ofNat 256 j) d b c) := by
  pointwise
  refine congrArg v ?_
  congr 1
  · refine Fin.ext ?_
    show (min (max (BitVec.ofNat 32 j).toInt 0) (255 : ℤ)).toNat = j % 256
    rw [WordCmp.toInt_ofNat_of_lt (by omega)]
    omega
  · refine Fin.ext ?_
    show (min (max _ 0) (0 : ℤ)).toNat + d.val = d.val
    rw [min_eq_right (le_max_right _ _)]
    simp
  · refine Fin.ext ?_
    show (min (max _ 0) (0 : ℤ)).toNat + b.val = b.val
    rw [min_eq_right (le_max_right _ _)]
    simp
  · refine Fin.ext ?_
    show (min (max _ 0) (0 : ℤ)).toNat + c.val = c.val
    rw [min_eq_right (le_max_right _ _)]
    simp

theorem step_h (s : State Ideal) (j : ℕ) (hj : j < 256) (d : Fin 2) (b : Fin 32) (c : Fin 512) :
    (step j s).main_v82_5 (ix3 d b c) = rowA s d b c j * s.main_v82_5 (ix3 d b c) + rowB s d b c j := by
  rw [step_main_v82_5]
  have e1 : b4 j s (ix3 d b c) = rowA s d b c j := slice_apply s.main_v82_0 j hj d b c _ _ _
  have e2 : b9 j s (ix3 d b c) = rowB s d b c j := slice_apply s.main_v82_1 j hj d b c _ _ _
  rw [← e1, ← e2]
  pointwise [b11, b10]

theorem step_hs (s : State Ideal) (j : ℕ) (hj : j < 256) (t : Fin 256) (d : Fin 2) (b : Fin 32) (c : Fin 512) :
    (step j s).main_v82_6 (ix4 t d b c) = if t.val = j then (step j s).main_v82_5 (ix3 d b c) else s.main_v82_6 (ix4 t d b c) := by
  rw [step_main_v82_6, step_main_v82_5]
  pointwise [b18, b17, b16, b15, b14, K_main_v77, K_main_v76]
  unfold Scalar.select
  have ht := t.isLt
  have e : IntOp.cmpi .eq (BitVec.ofNat 32 t.val) (BitVec.ofNat 32 j) = 1 ↔ t.val = j :=
    WordCmp.cmpi_eq_ofNat_eq_one_iff (by omega) (by omega)
  by_cases h : t.val = j
  · rw [if_pos (e.mpr h), if_pos h]
  · rw [if_neg (fun g => h (e.mp g)), if_neg h]

theorem y_apply (s : State Ideal) (Z : FVec Ideal S8192x6144 .f32) (b : Fin 32) (t : Fin 256) (c : Fin 512) :
    R_main_v106 s Z (ix2 (bt b t) c) = (s.main_v82_6 (ix4 t 0 b c) + s.main_v82_6 (ix4 ⟨255 - t.val, by omega⟩ 1 b c))
      * gelu (Z (ix2 (bt b t) ⟨2048 + c.val, by omega⟩)) := by
  pointwise [R_main_v106, bt, gelu]
  have e : t.rev = ⟨255 - t.val, by omega⟩ := Fin.ext (by rw [Fin.val_rev]; show 256 - (t.val + 1) = 255 - t.val; omega)
  show (_ + s.main_v82_6 (ix4 t.rev 1 b c)) * _ = _
  rw [e]
  simp only [Nat.mul_comm, mul_assoc]

theorem hT_apply (s : State Ideal) (b : Fin 32) (d : Fin 2) (c : Fin 512) :
    R_main_v107 s (ix3 b d c) = s.main_v82_5 (ix3 d b c) := by
  pointwise [R_main_v107]

/-- The decays and the added values stay. -/
theorem states_ab (s : State Ideal) (n : ℕ) : (states s n).main_v82_0 = s.main_v82_0 ∧ (states s n).main_v82_1 = s.main_v82_1 := by
  induction n with
  | zero => exact ⟨rfl, rfl⟩
  | succ n ih => exact ih

/-- The state after `n` rows. -/
theorem states_h (s : State Ideal) (d : Fin 2) (b : Fin 32) (c : Fin 512) (n : ℕ) (hn : n ≤ 256) :
    (states s n).main_v82_5 (ix3 d b c) = run (rowA s d b c) (rowB s d b c) 0 n (s.main_v82_5 (ix3 d b c)) := by
  induction n with
  | zero => rfl
  | succ n ih =>
    show (step n (states s n)).main_v82_5 (ix3 d b c) = _
    rw [step_h _ _ (by omega), ih (by omega)]
    show (states s n).main_v82_0 _ * _ + (states s n).main_v82_1 _ = rowA s d b c (0 + n) * _ + rowB s d b c (0 + n)
    rw [(states_ab s n).1, (states_ab s n).2, Nat.zero_add]
    rfl

/-- The states kept: row `t` holds the state after it, once it is reached. -/
theorem states_hs (s : State Ideal) (d : Fin 2) (b : Fin 32) (c : Fin 512) (t : Fin 256) (n : ℕ) (hn : n ≤ 256) (ht : t.val < n) :
    (states s n).main_v82_6 (ix4 t d b c) = run (rowA s d b c) (rowB s d b c) 0 (t.val + 1) (s.main_v82_5 (ix3 d b c)) := by
  induction n with
  | zero => omega
  | succ n ih =>
    show (step n (states s n)).main_v82_6 (ix4 t d b c) = _
    rw [step_hs _ _ (by omega)]
    by_cases h : t.val = n
    · rw [if_pos h, h]
      exact states_h s d b c (n + 1) hn
    · rw [if_neg h]
      exact ih (by omega) (by omega)

end Cert.Rg.Ref
end
-- ==== Proof.RgEq.lean ====
/-
  The recurrence: the kernel's results are the reference's.
-/
module

public import proofs.«01_k».proof.Defs
public import proofs.«01_k».proof.Proof.RgRefLoop

@[expose] public section

set_option maxRecDepth 16384

noncomputable section

namespace Cert.Rg

open Idealize.ShloMosaic Idealize.ShloMosaic.TcCoe Idealize.SL.Sem Cert.KernelIdeal Cert.KernelIdeal.Gen
open Cert.ReferenceIdeal.Step (A_main_v2 A_main_v32 A_main_v36 A_main_v44 A_main_v80 A_main_v81)

/-- The softplus is nonnegative, -/
theorem splus_nonneg (x : EReal) : 0 ≤ splus x := by
  unfold splus
  refine add_nonneg (le_max_right _ _) ?_
  have he := exp_nonneg (-(FloatOps.absf (F := Ideal) (φ := .f32) x : EReal))
  generalize Ideal.exp _ = y at he
  unfold Ideal.log1p
  induction y with
  | bot => simp at he
  | top => rw [EReal.add_top_of_ne_bot (by exact EReal.coe_ne_bot 1)]; exact le_top
  | coe r =>
    have hr : 0 ≤ r := EReal.coe_nonneg.mp he
    show 0 ≤ Ideal.log (((1 + r : ℝ)) : EReal)
    show (0 : EReal) ≤ if 1 + r ≤ 0 then ⊥ else ((Real.log (1 + r) : ℝ) : EReal)
    rw [if_neg (by linarith)]
    exact EReal.coe_nonneg.mpr (Real.log_nonneg (by linarith))

/-- so a decay rate is not positive. -/
theorem rate_nonpos (x : EReal) : rate x ≤ 0 := by
  refine mul_nonpos ?_ (splus_nonneg _)
  have h : Ideal.ofBits .f32 0xC1000000#32 = ((-(8 : ℝ)) : EReal) := by
    simp [Ideal.ofBits, Ideal.ieee, -EReal.coe_mul, -EReal.coe_neg]; norm_num
  rw [h]
  exact EReal.coe_nonpos.mpr (by norm_num)

variable (m : (ℓ : Loc nD τ sig) → Buf (Elt Ideal) ℓ) (c : Dev nD)

/-- The arguments on core `c`. -/
abbrev aZ := m ((c : Thread nD τ).loc main_arg0)
abbrev aCW := m ((c : Thread nD τ).loc main_arg1)
abbrev aCB := m ((c : Thread nD τ).loc main_arg2)
abbrev aGW := m ((c : Thread nD τ).loc main_arg3)
abbrev aGB := m ((c : Thread nD τ).loc main_arg4)
abbrev aLA := m ((c : Thread nD τ).loc main_arg5)
abbrev aH0 := m ((c : Thread nD τ).loc main_arg6)

theorem ca_nonpos (b : Fin 32) (h : Fin 4) (d : Fin 2) (l : Fin 128) : (blocksAt m c (pt b h)).ca (ix2 d l) ≤ 0 := by
  rw [blk_ca]
  exact rate_nonpos _

/-- The reference's padded input at a row of the sequence. -/
theorem pad_seq (b : Fin 32) (h : Fin 4) (l : Fin 128) (t : Fin 259) :
    A_main_v2 (F := Ideal) (aZ m c) (aCW m c) (aCB m c) (aGW m c) (aGB m c) (aLA m c) (aH0 m c) (ix3 b t (hl h l))
      = if 1 ≤ t.val ∧ t.val < 257 then seq (blocksAt m c (pt b h)).x (t.val - 1) l else 0 := by
  rw [Ref.pad_apply]
  by_cases g : 1 ≤ t.val ∧ t.val < 257
  · rw [dif_pos g, if_pos g]
    unfold seq
    rw [blk_x]
    unfold zc hl
    have e : (Fin.ofNat 256 (t.val - 1)) = ⟨t.val - 1, by omega⟩ := Fin.ext (Nat.mod_eq_of_lt (by omega))
    rw [e]
    simp only [Nat.add_assoc]
  · rw [dif_neg g, if_neg g]

/-- The four taps and the bias in the other order. -/
theorem tap_comm (w0 w1 w2 w3 x0 x1 x2 x3 d : EReal) :
    w0 * x0 + w1 * x1 + w2 * x2 + w3 * x3 + d = d + x0 * w0 + x1 * w1 + x2 * w2 + x3 * w3 := by
  rw [mul_comm w0, mul_comm w1, mul_comm w2, mul_comm w3, add_comm _ d]
  simp only [add_assoc]

/-- The kernel's convolution is the reference's. -/
theorem taps_eq (b : Fin 32) (h : Fin 4) (t : Fin 256) (l : Fin 128) :
    taps (seq (blocksAt m c (pt b h)).x) (blocksAt m c (pt b h)).cw (blocksAt m c (pt b h)).cb t.val l
      = A_main_v32 (F := Ideal) (aZ m c) (aCW m c) (aCB m c) (aGW m c) (aGB m c) (aLA m c) (aH0 m c) (ix3 b t (hl h l)) := by
  have ht := t.isLt
  have p0 := (pad_seq m c b h l ⟨t.val, by omega⟩).trans (if_congr (show _ ↔ 1 ≤ t.val from ⟨fun g => g.1, fun g => ⟨g, show t.val < 257 by omega⟩⟩) rfl rfl)
  have p1 := (pad_seq m c b h l ⟨1 + t.val, by omega⟩).trans (if_pos ⟨show 1 ≤ 1 + t.val by omega, show 1 + t.val < 257 by omega⟩)
  have p2 := (pad_seq m c b h l ⟨2 + t.val, by omega⟩).trans (if_congr (show _ ↔ t.val < 255 from
    ⟨fun g => by have : 2 + t.val < 257 := g.2; omega, fun g => ⟨show 1 ≤ 2 + t.val by omega, show 2 + t.val < 257 by omega⟩⟩) rfl rfl)
  have p3 := (pad_seq m c b h l ⟨3 + t.val, by omega⟩).trans (if_congr (show _ ↔ t.val < 254 from
    ⟨fun g => by have : 3 + t.val < 257 := g.2; omega, fun g => ⟨show 1 ≤ 3 + t.val by omega, show 3 + t.val < 257 by omega⟩⟩) rfl rfl)
  rw [show (⟨1 + t.val, by omega⟩ : Fin 259).val - 1 = t.val from Nat.add_sub_cancel_left ..] at p1
  rw [show (⟨2 + t.val, by omega⟩ : Fin 259).val - 1 = t.val + 1 by show 2 + t.val - 1 = t.val + 1; omega] at p2
  rw [show (⟨3 + t.val, by omega⟩ : Fin 259).val - 1 = t.val + 2 by show 3 + t.val - 1 = t.val + 2; omega] at p3
  rw [Ref.conv_apply, p0, p1, p2, p3]
  unfold taps
  rw [blk_cw, blk_cw, blk_cw, blk_cw, blk_cb]
  exact tap_comm _ _ _ _ _ _ _ _ _

/-- The kernel's gate before its nonlinearity is the reference's at the row the direction reads. -/
theorem pre_eq (b : Fin 32) (h : Fin 4) (d g : Fin 2) (hc) (t u : Fin 256) (l : Fin 128)
    (hu : ∀ k, A_main_v36 (F := Ideal) (aZ m c) (aCW m c) (aCB m c) (aGW m c) (aGB m c) (aLA m c) (aH0 m c) (ix4 d b u k)
      = A_main_v32 (F := Ideal) (aZ m c) (aCW m c) (aCB m c) (aGW m c) (aGB m c) (aLA m c) (aH0 m c) (ix3 b t k)) :
    pre (taps (seq (blocksAt m c (pt b h)).x) (blocksAt m c (pt b h)).cw (blocksAt m c (pt b h)).cb t.val)
      (blocksAt m c (pt b h)).w (blocksAt m c (pt b h)).gb (gcol d g hc l)
      = A_main_v44 (F := Ideal) (aZ m c) (aCW m c) (aCB m c) (aGW m c) (aGB m c) (aLA m c) (aH0 m c) (ix5 d g b u (hl h l)) := by
  rw [Ref.gate_apply]
  unfold pre
  rw [blk_gb]
  congr 1
  refine Finset.sum_congr rfl fun k _ => ?_
  rw [taps_eq, blk_w, hu, mul_comm]

/-- The state the reference's loop starts from, with core `c`'s arguments. -/
abbrev start : Cert.ReferenceIdeal.Step.State Ideal :=
  Cert.ReferenceIdeal.Step.init (aZ m c) (aCW m c) (aCB m c) (aGW m c) (aGB m c) (aLA m c) (aH0 m c)

theorem start_h (b : Fin 32) (d : Fin 2) (l : Fin 512) : (start m c).main_v82_5 (ix3 d b l) = aH0 m c (ix3 b d l) := by
  show Cert.ReferenceIdeal.Step.A_main_v78 (F := Ideal) (aZ m c) (aCW m c) (aCB m c) (aGW m c) (aGB m c) (aLA m c) (aH0 m c) _ = _
  pointwise [Cert.ReferenceIdeal.Step.A_main_v78]

/-- The forward direction's decay and addition at a row, -/
theorem fwd_row (b : Fin 32) (h : Fin 4) (l : Fin 128) (t : ℕ) (ht : t < 256) :
    aF (blocksAt m c (pt b h)) l t = Ref.rowA (start m c) 0 b (hl h l) t ∧ bF (blocksAt m c (pt b h)) l t = Ref.rowB (start m c) 0 b (hl h l) t := by
  have e : Fin.ofNat 256 t = ⟨t, ht⟩ := Fin.ext (Nat.mod_eq_of_lt ht)
  have ea : aF (blocksAt m c (pt b h)) l t = Ref.rowA (start m c) 0 b (hl h l) t := by
    unfold aF Ref.rowA
    rw [e, blk_ca]
    refine Eq.trans ?_ (Ref.a_apply _ _ _ _ _ _ _ 0 b ⟨t, ht⟩ (hl h l)).symm
    exact congrArg (decay _) (pre_eq m c b h 0 0 (by decide) ⟨t, ht⟩ ⟨t, ht⟩ l fun k => Ref.seq0_apply _ _ _ _ _ _ _ b ⟨t, ht⟩ k)
  refine ⟨ea, ?_⟩
  unfold bF
  rw [ea]
  unfold Ref.rowA Ref.rowB
  rw [e]
  refine Eq.trans ?_ (Ref.b_apply _ _ _ _ _ _ _ 0 b ⟨t, ht⟩ (hl h l)).symm
  exact congr (congrArg (gain _) (pre_eq m c b h 0 1 (by decide) ⟨t, ht⟩ ⟨t, ht⟩ l fun k => Ref.seq0_apply _ _ _ _ _ _ _ b ⟨t, ht⟩ k))
    ((taps_eq m c b h ⟨t, ht⟩ l).trans (Ref.seq0_apply _ _ _ _ _ _ _ b ⟨t, ht⟩ (hl h l)).symm)

/-- and the backward direction's, whose row `n` is the sequence's row `255 - n`. -/
theorem bwd_row (b : Fin 32) (h : Fin 4) (l : Fin 128) (n : ℕ) (hn : n < 256) :
    aB (blocksAt m c (pt b h)) l (255 - n) = Ref.rowA (start m c) 1 b (hl h l) n
      ∧ bB (blocksAt m c (pt b h)) l (255 - n) = Ref.rowB (start m c) 1 b (hl h l) n := by
  have e : Fin.ofNat 256 n = ⟨n, hn⟩ := Fin.ext (Nat.mod_eq_of_lt hn)
  have ht : 255 - n < 256 := by omega
  have ea : aB (blocksAt m c (pt b h)) l (255 - n) = Ref.rowA (start m c) 1 b (hl h l) n := by
    unfold aB Ref.rowA
    rw [e, blk_ca]
    refine Eq.trans ?_ (Ref.a_apply _ _ _ _ _ _ _ 1 b ⟨n, hn⟩ (hl h l)).symm
    exact congrArg (decay _) (pre_eq m c b h 1 0 (by decide) ⟨255 - n, ht⟩ ⟨n, hn⟩ l fun k => Ref.seq1_apply _ _ _ _ _ _ _ b ⟨n, hn⟩ k)
  refine ⟨ea, ?_⟩
  unfold bB
  rw [ea]
  unfold Ref.rowA Ref.rowB
  rw [e]
  refine Eq.trans ?_ (Ref.b_apply _ _ _ _ _ _ _ 1 b ⟨n, hn⟩ (hl h l)).symm
  exact congr (congrArg (gain _) (pre_eq m c b h 1 1 (by decide) ⟨255 - n, ht⟩ ⟨n, hn⟩ l fun k => Ref.seq1_apply _ _ _ _ _ _ _ b ⟨n, hn⟩ k))
    ((taps_eq m c b h ⟨255 - n, ht⟩ l).trans (Ref.seq1_apply _ _ _ _ _ _ _ b ⟨n, hn⟩ (hl h l)).symm)

/-- The forward state after row `t`, -/
theorem fwd_state (b : Fin 32) (h : Fin 4) (l : Fin 128) (t : ℕ) (ht : t < 256) : stF (blocksAt m c (pt b h)) l t
    = run (Ref.rowA (start m c) 0 b (hl h l)) (Ref.rowB (start m c) 0 b (hl h l)) 0 (t + 1) ((start m c).main_v82_5 (ix3 0 b (hl h l))) := by
  unfold stF
  rw [start_h, blk_h0]
  exact run_congr (fun i hi => fwd_row m c b h l (0 + i) (by omega)) _

/-- and the backward state after row `t`, which is `256 - t` steps of the reversed sequence. -/
theorem bwd_state (b : Fin 32) (h : Fin 4) (l : Fin 128) (t : ℕ) : stB (blocksAt m c (pt b h)) l t
    = run (Ref.rowA (start m c) 1 b (hl h l)) (Ref.rowB (start m c) 1 b (hl h l)) 0 (256 - t) ((start m c).main_v82_5 (ix3 1 b (hl h l))) := by
  unfold stB
  rw [start_h, blk_h0]
  exact run_congr (fun i hi => bwd_row m c b h l (0 + i) (by omega)) _

/-- Every channel is a head's. -/
theorem eq_hl (l : Fin 512) : ∃ h k, l = hl h k :=
  ⟨⟨l.val / 128, by omega⟩, ⟨l.val % 128, by omega⟩, Fin.ext (by show l.val = 128 * (l.val / 128) + l.val % 128; omega)⟩

/-- Every row is a sequence's. -/
theorem eq_bt (r : Fin 8192) : ∃ b t, r = bt b t :=
  ⟨⟨r.val / 256, by omega⟩, ⟨r.val % 256, by omega⟩, Fin.ext (by show r.val = 256 * (r.val / 256) + r.val % 256; omega)⟩

/-- The first result. -/
theorem y_eq : (dat m 0 c).arrAt 8 cfg0.N = Cert.ReferenceIdeal.Step.R_main_v106 (Ref.states (start m c) 256) (aZ m c) := by
  funext i
  rw [eq_ix2 i]
  generalize (i 0 : Fin 8192) = r
  generalize (i 1 : Fin 512) = l
  obtain ⟨b, t, rfl⟩ := eq_bt r
  obtain ⟨h, k, rfl⟩ := eq_hl l
  have ht := t.isLt
  rw [y_at]
  refine Eq.trans ?_ (Ref.y_apply _ (aZ m c) b t (hl h k)).symm
  rw [yBlock_apply _ (ca_nonpos m c b h), fwd_state m c b h k t.val ht, bwd_state,
    Ref.states_hs _ 0 b _ t 256 (le_refl _) ht, Ref.states_hs _ 1 b _ ⟨255 - t.val, by omega⟩ 256 (le_refl _) (show 255 - t.val < 256 by omega)]
  have e : 256 - t.val = 255 - t.val + 1 := by omega
  have e2 : Fin.ofNat 256 t.val = t := Fin.ext (Nat.mod_eq_of_lt ht)
  rw [e]
  congr 2
  unfold seq
  rw [e2, blk_gate]
  unfold zc hl
  simp only [Nat.add_assoc]

/-- The second result. -/
theorem h_eq : (dat m 0 c).arrAt 9 cfg0.N = Cert.ReferenceIdeal.Step.R_main_v107 (Ref.states (start m c) 256) := by
  funext i
  rw [eq_ix3 i]
  obtain ⟨b, hb⟩ : ∃ b : Fin 32, b = i 0 := ⟨_, rfl⟩
  obtain ⟨d, hd⟩ : ∃ d : Fin 2, d = i 1 := ⟨_, rfl⟩
  rw [← hb, ← hd]
  generalize (i 2 : Fin 512) = l
  obtain ⟨h, k, rfl⟩ := eq_hl l
  refine (h_at m c b h d k).trans ?_
  refine Eq.trans ?_ (Ref.hT_apply _ b d (hl h k)).symm
  rw [Ref.states_h _ d b _ 256 (le_refl _)]
  match d with
  | ⟨0, _⟩ => exact (hBlock_apply _ (ca_nonpos m c b h) k).1.trans (fwd_state m c b h k 255 (by decide))
  | ⟨1, _⟩ => exact (hBlock_apply _ (ca_nonpos m c b h) k).2.trans (bwd_state m c b h k 0)

/-- The claim: from the same arguments, the recurrence's kernel and its reference end with the same results. -/
theorem claim_rg : Cert.algebraic_KernelIdeal_ReferenceIdeal := by
  intro m g m' g' _ hm
  refine ⟨fun c => (dat m 0 c).arrAt 8 cfg0.N, fun c => (dat m 0 c).arrAt 9 cfg0.N, run_rg m g, ?_⟩
  refine (θ_run _ _ _).mono (fun r h c => ?_) (Cert.ReferenceIdeal.StepRun.run_iter m' g'
    (fun c => Ref.states (Cert.ReferenceIdeal.StepRun.initState m' c)) (fun _ => rfl) (fun _ _ => rfl))
  obtain ⟨h1, h2, hk⟩ := h c
  obtain ⟨e0, e1, e2, e3, e4, e5, e6⟩ := hm c
  have es : Cert.ReferenceIdeal.StepRun.initState m' c = start m c := by
    unfold Cert.ReferenceIdeal.StepRun.initState start
    rw [e0, e1, e2, e3, e4, e5, e6]
  refine ⟨h1.trans ?_, h2.trans ?_, hk⟩
  · rw [es, e0]; exact (y_eq m c).symm
  · rw [es]; exact (h_eq m c).symm

end Cert.Rg
end
-- ==== Proof.FfnBlock.lean ====
/-
  What one run of the feed-forward kernel's body leaves in its output block and in its scratch, in the kernel's own
  operations on the blocks it is given.
-/
module

public import proofs.«01_k».proof.Proof.Gen.FfnIdeal.Frame
public import Idealize.ShloMosaic.Lib.Pipeline
public import Idealize.ShloMosaic.Lib.Pointwise
public import Idealize.ShloMosaic.Lib.Pipeline.ValueKit.Acc

@[expose] public section

set_option maxRecDepth 16384

noncomputable section

namespace Cert.Fn

open Idealize.ShloMosaic Idealize.ShloMosaic.TcCoe Idealize.SL.Sem Cert.FfnIdeal Cert.FfnIdeal.Gen

variable {F : FTy → Type} [FloatOps F]

/-- The scratch: the sixteen rows before the block, the block, and the sixteen rows after it. -/
def stk (x0 : Vec F S512x2048 .bf16) (x1 x2 : Vec F S16x2048 .bf16) : Vec F S544x2048 .bf16 := fun y =>
  if h : (y 0).val < 16 then x1 (ix2 ⟨(y 0).val, h⟩ (y 1))
  else if h' : (y 0).val < 528 then x0 (ix2 ⟨(y 0).val - 16, by omega⟩ (y 1))
  else x2 (ix2 ⟨(y 0).val - 528, by have := (y 0).isLt; simp at this; omega⟩ (y 1))

/-- The word that says whether the block has a row before it in its sequence. -/
def hasPrev (i : grid0.Coords) : BitVec 1 :=
  let arg0 : BitVec 32 := BitVec.ofNat 32 (i 0).val
  let v5 : BitVec 32 := Scalar.muli arg0 512#32
  let v6 : BitVec 1 := Scalar.cmpi .eq 4096#32 0#32
  let v7 : BitVec 32 := Scalar.select v6 1#32 4096#32
  let v8 : BitVec 32 := Scalar.remsi v5 v7
  let v9 : BitVec 1 := Scalar.cmpi .ne v8 0#32
  let v10 : BitVec 1 := Scalar.cmpi .slt v8 0#32
  let v11 : BitVec 1 := Scalar.cmpi .slt v7 0#32
  let v12 : BitVec 1 := Scalar.xori v10 v11
  let v13 : BitVec 1 := Scalar.andi v12 v9
  let v14 : BitVec 32 := Scalar.addi v8 v7
  let v15 : BitVec 32 := Scalar.select v13 v14 v8
  Scalar.cmpi .ne v15 0#32

/-- The word that says whether the block has a row after it in its sequence. -/
def hasNext (i : grid0.Coords) : BitVec 1 :=
  let arg0 : BitVec 32 := BitVec.ofNat 32 (i 0).val
  let v17 : BitVec 32 := Scalar.muli arg0 512#32
  let v18 : BitVec 32 := Scalar.addi v17 512#32
  let v19 : BitVec 32 := Scalar.subi v18 1#32
  let v20 : BitVec 1 := Scalar.cmpi .eq 4096#32 0#32
  let v21 : BitVec 32 := Scalar.select v20 1#32 4096#32
  let v22 : BitVec 32 := Scalar.remsi v19 v21
  let v23 : BitVec 1 := Scalar.cmpi .ne v22 0#32
  let v24 : BitVec 1 := Scalar.cmpi .slt v22 0#32
  let v25 : BitVec 1 := Scalar.cmpi .slt v21 0#32
  let v26 : BitVec 1 := Scalar.xori v24 v25
  let v27 : BitVec 1 := Scalar.andi v26 v23
  let v28 : BitVec 32 := Scalar.addi v22 v21
  let v29 : BitVec 32 := Scalar.select v27 v28 v22
  Scalar.cmpi .ne v29 4095#32

/-- What the body reads at every point: the blocks of the weights. -/
structure Wts (F : FTy → Type) where
  wv : Vec F S2048x512 .bf16
  wg : Vec F S2048x512 .bf16
  cv : Vec F S3x512 .f32
  cg : Vec F S3x512 .f32
  bv : Vec F S1x512 .f32
  bg : Vec F S1x512 .f32
  dn : Vec F S512x2048 .bf16

abbrev ldW0 (x : Vec F S2048x512 .bf16) : Vec F S2048x256 .bf16 := View.ld x (Rect.unit (s := S2048x512) ![0, 0] S2048x256.size inb_S2048x512_S2048x256_0_0)
abbrev ldW1 (x : Vec F S2048x512 .bf16) : Vec F S2048x256 .bf16 := View.ld x (Rect.unit (s := S2048x512) ![0, 256] S2048x256.size inb_S2048x512_S2048x256_0_256)
abbrev ldC0 (x : Vec F S3x512 .f32) : Vec F S3x256 .f32 := View.ld x (Rect.unit (s := S3x512) ![0, 0] S3x256.size inb_S3x512_S3x256_0_0)
abbrev ldC1 (x : Vec F S3x512 .f32) : Vec F S3x256 .f32 := View.ld x (Rect.unit (s := S3x512) ![0, 256] S3x256.size inb_S3x512_S3x256_0_256)
abbrev ldB0 (x : Vec F S1x512 .f32) : Vec F S1x256 .f32 := View.ld x (Rect.unit (s := S1x512) ![0, 0] S1x256.size inb_S1x512_S1x256_0_0)
abbrev ldB1 (x : Vec F S1x512 .f32) : Vec F S1x256 .f32 := View.ld x (Rect.unit (s := S1x512) ![0, 256] S1x256.size inb_S1x512_S1x256_0_256)

/-- The row numbers of a block. -/
abbrev rowNo : IVec S512x1 32 := iota .tc S512x1 32 [0] iota_S512x1_d0_w32

/-- The activation of the tile's first 256 columns. -/
def act0 (i : grid0.Coords) (S : Vec F S544x2048 .bf16) (w : Wts F) : FVec F S512x256 .bf16 :=
  k0_pay11 rowNo (hasPrev i) (hasNext i) (k0_pay7 S rowNo (hasPrev i) (hasNext i) (k0_pay6 (ldW0 w.wv)) (ldC0 w.cv) (ldB0 w.bv))
    (k0_pay8 S (ldW0 w.wg)) (k0_pay9 S (ldW0 w.wg)) (k0_pay10 S (ldW0 w.wg)) (Scalar.ofBits .f32 0x00000000#32) (ldC0 w.cg) (ldB0 w.bg)

/-- The value half of the tile's last 256 columns, after the convolution. -/
def val1 (i : grid0.Coords) (S : Vec F S544x2048 .bf16) (w : Wts F) : FVec F S512x256 .f32 :=
  k0_pay16 rowNo (hasPrev i) (hasNext i) (k0_pay12 S (ldW1 w.wv)) (k0_pay13 S (ldW1 w.wv)) (k0_pay14 S (ldW1 w.wv)) (k0_pay15 (F := F)) (ldC1 w.cv) (ldB1 w.bv)

/-- What one tile of hidden columns adds to the output block. -/
def part (i : grid0.Coords) (S : Vec F S544x2048 .bf16) (w : Wts F) : FVec F S512x2048 .f32 :=
  k0_pay21 rowNo (act0 i S w) (val1 i S w) (k0_pay18 S (ldW1 w.wg)) (k0_pay19 S (hasPrev i) (ldW1 w.wg)) (k0_pay20 S (hasNext i) (ldW1 w.wg))
    (ldC1 w.cg) (ldB1 w.bg) w.dn

theorem z2 : (![0, 0] : Fin 2 → ℕ) = fun _ => 0 := by decide
theorem z3 : (![0, 0, 0] : Fin 3 → ℕ) = fun _ => 0 := by decide

/-- The three stores into the scratch leave the stacked rows. -/
theorem canon_stk (x0 : Vec F S512x2048 .bf16) (x1 x2 : Vec F S16x2048 .bf16) :
    View.canon ([⟨Rect.unit (s := S544x2048) ![528, 0] S16x2048.size inb_S544x2048_S16x2048_528_0, x2⟩,
      ⟨Rect.unit (s := S544x2048) ![16, 0] S512x2048.size inb_S544x2048_S512x2048_16_0, x0⟩,
      ⟨Rect.unit (s := S544x2048) ![0, 0] S16x2048.size inb_S544x2048_S16x2048_0_0, x1⟩] : List (View.Piece (Elt F) S544x2048 .bf16)) = stk x0 x1 x2 := by
  funext y
  refine View.canon_apply_of_pieces (stk x0 x1 x2) _ ?_ y (View.cover_of_tiledBy _ ![16, 2048] (by sl_kernel_rfl) y)
  intro pc hpc x
  rcases List.mem_cons.mp hpc with rfl | hpc
  · have h0 : (x 0).val < 16 := (x 0).isLt
    refine Eq.symm ((dif_neg (show ¬ 528 + 1 * (x 0).val < 16 by omega)).trans ((dif_neg (show ¬ 528 + 1 * (x 0).val < 528 by omega)).trans ?_))
    refine congrArg x2 ?_
    funext a
    match a with
    | ⟨0, _⟩ => exact Fin.ext (by show 528 + 1 * (x 0).val - 528 = (x 0).val; omega)
    | ⟨1, _⟩ => exact Fin.ext (by show 0 + 1 * (x 1).val = (x 1).val; omega)
  rcases List.mem_cons.mp hpc with rfl | hpc
  · have h0 : (x 0).val < 512 := (x 0).isLt
    refine Eq.symm ((dif_neg (show ¬ 16 + 1 * (x 0).val < 16 by omega)).trans ((dif_pos (show 16 + 1 * (x 0).val < 528 by omega)).trans ?_))
    refine congrArg x0 ?_
    funext a
    match a with
    | ⟨0, _⟩ => exact Fin.ext (by show 16 + 1 * (x 0).val - 16 = (x 0).val; omega)
    | ⟨1, _⟩ => exact Fin.ext (by show 0 + 1 * (x 1).val = (x 1).val; omega)
  rcases List.mem_cons.mp hpc with rfl | hpc
  · have h0 : (x 0).val < 16 := (x 0).isLt
    refine Eq.symm ((dif_pos (show 0 + 1 * (x 0).val < 16 by omega)).trans ?_)
    refine congrArg x1 ?_
    funext a
    match a with
    | ⟨0, _⟩ => exact Fin.ext (by show 0 + 1 * (x 0).val = (x 0).val; omega)
    | ⟨1, _⟩ => exact Fin.ext (by show 0 + 1 * (x 1).val = (x 1).val; omega)
  simp at hpc

theorem pay3_eq (x : Vec F S16x2048 .bf16) : k0_pay3 x = x := shapeCast_self _ _
theorem pay5_eq (x : Vec F S16x2048 .bf16) : k0_pay5 x = x := shapeCast_self _ _
theorem pay4_eq (x : Vec F S512x2048 .bf16) : k0_pay4 x = x := shapeCast_self _ _

variable (c : Dev nD) (i : grid0.Coords) (a2 : Memref sig .tc .vmem S512x2048 .bf16) (h2 : a2.IsWhole) (a3 : Memref sig .tc .vmem S16x2048 .bf16) (h3 : a3.IsWhole) (a4 : Memref sig .tc .vmem S16x2048 .bf16) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S3x512 .f32) (h8 : a8.IsWhole) (a9 : Memref sig .tc .vmem S1x512 .f32) (h9 : a9.IsWhole) (a10 : Memref sig .tc .vmem S1x512 .f32) (h10 : a10.IsWhole) (a11 : Memref sig .tc .vmem S512x2048 .bf16) (h11 : a11.IsWhole) (a12 : Memref sig .tc .vmem S512x2048 .f32) (h12 : a12.IsWhole) (a13 : Memref sig .tc .vmem S1x1x2048 .f32) (h13 : a13.IsWhole) (a14 : Memref sig .tc .vmem S512x2048 .f32) (h14 : a14.IsWhole) (a15 : Memref sig .tc .vmem S544x2048 .bf16) (h15 : a15.IsWhole)
  (x0 : Vec F S512x2048 .bf16) (x1 : Vec F S16x2048 .bf16) (x2 : Vec F S16x2048 .bf16) (w : Wts F) (x10 : Vec F S512x2048 .f32) (x11 : Vec F S1x1x2048 .f32)
  (xo : Vec F S512x2048 .f32) (xs : Vec F S544x2048 .bf16)

/-- The scratch after the first point of a block. -/
theorem scratch_A (hc0 : cond0_0 i) (hc1 : cond0_1 i) (hc2 : ¬cond0_2 i) (hc3 : ¬cond0_3 i) :
    sout0_A_0 c i a2 h2 a3 h3 a4 h4 a5 h5 a6 h6 a7 h7 a8 h8 a9 h9 a10 h10 a11 h11 a12 h12 a13 h13 a14 h14 a15 h15 hc0 hc1 hc2 hc3 x0 x1 x2 w.wv w.wg w.cv w.cg w.bv w.bg w.dn x10 x11 = stk x0 x1 x2 := by
  unfold sout0_A_0 kernelRun0_A
  dsimp only [kernelRun0_A.sl.HS0_3]
  simp only [View.readAt_eq_ld, Memref.IsWhole.read_unread]
  rw [View.read_writes_junk_eq_canon]
  refine Eq.trans ?_ (canon_stk x0 x1 x2)
  rw [pay3_eq, pay4_eq, pay5_eq]
  rw [View.ld_unit_zero (S := S16x2048) z2, View.ld_unit_zero (S := S16x2048) z2, View.ld_unit_zero (S := S512x2048) z2]

/-- The scratch as the first point of a block reads it back. -/
theorem read_A : kernelRun0_A.sl.v3 c a2 h2 a3 h3 a4 h4 a15 x0 x1 x2 = stk x0 x1 x2 := by
  unfold kernelRun0_A.sl.v3
  dsimp only [kernelRun0_A.sl.HS0_3]
  simp only [View.readAt_eq_ld, Memref.IsWhole.read_unread]
  rw [View.readCov_eq_canon']
  rw [pay3_eq, pay4_eq, pay5_eq]
  rw [View.ld_unit_zero (S := S16x2048) z2, View.ld_unit_zero (S := S16x2048) z2, View.ld_unit_zero (S := S512x2048) z2]
  refine Eq.trans ?_ (View.ld_unit_zero (S := S544x2048) z2 inb_S544x2048_S544x2048_0_0 (stk x0 x1 x2))
  rw [← canon_stk x0 x1 x2]

/-- The output block after the first point of a block: the first tile's part. -/
theorem out_A (hc0 : cond0_0 i) (hc1 : cond0_1 i) (hc2 : ¬cond0_2 i) (hc3 : ¬cond0_3 i) :
    out0_A_12 c i a2 h2 a3 h3 a4 h4 a5 h5 a6 h6 a7 h7 a8 h8 a9 h9 a10 h10 a11 h11 a12 h12 a13 h13 a14 h14 a15 h15 hc0 hc1 hc2 hc3 x0 x1 x2 w.wv w.wg w.cv w.cg w.bv w.bg w.dn x10 x11 = part i (stk x0 x1 x2) w := by
  unfold out0_A_12 kernelRun0_A
  dsimp only
  rw [View.read_writes_junk_eq_canon]
  refine (View.canon_cons_unit_zero (S := S512x2048) z2 _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, read_A, View.readAt_eq_ld, Memref.IsWhole.read_unread]
  rw [View.ld_unit_zero (S := S512x2048) z2]
  rfl

/-- The tile's part as a later point finds it. -/
theorem part_B : kernelRun0_B.sl.r_14 c i a5 h5 a6 h6 a7 h7 a8 h8 a9 h9 a10 h10 a11 h11 a15 h15 w.wv w.wg w.cv w.cg w.bv w.bg w.dn xs = part i xs w := by
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, View.readAt_eq_ld, Memref.IsWhole.read_unread]
  rw [View.ld_unit_zero (S := S512x2048) z2, View.ld_unit_zero (S := S544x2048) z2]
  rfl

/-- The output block after a later point: what it held and the tile's part. -/
theorem out_B (hc0 : ¬cond0_0 i) (hc1 : ¬cond0_1 i) (hc2 : cond0_2 i) (hc3 : ¬cond0_3 i) :
    out0_B_12 c i a2 h2 a3 h3 a4 h4 a5 h5 a6 h6 a7 h7 a8 h8 a9 h9 a10 h10 a11 h11 a12 h12 a13 h13 a14 h14 a15 h15 hc0 hc1 hc2 hc3 x0 x1 x2 w.wv w.wg w.cv w.cg w.bv w.bg w.dn x10 x11 xo xs = k0_pay1 (part i xs w) xo := by
  unfold out0_B_12 kernelRun0_B
  dsimp only
  rw [View.read_writes_junk_eq_canon]
  refine (View.canon_cons_unit_zero (S := S512x2048) z2 _ _ _).trans ?_
  rw [part_B, View.readAt_eq_ld, Memref.IsWhole.read_unread, View.ld_unit_zero (S := S512x2048) z2]

/-- The tile's part as a later point finds it. -/
theorem part_C : kernelRun0_C.sl.r_14 c i a5 h5 a6 h6 a7 h7 a8 h8 a9 h9 a10 h10 a11 h11 a15 h15 w.wv w.wg w.cv w.cg w.bv w.bg w.dn xs = part i xs w := by
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, View.readAt_eq_ld, Memref.IsWhole.read_unread]
  rw [View.ld_unit_zero (S := S512x2048) z2, View.ld_unit_zero (S := S544x2048) z2]
  rfl

/-- The output block after the last point: the residual and the gate times what it held and the tile's part. -/
theorem out_C (hc0 : ¬cond0_0 i) (hc1 : ¬cond0_1 i) (hc2 : cond0_2 i) (hc3 : cond0_3 i) :
    out0_C_12 c i a2 h2 a3 h3 a4 h4 a5 h5 a6 h6 a7 h7 a8 h8 a9 h9 a10 h10 a11 h11 a12 h12 a13 h13 a14 h14 a15 h15 hc0 hc1 hc2 hc3 x0 x1 x2 w.wv w.wg w.cv w.cg w.bv w.bg w.dn x10 x11 xo xs = k0_pay2 x10 x11 (k0_pay1 (part i xs w) xo) := by
  unfold out0_C_12 kernelRun0_C
  dsimp only
  rw [View.read_writes_junk_eq_canon]
  refine (View.canon_cons_unit_zero (S := S512x2048) z2 _ _ _).trans ?_
  rw [View.readAt_eq_ld, View.readAt_eq_ld, Memref.IsWhole.read_unread, Memref.IsWhole.read_unread]
  rw [View.ld_unit_zero (S := S512x2048) z2, View.ld_unit_zero (S := S1x1x2048) z3]
  rw [kernelRun0_C.sl.v223, kernelRun0_C.sl.H12_1, part_C, View.readAt_eq_ld, Memref.IsWhole.read_unread, View.ld_unit_zero (S := S512x2048) z2]
  exact congrArg (k0_pay2 x10 x11) (View.readCov_cons_toLoadRect _ _ _ _)

end Cert.Fn

end
-- ==== Proof.FfnVal.lean ====
/-
  One tile of the feed-forward at an index: the convolved columns, the activation and the tile's part of the output.
-/
module

public import proofs.«01_k».proof.Proof.FfnBlock

@[expose] public section

set_option maxRecDepth 16384

noncomputable section

namespace Cert.Fn

open Idealize.ShloMosaic Idealize.ShloMosaic.TcCoe Idealize.SL.Sem Cert.FfnIdeal Cert.FfnIdeal.Gen

/-- One hidden column before the convolution, at a row of the scratch. -/
def hid {n : ℕ} (S : Vec Ideal S544x2048 .bf16) (W : (⟨2, ![2048, n]⟩ : Shape).Idx → EReal) (R : Fin 544) (q : Fin n) : EReal :=
  ∑ k : Fin 2048, S (ix2 R k) * W (ix2 k q)

/-- One hidden column after the convolution. -/
def cvd {n : ℕ} (p x : Prop) [Decidable p] [Decidable x] (S : Vec Ideal S544x2048 .bf16) (W : (⟨2, ![2048, n]⟩ : Shape).Idx → EReal)
    (C : (⟨2, ![3, n]⟩ : Shape).Idx → EReal) (B : (⟨2, ![1, n]⟩ : Shape).Idx → EReal) (r : Fin 512) (q : Fin n) : EReal :=
  C (ix2 0 q) * (if r.val = 0 ∧ ¬ p then 0 else hid S W ⟨15 + r.val, by omega⟩ q) + C (ix2 1 q) * hid S W ⟨16 + r.val, by omega⟩ q
    + C (ix2 2 q) * (if r.val = 511 ∧ ¬ x then 0 else hid S W ⟨17 + r.val, by omega⟩ q) + B (ix2 0 q)

/-- A word that compares a row number with a constant, and a word of the grid, choose between three values. -/
theorem sel_row (w : BitVec 1) (r : Fin 512) (n : ℕ) (hn : n < 512) (a b d : EReal) (ha : r.val = n → a = d) (hb : r.val ≠ n → b = d) :
    Scalar.select (IntOp.cmpi CmpIPredicate.eq (BitVec.ofNat 32 r.val) (BitVec.ofNat 32 n)) (Scalar.select w a 0) b
      = if r.val = n ∧ ¬ w = 1#1 then 0 else d := by
  have hr := r.isLt
  have e := WordCmp.cmpi_eq_ofNat_eq_one_iff (w := 32) (a := r.val) (b := n) (by omega) (by omega)
  simp only [Scalar.select, show (1 : BitVec 1) = 1#1 from rfl]
  by_cases h : r.val = n
  · rw [if_pos (e.mpr h), ha h]
    by_cases hw : w = 1#1
    · rw [if_pos hw, if_neg (fun h => h.2 hw)]
    · rw [if_neg hw, if_pos ⟨h, hw⟩]
  · rw [if_neg (fun h' => h (e.mp h')), if_neg (fun h' => h h'.1), hb h]

/-- The row before a row, in the scratch. -/
theorem sel_prev (w : BitVec 1) (r : Fin 512) (f : Fin 544 → EReal) (h) (h') :
    Scalar.select (IntOp.cmpi CmpIPredicate.eq (BitVec.ofNat 32 r.val) 0#32) (Scalar.select w (f 15) 0) (f ⟨16 + (r.val + 512 - 1) % 512, h⟩)
      = if r.val = 0 ∧ ¬ w = 1#1 then 0 else f ⟨15 + r.val, h'⟩ :=
  sel_row w r 0 (by decide) _ _ _ (fun e => congrArg f (Fin.ext (by show 15 = 15 + r.val; omega)))
    (fun e => congrArg f (Fin.ext (by show 16 + (r.val + 512 - 1) % 512 = 15 + r.val; have := r.isLt; omega)))

/-- The row after a row, in the scratch. -/
theorem sel_next (w : BitVec 1) (r : Fin 512) (f : Fin 544 → EReal) (h) (h') :
    Scalar.select (IntOp.cmpi CmpIPredicate.eq (BitVec.ofNat 32 r.val) 511#32) (Scalar.select w (f 528) 0) (f ⟨16 + (r.val + 512 - 511) % 512, h⟩)
      = if r.val = 511 ∧ ¬ w = 1#1 then 0 else f ⟨17 + r.val, h'⟩ :=
  sel_row w r 511 (by decide) _ _ _ (fun e => congrArg f (Fin.ext (by show 528 = 17 + r.val; omega)))
    (fun e => congrArg f (Fin.ext (by show 16 + (r.val + 512 - 511) % 512 = 17 + r.val; have := r.isLt; omega)))

variable (p x : BitVec 1) (S : Vec Ideal S544x2048 .bf16) (W : Vec Ideal S2048x256 .bf16) (C : Vec Ideal S3x256 .f32) (B : Vec Ideal S1x256 .f32)
  (r : Fin 512) (q : Fin 256)

/-- A convolved column as the kernel chooses the rows before and after. -/
def cvdSel (p x : BitVec 1) (S : Vec Ideal S544x2048 .bf16) (W : Vec Ideal S2048x256 .bf16) (C : Vec Ideal S3x256 .f32) (B : Vec Ideal S1x256 .f32)
    (r : Fin 512) (q : Fin 256) : EReal :=
  C (ix2 0 q) * Scalar.select (IntOp.cmpi CmpIPredicate.eq (BitVec.ofNat 32 r.val) 0#32) (Scalar.select p (hid S W 15 q) 0) (hid S W ⟨16 + (r.val + 512 - 1) % 512, by omega⟩ q)
    + C (ix2 1 q) * hid S W ⟨16 + r.val, by omega⟩ q
    + C (ix2 2 q) * Scalar.select (IntOp.cmpi CmpIPredicate.eq (BitVec.ofNat 32 r.val) 511#32) (Scalar.select x (hid S W 528 q) 0) (hid S W ⟨16 + (r.val + 512 - 511) % 512, by omega⟩ q)
    + B (ix2 0 q)

theorem cvd_eq_sel : cvd (p = 1#1) (x = 1#1) S W C B r q = cvdSel p x S W C B r q := by
  unfold cvd cvdSel
  rw [← sel_prev p r (fun R => hid S W R q) (by omega) _, ← sel_next x r (fun R => hid S W R q) (by omega) _]

/-- The first sub-tile's value half. -/
theorem pay7_apply : k0_pay7 (F := Ideal) S rowNo p x (k0_pay6 W) C B (ix2 r q) = cvd (p = 1#1) (x = 1#1) S W C B r q := by
  rw [cvd_eq_sel]
  unfold cvdSel hid
  pointwise [k0_pay7, k0_pay6]

/-- The first sub-tile's activation, over its value half. -/
theorem pay11_apply (v : FVec Ideal S512x256 .f32) :
    k0_pay11 (F := Ideal) rowNo p x v (k0_pay8 S W) (k0_pay9 S W) (k0_pay10 S W) (Scalar.ofBits .f32 0x00000000#32) C B (ix2 r q)
      = cvd (p = 1#1) (x = 1#1) S W C B r q * Ideal.logistic (cvd (p = 1#1) (x = 1#1) S W C B r q) * v (ix2 r q) := by
  rw [cvd_eq_sel]
  unfold cvdSel hid
  pointwise [k0_pay11, k0_pay8, k0_pay9, k0_pay10]

/-- The last sub-tile's value half. -/
theorem pay16_apply : k0_pay16 (F := Ideal) rowNo p x (k0_pay12 S W) (k0_pay13 S W) (k0_pay14 S W) (k0_pay15 (F := Ideal)) C B (ix2 r q)
    = cvd (p = 1#1) (x = 1#1) S W C B r q := by
  rw [cvd_eq_sel]
  unfold cvdSel hid
  pointwise [k0_pay16, k0_pay12, k0_pay13, k0_pay14, k0_pay15]

/-- The last sub-tile's activation, over its value half. -/
def act1 (p x : BitVec 1) (S : Vec Ideal S544x2048 .bf16) (W : Vec Ideal S2048x256 .bf16) (C : Vec Ideal S3x256 .f32) (B : Vec Ideal S1x256 .f32)
    (v : FVec Ideal S512x256 .f32) (r : Fin 512) (q : Fin 256) : EReal :=
  cvd (p = 1#1) (x = 1#1) S W C B r q * Ideal.logistic (cvd (p = 1#1) (x = 1#1) S W C B r q) * v (ix2 r q)

/-- One tile's part, from the two sub-tiles' activations. -/
theorem pay21_apply (a : FVec Ideal S512x256 .bf16) (v : FVec Ideal S512x256 .f32) (D : Vec Ideal S512x2048 .bf16) (n : Fin 2048) :
    k0_pay21 (F := Ideal) rowNo a v (k0_pay18 S W) (k0_pay19 S p W) (k0_pay20 S x W) C B D (ix2 r n)
      = ∑ k : Fin 256, a (ix2 r k) * D (ix2 ⟨k.val, by omega⟩ n) + ∑ k : Fin 256, act1 p x S W C B v r k * D (ix2 ⟨256 + k.val, by omega⟩ n) := by
  simp only [act1, cvd_eq_sel]
  unfold cvdSel hid
  pointwise [k0_pay21, k0_pay18, k0_pay19, k0_pay17, k0_pay20]

/-- A hidden column's activation, from the tile's blocks of weights. -/
def act (p x : Prop) [Decidable p] [Decidable x] (S : Vec Ideal S544x2048 .bf16) (w : Wts Ideal) (r : Fin 512) (k : Fin 512) : EReal :=
  cvd p x S w.wg w.cg w.bg r k * Ideal.logistic (cvd p x S w.wg w.cg w.bg r k) * cvd p x S w.wv w.cv w.bv r k

/-- Some columns of a block, read at an index. -/
theorem ld_cols {n m N o : ℕ} {e : EltTy} (X : Vec Ideal (⟨2, ![n, N]⟩ : Shape) e) (inb) (a : Fin n) (b : Fin m) (h : o + b.val < N) :
    (View.ld X (Rect.unit (s := (⟨2, ![n, N]⟩ : Shape)) ![0, o] ![n, m] inb) : Vec Ideal (⟨2, ![n, m]⟩ : Shape) e) (ix2 a b) = X (ix2 a ⟨o + b.val, h⟩) := by
  refine congrArg X (funext fun j => ?_)
  match j with
  | ⟨0, _⟩ => exact Fin.ext (by show 0 + 1 * a.val = a.val; omega)
  | ⟨1, _⟩ => exact Fin.ext (by show o + 1 * b.val = o + b.val; omega)

theorem cvd_ld0 (P X : Prop) [Decidable P] [Decidable X] (W : Vec Ideal S2048x512 .bf16) (C : Vec Ideal S3x512 .f32) (B : Vec Ideal S1x512 .f32) :
    cvd P X S (ldW0 W) (ldC0 C) (ldB0 B) r q = cvd P X S W C B r ⟨0 + q.val, by omega⟩ := by
  have hw : ∀ k : Fin 2048, ldW0 W (ix2 k q) = W (ix2 k ⟨0 + q.val, by omega⟩) := fun k => ld_cols W _ k q _
  have hc : ∀ k : Fin 3, ldC0 C (ix2 k q) = C (ix2 k ⟨0 + q.val, by omega⟩) := fun k => ld_cols C _ k q _
  have hb : ldB0 B (ix2 0 q) = B (ix2 0 ⟨0 + q.val, by omega⟩) := ld_cols B _ 0 q _
  unfold cvd hid
  simp only [hw, hc, hb]

theorem cvd_ld1 (P X : Prop) [Decidable P] [Decidable X] (W : Vec Ideal S2048x512 .bf16) (C : Vec Ideal S3x512 .f32) (B : Vec Ideal S1x512 .f32) :
    cvd P X S (ldW1 W) (ldC1 C) (ldB1 B) r q = cvd P X S W C B r ⟨256 + q.val, by omega⟩ := by
  have hw : ∀ k : Fin 2048, ldW1 W (ix2 k q) = W (ix2 k ⟨256 + q.val, by omega⟩) := fun k => ld_cols W _ k q _
  have hc : ∀ k : Fin 3, ldC1 C (ix2 k q) = C (ix2 k ⟨256 + q.val, by omega⟩) := fun k => ld_cols C _ k q _
  have hb : ldB1 B (ix2 0 q) = B (ix2 0 ⟨256 + q.val, by omega⟩) := ld_cols B _ 0 q _
  unfold cvd hid
  simp only [hw, hc, hb]

/-- What one tile of hidden columns adds to the output block, at an index: the product of its activations with the
    block of the down projection. -/
theorem part_apply (i : grid0.Coords) (w : Wts Ideal) (n : Fin 2048) :
    part i S w (ix2 r n) = ∑ k : Fin 512, act (hasPrev i = 1#1) (hasNext i = 1#1) S w r k * w.dn (ix2 k n) := by
  unfold part
  rw [pay21_apply]
  refine Eq.trans ?_ (Fin.sum_univ_add (a := 256) (b := 256) _).symm
  refine congrArg₂ (· + ·) (Finset.sum_congr rfl fun q _ => ?_) (Finset.sum_congr rfl fun q _ => ?_)
  · unfold act0
    rw [pay11_apply, pay7_apply, cvd_ld0, cvd_ld0]
    simp only [Nat.zero_add]
    rfl
  · unfold act1 val1
    rw [pay16_apply, cvd_ld1, cvd_ld1]
    rfl

/-- The body's sum and its last step, at an index. -/
theorem pay1_apply (a b : Vec Ideal S512x2048 .f32) (n : Fin 2048) : k0_pay1 (F := Ideal) a b (ix2 r n) = b (ix2 r n) + a (ix2 r n) := by
  pointwise [k0_pay1]

theorem pay2_apply (a : Vec Ideal S512x2048 .f32) (g : Vec Ideal S1x1x2048 .f32) (b : Vec Ideal S512x2048 .f32) (n : Fin 2048) :
    k0_pay2 (F := Ideal) a g b (ix2 r n) = a (ix2 r n) + g (ix3 0 0 n) * b (ix2 r n) := by
  pointwise [k0_pay2]

end Cert.Fn

end
-- ==== Proof.FfnBlocks.lean ====
/-
  The blocks the feed-forward kernel's points are given, read at an index from the arrays of the launch.
-/
module

public import proofs.«01_k».proof.Proof.FfnVal
public import Idealize.ShloMosaic.Lib.ValueLayout

@[expose] public section

set_option maxRecDepth 16384

noncomputable section

namespace Cert.Fn

open Idealize.ShloMosaic Idealize.ShloMosaic.TcCoe Idealize.SL.Sem Cert.FfnIdeal Cert.FfnIdeal.Gen

variable (m : (ℓ : Loc nD τ sig) → Buf (Elt Ideal) ℓ)

/-- The up projection as the launch finds it. -/
theorem V_up (c : Dev nD) : V m c main_v0 = truncf (F := Ideal) .bf16 (m ((c : Thread nD τ).loc main_arg1)) bitsLt_bf16_f32 := by
  show StableHlo.after _ _ _ = _
  simp only [List.flatten_cons, List.flatten_nil, List.append_nil, List.cons_append, List.nil_append, StableHlo.after_cons, StableHlo.after_nil]
  rfl

/-- The down projection as the launch finds it. -/
theorem V_dn (c : Dev nD) : V m c main_v1 = truncf (F := Ideal) .bf16 (m ((c : Thread nD τ).loc main_arg4)) bitsLt_bf16_f32 := by
  show StableHlo.after _ _ _ = _
  simp only [List.flatten_cons, List.flatten_nil, List.append_nil, List.cons_append, List.nil_append, StableHlo.after_cons, StableHlo.after_nil]
  rfl

/-- The convolution's bias as the launch finds it. -/
theorem V_cb (c : Dev nD) : V m c main_v2 = shapeCast S1x11264 (m ((c : Thread nD τ).loc main_arg3)) shapeCasts_S11264_S1x11264 := by
  show StableHlo.after _ _ _ = _
  simp only [List.flatten_cons, List.flatten_nil, List.append_nil, List.cons_append, List.nil_append, StableHlo.after_cons, StableHlo.after_nil]
  rfl

theorem up_apply (c : Dev nD) (j) : V m c main_v0 j = m ((c : Thread nD τ).loc main_arg1) j := by rw [V_up]; rfl
theorem dn_apply (c : Dev nD) (j) : V m c main_v1 j = m ((c : Thread nD τ).loc main_arg4) j := by rw [V_dn]; rfl
theorem cb_apply (c : Dev nD) (q : Fin 11264) : V m c main_v2 (ix2 0 q) = m ((c : Thread nD τ).loc main_arg3) (ix1 q) := by
  rw [V_cb]
  exact ValueIdx.shapeCast_a_1a_apply _ _ _ _

theorem idx0 : ∀ t : Fin cfg0.N, win0_0.index t = ![t.val / 11, 0] := (by decide +kernel : ∀ t : Fin grid0.N, _)
theorem idx1 : ∀ t : Fin cfg0.N, win0_1.index t = ![t.val / 11 * 32 - 1, 0] := (by decide +kernel : ∀ t : Fin grid0.N, _)
theorem idx2 : ∀ t : Fin cfg0.N, win0_2.index t = ![min (t.val / 11 * 32 + 32) 2047, 0] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![0, 11 + t.val % 11] := (by decide +kernel : ∀ t : Fin grid0.N, _)
theorem idx5 : ∀ t : Fin cfg0.N, win0_5.index t = ![0, t.val % 11] := (by decide +kernel : ∀ t : Fin grid0.N, _)
theorem idx6 : ∀ t : Fin cfg0.N, win0_6.index t = ![0, 11 + t.val % 11] := (by decide +kernel : ∀ t : Fin grid0.N, _)
theorem idx7 : ∀ t : Fin cfg0.N, win0_7.index t = ![0, t.val % 11] := (by decide +kernel : ∀ t : Fin grid0.N, _)
theorem idx8 : ∀ t : Fin cfg0.N, win0_8.index t = ![0, 11 + t.val % 11] := (by decide +kernel : ∀ t : Fin grid0.N, _)
theorem idx9 : ∀ t : Fin cfg0.N, win0_9.index t = ![t.val % 11, 0] := (by decide +kernel : ∀ t : Fin grid0.N, _)
theorem idx10 : ∀ t : Fin cfg0.N, win0_10.index t = ![t.val / 11, 0] := (by decide +kernel : ∀ t : Fin grid0.N, _)
theorem idx11 : ∀ t : Fin cfg0.N, win0_11.index t = ![t.val / 11 / 8, 0, 0] := (by decide +kernel : ∀ t : Fin grid0.N, _)
theorem idx12 : ∀ t : Fin cfg0.N, win0_12.index t = ![t.val / 11, 0] := (by decide +kernel : ∀ t : Fin grid0.N, _)

theorem prev_iff : ∀ t : Fin cfg0.N, hasPrev (grid0.coords t) = 1#1 ↔ t.val / 11 % 8 ≠ 0 :=
  (by decide +kernel : ∀ t : Fin grid0.N, _)
theorem next_iff : ∀ t : Fin cfg0.N, hasNext (grid0.coords t) = 1#1 ↔ t.val / 11 % 8 ≠ 7 :=
  (by decide +kernel : ∀ t : Fin grid0.N, _)

/-- What a point reads: its blocks of rows, of weights, and of the residual and its gate. -/
def ub (c : Dev nD) (t : Fin cfg0.N) : Vec Ideal S512x2048 .bf16 := iblk m c 0 t
def ubp (c : Dev nD) (t : Fin cfg0.N) : Vec Ideal S16x2048 .bf16 := iblk m c 1 t
def ubn (c : Dev nD) (t : Fin cfg0.N) : Vec Ideal S16x2048 .bf16 := iblk m c 2 t
def wts (c : Dev nD) (t : Fin cfg0.N) : Wts Ideal :=
  ⟨iblk m c 3 t, iblk m c 4 t, iblk m c 5 t, iblk m c 6 t, iblk m c 7 t, iblk m c 8 t, iblk m c 9 t⟩
def xb (c : Dev nD) (t : Fin cfg0.N) : Vec Ideal S512x2048 .f32 := iblk m c 10 t
def gb (c : Dev nD) (t : Fin cfg0.N) : Vec Ideal S1x1x2048 .f32 := iblk m c 11 t

theorem ix2_of {n k : ℕ} (j : (⟨2, ![n, k]⟩ : Shape).Idx) (x : Fin n) (y : Fin k) (h0 : (j 0).val = x.val) (h1 : (j 1).val = y.val) : j = ix2 x y := by
  funext a
  match a with
  | ⟨0, _⟩ => exact Fin.ext h0
  | ⟨1, _⟩ => exact Fin.ext h1

/-- Row `r` of the block of point `t`; column `q` of its tile among the value, and among the gate, columns; and among the hidden ones. -/
def row (t : Fin cfg0.N) (r : Fin 512) : Fin 32768 := ⟨512 * (t.val / 11) + r.val, by have h : t.val < 704 := lt_of_lt_of_eq t.isLt N_0; omega⟩
def colV (t : Fin cfg0.N) (q : Fin 512) : Fin 11264 := ⟨512 * (t.val % 11) + q.val, by omega⟩
def colG (t : Fin cfg0.N) (q : Fin 512) : Fin 11264 := ⟨5632 + 512 * (t.val % 11) + q.val, by omega⟩
def colH (t : Fin cfg0.N) (q : Fin 512) : Fin 5632 := ⟨512 * (t.val % 11) + q.val, by omega⟩

variable (c : Dev nD) (t : Fin cfg0.N)

theorem ub_apply (r : Fin 512) (k : Fin 2048) : ub m c t (ix2 r k) = m ((c : Thread nD τ).loc main_arg0) (ix2 (row t r) k) := by
  show V m c main_arg0 ((win0_0.rect t).emb _) = _
  rw [V_main_arg0]
  refine congrArg (m ((c : Thread nD τ).loc main_arg0)) (ix2_of _ _ _ ?_ ?_)
  · show win0_0.index t 0 * 512 + 1 * r.val = 512 * (t.val / 11) + r.val
    rw [idx0]
    show t.val / 11 * 512 + 1 * r.val = 512 * (t.val / 11) + r.val
    omega
  · show win0_0.index t 1 * 2048 + 1 * k.val = k.val
    rw [idx0]
    show 0 * 2048 + 1 * k.val = k.val
    omega

theorem ubp_apply (k : Fin 2048) (h : 0 < t.val / 11) (h') :
    ubp m c t (ix2 15 k) = m ((c : Thread nD τ).loc main_arg0) (ix2 ⟨512 * (t.val / 11) - 1, h'⟩ k) := by
  show V m c main_arg0 ((win0_1.rect t).emb _) = _
  rw [V_main_arg0]
  refine congrArg (m ((c : Thread nD τ).loc main_arg0)) (ix2_of _ _ _ ?_ ?_)
  · show win0_1.index t 0 * 16 + 1 * 15 = 512 * (t.val / 11) - 1
    rw [idx1]
    show (t.val / 11 * 32 - 1) * 16 + 1 * 15 = 512 * (t.val / 11) - 1
    omega
  · show win0_1.index t 1 * 2048 + 1 * k.val = k.val
    rw [idx1]
    show 0 * 2048 + 1 * k.val = k.val
    omega

theorem ubn_apply (k : Fin 2048) (h : t.val / 11 < 63) (h') :
    ubn m c t (ix2 0 k) = m ((c : Thread nD τ).loc main_arg0) (ix2 ⟨512 * (t.val / 11) + 512, h'⟩ k) := by
  show V m c main_arg0 ((win0_2.rect t).emb _) = _
  rw [V_main_arg0]
  refine congrArg (m ((c : Thread nD τ).loc main_arg0)) (ix2_of _ _ _ ?_ ?_)
  · show win0_2.index t 0 * 16 + 1 * 0 = 512 * (t.val / 11) + 512
    rw [idx2]
    show min (t.val / 11 * 32 + 32) 2047 * 16 + 1 * 0 = 512 * (t.val / 11) + 512
    omega
  · show win0_2.index t 1 * 2048 + 1 * k.val = k.val
    rw [idx2]
    show 0 * 2048 + 1 * k.val = k.val
    omega

theorem wv_apply (k : Fin 2048) (q : Fin 512) : (wts m c t).wv (ix2 k q) = m ((c : Thread nD τ).loc main_arg1) (ix2 k (colV t q)) := by
  show V m c main_v0 ((win0_3.rect t).emb _) = _
  rw [up_apply]
  refine congrArg (m ((c : Thread nD τ).loc main_arg1)) (ix2_of _ _ _ ?_ ?_)
  · show win0_3.index t 0 * 2048 + 1 * k.val = k.val
    rw [idx3]
    show 0 * 2048 + 1 * k.val = k.val
    omega
  · show win0_3.index t 1 * 512 + 1 * q.val = 512 * (t.val % 11) + q.val
    rw [idx3]
    show t.val % 11 * 512 + 1 * q.val = 512 * (t.val % 11) + q.val
    omega

theorem wg_apply (k : Fin 2048) (q : Fin 512) : (wts m c t).wg (ix2 k q) = m ((c : Thread nD τ).loc main_arg1) (ix2 k (colG t q)) := by
  show V m c main_v0 ((win0_4.rect t).emb _) = _
  rw [up_apply]
  refine congrArg (m ((c : Thread nD τ).loc main_arg1)) (ix2_of _ _ _ ?_ ?_)
  · show win0_4.index t 0 * 2048 + 1 * k.val = k.val
    rw [idx4]
    show 0 * 2048 + 1 * k.val = k.val
    omega
  · show win0_4.index t 1 * 512 + 1 * q.val = 5632 + 512 * (t.val % 11) + q.val
    rw [idx4]
    show (11 + t.val % 11) * 512 + 1 * q.val = 5632 + 512 * (t.val % 11) + q.val
    omega

theorem cv_apply (k : Fin 3) (q : Fin 512) : (wts m c t).cv (ix2 k q) = m ((c : Thread nD τ).loc main_arg2) (ix2 k (colV t q)) := by
  show V m c main_arg2 ((win0_5.rect t).emb _) = _
  rw [V_main_arg2]
  refine congrArg (m ((c : Thread nD τ).loc main_arg2)) (ix2_of _ _ _ ?_ ?_)
  · show win0_5.index t 0 * 3 + 1 * k.val = k.val
    rw [idx5]
    show 0 * 3 + 1 * k.val = k.val
    omega
  · show win0_5.index t 1 * 512 + 1 * q.val = 512 * (t.val % 11) + q.val
    rw [idx5]
    show t.val % 11 * 512 + 1 * q.val = 512 * (t.val % 11) + q.val
    omega

theorem cg_apply (k : Fin 3) (q : Fin 512) : (wts m c t).cg (ix2 k q) = m ((c : Thread nD τ).loc main_arg2) (ix2 k (colG t q)) := by
  show V m c main_arg2 ((win0_6.rect t).emb _) = _
  rw [V_main_arg2]
  refine congrArg (m ((c : Thread nD τ).loc main_arg2)) (ix2_of _ _ _ ?_ ?_)
  · show win0_6.index t 0 * 3 + 1 * k.val = k.val
    rw [idx6]
    show 0 * 3 + 1 * k.val = k.val
    omega
  · show win0_6.index t 1 * 512 + 1 * q.val = 5632 + 512 * (t.val % 11) + q.val
    rw [idx6]
    show (11 + t.val % 11) * 512 + 1 * q.val = 5632 + 512 * (t.val % 11) + q.val
    omega

theorem bv_apply (q : Fin 512) : (wts m c t).bv (ix2 0 q) = m ((c : Thread nD τ).loc main_arg3) (ix1 (colV t q)) := by
  refine Eq.trans ?_ (cb_apply m c (colV t q))
  refine congrArg (V m c main_v2) (ix2_of ((win0_7.rect t).emb (ix2 0 q)) _ _ ?_ ?_)
  · show win0_7.index t 0 * 1 + 1 * 0 = 0
    rw [idx7]
    rfl
  · show win0_7.index t 1 * 512 + 1 * q.val = 512 * (t.val % 11) + q.val
    rw [idx7]
    show t.val % 11 * 512 + 1 * q.val = 512 * (t.val % 11) + q.val
    omega

theorem bg_apply (q : Fin 512) : (wts m c t).bg (ix2 0 q) = m ((c : Thread nD τ).loc main_arg3) (ix1 (colG t q)) := by
  refine Eq.trans ?_ (cb_apply m c (colG t q))
  refine congrArg (V m c main_v2) (ix2_of ((win0_8.rect t).emb (ix2 0 q)) _ _ ?_ ?_)
  · show win0_8.index t 0 * 1 + 1 * 0 = 0
    rw [idx8]
    rfl
  · show win0_8.index t 1 * 512 + 1 * q.val = 5632 + 512 * (t.val % 11) + q.val
    rw [idx8]
    show (11 + t.val % 11) * 512 + 1 * q.val = 5632 + 512 * (t.val % 11) + q.val
    omega

theorem dnb_apply (q : Fin 512) (n : Fin 2048) : (wts m c t).dn (ix2 q n) = m ((c : Thread nD τ).loc main_arg4) (ix2 (colH t q) n) := by
  show V m c main_v1 ((win0_9.rect t).emb _) = _
  rw [dn_apply]
  refine congrArg (m ((c : Thread nD τ).loc main_arg4)) (ix2_of _ _ _ ?_ ?_)
  · show win0_9.index t 0 * 512 + 1 * q.val = 512 * (t.val % 11) + q.val
    rw [idx9]
    show t.val % 11 * 512 + 1 * q.val = 512 * (t.val % 11) + q.val
    omega
  · show win0_9.index t 1 * 2048 + 1 * n.val = n.val
    rw [idx9]
    show 0 * 2048 + 1 * n.val = n.val
    omega

theorem xb_apply (r : Fin 512) (n : Fin 2048) : xb m c t (ix2 r n) = m ((c : Thread nD τ).loc main_arg5) (ix2 (row t r) n) := by
  show V m c main_arg5 ((win0_10.rect t).emb _) = _
  rw [V_main_arg5]
  refine congrArg (m ((c : Thread nD τ).loc main_arg5)) (ix2_of _ _ _ ?_ ?_)
  · show win0_10.index t 0 * 512 + 1 * r.val = 512 * (t.val / 11) + r.val
    rw [idx10]
    show t.val / 11 * 512 + 1 * r.val = 512 * (t.val / 11) + r.val
    omega
  · show win0_10.index t 1 * 2048 + 1 * n.val = n.val
    rw [idx10]
    show 0 * 2048 + 1 * n.val = n.val
    omega

theorem gb_apply (n : Fin 2048) (h) : gb m c t (ix3 0 0 n) = m ((c : Thread nD τ).loc main_arg6) (ix3 ⟨t.val / 11 / 8, h⟩ 0 n) := by
  show V m c main_arg6 ((win0_11.rect t).emb _) = _
  rw [V_main_arg6]
  refine congrArg (m ((c : Thread nD τ).loc main_arg6)) (funext fun a => ?_)
  match a with
  | ⟨0, _⟩ =>
    refine Fin.ext ?_
    show win0_11.index t 0 * 1 + 1 * 0 = t.val / 11 / 8
    rw [idx11]
    show t.val / 11 / 8 * 1 + 1 * 0 = t.val / 11 / 8
    omega
  | ⟨1, _⟩ =>
    refine Fin.ext ?_
    show win0_11.index t 1 * 1 + 1 * 0 = 0
    rw [idx11]
    rfl
  | ⟨2, _⟩ =>
    refine Fin.ext ?_
    show win0_11.index t 2 * 2048 + 1 * n.val = n.val
    rw [idx11]
    show 0 * 2048 + 1 * n.val = n.val
    omega

end Cert.Fn

end
-- ==== Proof.FfnArray.lean ====
/-
  What the feed-forward kernel's result array holds after the run.
-/
module

public import proofs.«01_k».proof.Proof.FfnBlocks

@[expose] public section

set_option maxRecDepth 16384

noncomputable section

namespace Cert.Fn

open Idealize.ShloMosaic Idealize.ShloMosaic.TcCoe Idealize.SL.Sem Cert.FfnIdeal Cert.FfnIdeal.Gen

section Rows

variable (U : FVec Ideal S32768x2048 .bf16) (UP : FVec Ideal S2048x11264 .f32) (CW : FVec Ideal S3x11264 .f32) (CB : FVec Ideal S11264 .f32)

/-- A hidden column at row `n` of the whole input, -/
def hidR (n : ℕ) (q : Fin 11264) : EReal := ∑ k : Fin 2048, U (ix2 (Fin.ofNat 32768 n) k) * UP (ix2 k q)

/-- its convolution with the rows before and after in the same sequence of 4096 rows, -/
def convR (n : ℕ) (q : Fin 11264) : EReal :=
  CW (ix2 0 q) * (if n % 4096 = 0 then 0 else hidR U UP (n - 1) q) + CW (ix2 1 q) * hidR U UP n q
    + CW (ix2 2 q) * (if n % 4096 = 4095 then 0 else hidR U UP (n + 1) q) + CB (ix1 q)

/-- and the gated activation. -/
def actR (n : ℕ) (f : Fin 5632) : EReal :=
  convR U UP CW CB n ⟨5632 + f.val, by omega⟩ * Ideal.logistic (convR U UP CW CB n ⟨5632 + f.val, by omega⟩) * convR U UP CW CB n ⟨f.val, by omega⟩

end Rows

variable (m : (ℓ : Loc nD τ sig) → Buf (Elt Ideal) ℓ) (c : Dev nD)

/-- The arguments on core `c`. -/
abbrev aU : FVec Ideal S32768x2048 .bf16 := m ((c : Thread nD τ).loc main_arg0)
abbrev aUP : FVec Ideal S2048x11264 .f32 := m ((c : Thread nD τ).loc main_arg1)
abbrev aCW : FVec Ideal S3x11264 .f32 := m ((c : Thread nD τ).loc main_arg2)
abbrev aCB : FVec Ideal S11264 .f32 := m ((c : Thread nD τ).loc main_arg3)
abbrev aDN : FVec Ideal S5632x2048 .f32 := m ((c : Thread nD τ).loc main_arg4)
abbrev aX : FVec Ideal S32768x2048 .f32 := m ((c : Thread nD τ).loc main_arg5)
abbrev aG : FVec Ideal S8x1x2048 .f32 := m ((c : Thread nD τ).loc main_arg6)

/-- The scratch a point fills from its blocks. -/
def stkAt (t : Fin cfg0.N) : Vec Ideal S544x2048 .bf16 := stk (ub m c t) (ubp m c t) (ubn m c t)

/-- A row of the scratch is a row of the input: the row sixteen before the block's first is the scratch's first. -/
theorem stk_row (t : Fin cfg0.N) (R : Fin 544) (n : ℕ) (h : n + 16 = 512 * (t.val / 11) + R.val) (hlo : 15 ≤ R.val) (hhi : R.val ≤ 528)
    (h0 : R.val = 15 → 0 < t.val / 11) (h1 : R.val = 528 → t.val / 11 < 63) (k : Fin 2048) :
    stkAt m c t (ix2 R k) = aU m c (ix2 (Fin.ofNat 32768 n) k) := by
  have ht : t.val < 704 := lt_of_lt_of_eq t.isLt N_0
  have hn : n < 32768 := by
    by_cases g : R.val = 528
    · have := h1 g; omega
    · omega
  have en : Fin.ofNat 32768 n = ⟨n, hn⟩ := Fin.ext (Nat.mod_eq_of_lt hn)
  rw [en]
  unfold stkAt stk
  by_cases a : R.val < 16
  · refine (dif_pos (show ((ix2 R k : S544x2048.Idx) 0).val < 16 from a)).trans ?_
    have e : R.val = 15 := by omega
    have hi := h0 e
    refine Eq.trans ?_ ((ubp_apply m c t k hi (by omega)).trans ?_)
    · exact congrArg (ubp m c t) (ix2_of _ _ _ e rfl)
    · refine congrArg (aU m c) (ix2_of _ _ _ ?_ rfl)
      show 512 * (t.val / 11) - 1 = n
      omega
  · refine (dif_neg (show ¬((ix2 R k : S544x2048.Idx) 0).val < 16 from a)).trans ?_
    by_cases b : R.val < 528
    · refine (dif_pos (show ((ix2 R k : S544x2048.Idx) 0).val < 528 from b)).trans ?_
      refine (ub_apply m c t ⟨R.val - 16, by omega⟩ k).trans ?_
      refine congrArg (aU m c) (ix2_of _ _ _ ?_ rfl)
      show 512 * (t.val / 11) + (R.val - 16) = n
      omega
    · refine (dif_neg (show ¬((ix2 R k : S544x2048.Idx) 0).val < 528 from b)).trans ?_
      have e : R.val = 528 := by omega
      have hi := h1 e
      refine Eq.trans ?_ ((ubn_apply m c t k hi (by omega)).trans ?_)
      · exact congrArg (ubn m c t) (ix2_of _ _ _ (show R.val - 528 = 0 by omega) rfl)
      · refine congrArg (aU m c) (ix2_of _ _ _ ?_ rfl)
        show 512 * (t.val / 11) + 512 = n
        omega

/-- A column of a point's tile after the convolution is the whole layer's column. -/
theorem cvd_row (t t' : Fin cfg0.N) (hi : t'.val / 11 = t.val / 11) (W : Vec Ideal S2048x512 .bf16) (C : Vec Ideal S3x512 .f32) (B : Vec Ideal S1x512 .f32)
    (r q : Fin 512) (Q : Fin 11264) (hW : ∀ k, W (ix2 k q) = aUP m c (ix2 k Q)) (hC : ∀ k, C (ix2 k q) = aCW m c (ix2 k Q)) (hB : B (ix2 0 q) = aCB m c (ix1 Q)) :
    cvd (hasPrev (grid0.coords t) = 1#1) (hasNext (grid0.coords t) = 1#1) (stkAt m c t') W C B r q
      = convR (aU m c) (aUP m c) (aCW m c) (aCB m c) (512 * (t.val / 11) + r.val) Q := by
  have ht : t.val < 704 := lt_of_lt_of_eq t.isLt N_0
  have hr := r.isLt
  have hp := prev_iff t
  have hx := next_iff t
  have hh : ∀ (R : Fin 544) (n : ℕ), n + 16 = 512 * (t.val / 11) + R.val → 15 ≤ R.val → R.val ≤ 528 → (R.val = 15 → 0 < t.val / 11) →
      (R.val = 528 → t.val / 11 < 63) → hid (stkAt m c t') W R q = hidR (aU m c) (aUP m c) n Q := by
    intro R n a b d e f
    unfold hid hidR
    refine Finset.sum_congr rfl fun k _ => ?_
    rw [stk_row m c t' R n (by rw [hi]; exact a) b d (by rw [hi]; exact e) (by rw [hi]; exact f) k, hW]
  unfold cvd convR
  rw [hC, hC, hC, hB]
  have e1 := hh ⟨16 + r.val, by omega⟩ (512 * (t.val / 11) + r.val) (by show _ = 512 * (t.val / 11) + (16 + r.val); omega)
    (by show 15 ≤ 16 + r.val; omega) (by show 16 + r.val ≤ 528; omega) (by show 16 + r.val = 15 → _; omega) (by show 16 + r.val = 528 → _; omega)
  have e0 : (if r.val = 0 ∧ ¬ hasPrev (grid0.coords t) = 1#1 then 0 else hid (stkAt m c t') W ⟨15 + r.val, by omega⟩ q)
      = if (512 * (t.val / 11) + r.val) % 4096 = 0 then 0 else hidR (aU m c) (aUP m c) (512 * (t.val / 11) + r.val - 1) Q := by
    by_cases g : (512 * (t.val / 11) + r.val) % 4096 = 0
    · rw [if_pos g, if_pos (show r.val = 0 ∧ ¬ hasPrev (grid0.coords t) = 1#1 by rw [hp]; omega)]
    · rw [if_neg g, if_neg (show ¬(r.val = 0 ∧ ¬ hasPrev (grid0.coords t) = 1#1) by rw [hp]; omega)]
      exact hh ⟨15 + r.val, by omega⟩ _ (by show _ = 512 * (t.val / 11) + (15 + r.val); omega)
        (by show 15 ≤ 15 + r.val; omega) (by show 15 + r.val ≤ 528; omega) (by show 15 + r.val = 15 → _; omega) (by show 15 + r.val = 528 → _; omega)
  have e2 : (if r.val = 511 ∧ ¬ hasNext (grid0.coords t) = 1#1 then 0 else hid (stkAt m c t') W ⟨17 + r.val, by omega⟩ q)
      = if (512 * (t.val / 11) + r.val) % 4096 = 4095 then 0 else hidR (aU m c) (aUP m c) (512 * (t.val / 11) + r.val + 1) Q := by
    by_cases g : (512 * (t.val / 11) + r.val) % 4096 = 4095
    · rw [if_pos g, if_pos (show r.val = 511 ∧ ¬ hasNext (grid0.coords t) = 1#1 by rw [hx]; omega)]
    · rw [if_neg g, if_neg (show ¬(r.val = 511 ∧ ¬ hasNext (grid0.coords t) = 1#1) by rw [hx]; omega)]
      exact hh ⟨17 + r.val, by omega⟩ _ (by show _ = 512 * (t.val / 11) + (17 + r.val); omega)
        (by show 15 ≤ 17 + r.val; omega) (by show 17 + r.val ≤ 528; omega) (by show 17 + r.val = 15 → _; omega) (by show 17 + r.val = 528 → _; omega)
  rw [e0, e1, e2]

/-- One tile's part of a row of the output. -/
theorem part_row (t t' : Fin cfg0.N) (hi : t'.val / 11 = t.val / 11) (r : Fin 512) (n : Fin 2048) :
    part (grid0.coords t) (stkAt m c t') (wts m c t) (ix2 r n)
      = ∑ k : Fin 512, actR (aU m c) (aUP m c) (aCW m c) (aCB m c) (512 * (t.val / 11) + r.val) (colH t k) * aDN m c (ix2 (colH t k) n) := by
  rw [part_apply]
  refine Finset.sum_congr rfl fun k _ => ?_
  rw [dnb_apply]
  unfold act actR
  rw [cvd_row m c t t' hi _ _ _ r k _ (fun k' => wg_apply m c t k' k) (fun k' => cg_apply m c t k' k) (bg_apply m c t k),
    cvd_row m c t t' hi _ _ _ r k _ (fun k' => wv_apply m c t k' k) (fun k' => cv_apply m c t k' k) (bv_apply m c t k)]
  have e : colG t k = ⟨5632 + (colH t k).val, by omega⟩ := Fin.ext (Nat.add_assoc ..)
  rw [e]
  rfl

/-- What the first point of a block leaves: the first tile's part, and the scratch filled. -/
theorem step_first (t : Fin cfg0.N) (h : t.val % 11 = 0) :
    outsAt0 m c t.val t.isLt = (part (grid0.coords t) (stkAt m c t) (wts m c t), stkAt m c t) := by
  rw [outsAt0_A m c t h h (by omega) (by omega)]
  refine Prod.ext ?_ ?_
  · dsimp only
    exact (out_A _ _ _ _ _ _ _ _ _ _ _ _ _ _ _ _ _ _ _ _ _ _ _ _ _ _ _ _ _ _ _ _ _ (wts m c t) _ _ _ _ _ _)
  · dsimp only
    exact (scratch_A _ _ _ _ _ _ _ _ _ _ _ _ _ _ _ _ _ _ _ _ _ _ _ _ _ _ _ _ _ _ _ _ _ (wts m c t) _ _ _ _ _ _)

theorem outs_congr (a b : ℕ) (e : a = b) (ha hb) : outsAt0 m c a ha = outsAt0 m c b hb := by subst e; rfl

/-- A middle point adds its tile's part to what the point before left. -/
theorem step_mid (t : Fin cfg0.N) (h0 : ¬t.val % 11 = 0) (h3 : ¬t.val % 11 = 10) (p) (hp : ∀ h, outsAt0 m c (t.val - 1) h = p) :
    outsAt0 m c t.val t.isLt = (k0_pay1 (part (grid0.coords t) p.2 (wts m c t)) p.1, p.2) := by
  rw [outsAt0_B m c t h0 h0 (Nat.pos_of_ne_zero h0) h3]
  simp only [hp]
  refine Prod.ext ?_ rfl
  dsimp only
  exact (out_B _ _ _ _ _ _ _ _ _ _ _ _ _ _ _ _ _ _ _ _ _ _ _ _ _ _ _ _ _ _ _ _ _ (wts m c t) _ _ _ _ _ _ _ _)

/-- The last point also scales the sum by the gate and adds the residual. -/
theorem step_last (t : Fin cfg0.N) (h3 : t.val % 11 = 10) (p) (hp : ∀ h, outsAt0 m c (t.val - 1) h = p) :
    (outsAt0 m c t.val t.isLt).1 = k0_pay2 (xb m c t) (gb m c t) (k0_pay1 (part (grid0.coords t) p.2 (wts m c t)) p.1) := by
  have h0 : ¬t.val % 11 = 0 := by omega
  rw [outsAt0_C m c t h0 h0 (Nat.pos_of_ne_zero h0) h3]
  simp only [hp]
  exact out_C _ _ _ _ _ _ _ _ _ _ _ _ _ _ _ _ _ _ _ _ _ _ _ _ _ _ _ _ _ _ _ _ _ (wts m c t) _ _ _ _ _ _ _ _

/-- The point of tile `j` of block `i`. -/
def pt (i : Fin 64) (j : ℕ) (hj : j < 11) : Fin cfg0.N := ⟨11 * i.val + j, by rw [show cfg0.N = 704 from N_0]; omega⟩

/-- Tile `j`'s part at a row and column, as a sum over the tile's hidden columns. -/
def tile (i : Fin 64) (r : Fin 512) (n : Fin 2048) (j : ℕ) : EReal :=
  if hj : j < 11 then ∑ k : Fin 512, actR (aU m c) (aUP m c) (aCW m c) (aCB m c) (512 * i.val + r.val) ⟨512 * j + k.val, by omega⟩
    * aDN m c (ix2 ⟨512 * j + k.val, by omega⟩ n) else 0

theorem part_tile (i : Fin 64) (j : ℕ) (hj : j < 11) (r : Fin 512) (n : Fin 2048) :
    part (grid0.coords (pt i j hj)) (stkAt m c (pt i 0 (by decide))) (wts m c (pt i j hj)) (ix2 r n) = tile m c i r n j := by
  have e1 : (pt i j hj).val / 11 = i.val := by show (11 * i.val + j) / 11 = i.val; omega
  have e0 : (pt i 0 (by decide)).val / 11 = i.val := by show (11 * i.val + 0) / 11 = i.val; omega
  rw [part_row m c (pt i j hj) (pt i 0 (by decide)) (e0.trans e1.symm) r n, e1]
  refine Eq.trans ?_ (dif_pos hj).symm
  refine Finset.sum_congr rfl fun k _ => ?_
  have e : colH (pt i j hj) k = ⟨512 * j + k.val, by omega⟩ := Fin.ext (by show 512 * ((11 * i.val + j) % 11) + k.val = 512 * j + k.val; omega)
  rw [e]

/-- The result block through the tiles: after tile `j` it holds the sum of the parts so far, and the scratch stays. -/
theorem acc (i : Fin 64) : ∀ (j : ℕ) (hj : j < 10) (h : 11 * i.val + j < cfg0.N),
    (outsAt0 m c (11 * i.val + j) h).2 = stkAt m c (pt i 0 (by decide))
      ∧ ∀ r n, (outsAt0 m c (11 * i.val + j) h).1 (ix2 r n) = ∑ j' ∈ Finset.range (j + 1), tile m c i r n j' := by
  intro j
  induction j with
  | zero =>
    intro hj h
    have e := step_first m c (pt i 0 (by decide)) (by show (11 * i.val + 0) % 11 = 0; omega)
    refine ⟨congrArg Prod.snd e, fun r n => ?_⟩
    refine (congrFun (congrArg Prod.fst e) (ix2 r n)).trans ?_
    rw [Finset.sum_range_one]
    exact part_tile m c i 0 (by decide) r n
  | succ j ih =>
    intro hj h
    obtain ⟨i2, i1⟩ := ih (by omega) (Nat.lt_of_succ_lt h)
    have e := step_mid m c (pt i (j + 1) (by omega)) (by show ¬(11 * i.val + (j + 1)) % 11 = 0; omega) (by show ¬(11 * i.val + (j + 1)) % 11 = 10; omega) _
      (fun _ => outs_congr m c _ (11 * i.val + j) rfl _ (Nat.lt_of_succ_lt h))
    refine ⟨(congrArg Prod.snd e).trans i2, fun r n => ?_⟩
    refine (congrFun (congrArg Prod.fst e) (ix2 r n)).trans ?_
    refine (pay1_apply r _ _ n).trans ?_
    rw [i1, i2, Finset.sum_range_succ _ (j + 1), part_tile m c i (j + 1) (by omega) r n]

/-- The block the last tile leaves. -/
theorem last_block (i : Fin 64) (h : 11 * i.val + 10 < cfg0.N) (r : Fin 512) (n : Fin 2048) (hg) (hT) :
    (outsAt0 m c (11 * i.val + 10) h).1 (ix2 r n)
      = aX m c (ix2 ⟨512 * i.val + r.val, hT⟩ n) + aG m c (ix3 ⟨i.val / 8, hg⟩ 0 n) * ∑ j : Fin 11, tile m c i r n j.val := by
  obtain ⟨i2, i1⟩ := acc m c i 9 (by decide) (Nat.lt_of_succ_lt h)
  have ei : (11 * i.val + 10) / 11 = i.val := by omega
  refine (congrFun (step_last m c (pt i 10 (by decide)) (by show (11 * i.val + 10) % 11 = 10; omega) _
    (fun _ => outs_congr m c _ (11 * i.val + 9) rfl _ (Nat.lt_of_succ_lt h))) (ix2 r n)).trans ?_
  rw [pay2_apply, pay1_apply, i1, i2, ← Finset.sum_range (fun j => tile m c i r n j), Finset.sum_range_succ _ 10]
  have e1 := part_tile m c i 10 (by decide) r n
  have e2 : xb m c (pt i 10 (by decide)) (ix2 r n) = aX m c (ix2 ⟨512 * i.val + r.val, hT⟩ n) := by
    rw [xb_apply]
    refine congrArg (aX m c) (ix2_of _ _ _ ?_ rfl)
    show 512 * ((11 * i.val + 10) / 11) + r.val = 512 * i.val + r.val
    rw [ei]
  have e3 : gb m c (pt i 10 (by decide)) (ix3 0 0 n) = aG m c (ix3 ⟨i.val / 8, hg⟩ 0 n) := by
    rw [gb_apply m c _ n (by show (11 * i.val + 10) / 11 / 8 < 8; rw [ei]; exact hg)]
    have e : (⟨(pt i 10 (by decide)).val / 11 / 8, by show (11 * i.val + 10) / 11 / 8 < 8; rw [ei]; exact hg⟩ : Fin 8) = ⟨i.val / 8, hg⟩ :=
      Fin.ext (by show (11 * i.val + 10) / 11 / 8 = i.val / 8; rw [ei])
    rw [e]
  rw [e1, e2, e3]

theorem inj12 (t t' : Fin cfg0.N) (h : win0_12.index t = win0_12.index t') (ht : t.val % 11 = 10) (ht' : t'.val % 11 = 10) : t = t' := by
  rw [idx12, idx12] at h
  have h0 : t.val / 11 = t'.val / 11 := congrFun h 0
  exact Fin.ext (by omega)

/-- The result after the run, at row `r` of block `i`. -/
theorem out_at (i : Fin 64) (r : Fin 512) (n : Fin 2048) (hg) (hT) :
    (dats m 0 c).arrAt 12 cfg0.N (ix2 ⟨512 * i.val + r.val, hT⟩ n)
      = aX m c (ix2 ⟨512 * i.val + r.val, hT⟩ n) + aG m c (ix3 ⟨i.val / 8, hg⟩ 0 n) * ∑ j : Fin 11, tile m c i r n j.val := by
  have h10 : (pt i 10 (by decide)).val % 11 = 10 := by show (11 * i.val + 10) % 11 = 10; omega
  have e := (dats m 0 c).read_blk_arrAt_eq_flushed 12
    (fun t t' ht ht' hne => (cfg0.win 12).disjoint_blk fun h => hne (inj12 t t' h ((flush0_12 t).mp ht) ((flush0_12 t').mp ht')))
    cfg0.N (pt i 10 (by decide)) (pt i 10 (by decide)).isLt ((flush0_12 _).mpr h10)
  have e2 : (dats m 0 c).flushed 12 (pt i 10 (by decide)) = (outsAt0 m c (pt i 10 (by decide)).val (pt i 10 (by decide)).isLt).1 := by
    show (cfg0.win 12).cut (grid0.coords (pt i 10 (by decide))) ((dats m 0 c).after 12 (pt i 10 (by decide))) = _
    rw [after0_12]
    rfl
  rw [e2] at e
  rw [← last_block m c i (pt i 10 (by decide)).isLt r n hg hT]
  refine Eq.trans ?_ (congrFun e (ix2 r n))
  show _ = (dats m 0 c).arrAt 12 cfg0.N ((win0_12.rect (pt i 10 (by decide))).emb (ix2 r n))
  refine congrArg ((dats m 0 c).arrAt 12 cfg0.N) (Eq.symm (ix2_of _ _ _ ?_ ?_))
  · show win0_12.index (pt i 10 (by decide)) 0 * 512 + 1 * r.val = 512 * i.val + r.val
    rw [idx12]
    show (11 * i.val + 10) / 11 * 512 + 1 * r.val = 512 * i.val + r.val
    omega
  · show win0_12.index (pt i 10 (by decide)) 1 * 2048 + 1 * n.val = n.val
    rw [idx12]
    show 0 * 2048 + 1 * n.val = n.val
    omega

/-- The run: the result array ends at the pipeline's final contents, and the arguments are kept. -/
theorem run_ffn (ρ : Dev nD → PrngReg) : θ_run defs (onTc (τ := τ) (main (F := Ideal))) ⟨m, fun _ => 0, ρ⟩ fun r => ∀ c : Dev nD,
      r.2.mem ((c : Thread nD τ).loc main_v3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1 12,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 5).trans (((dats m 0 c).arrAt_in 5 rfl _).trans ((A_eq m c 5).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 10).trans (((dats m 0 c).arrAt_in 10 rfl _).trans ((A_eq m c 10).trans (V_main_arg5 m c))),
    ((h c).1 11).trans (((dats m 0 c).arrAt_in 11 rfl _).trans ((A_eq m c 11).trans (V_main_arg6 m c)))⟩)
    (run_main m ρ)

end Cert.Fn

end
-- ==== Proof.FfnRef.lean ====
/-
  The feed-forward layer's reference, read at an index.
-/
module

public import proofs.«01_k».proof.Proof.Gen.FfnRefIdeal.Read
public import Idealize.ShloMosaic.Lib.Pointwise

@[expose] public section

set_option maxRecDepth 16384

noncomputable section

namespace Cert.Fn.Ref

open Idealize.ShloMosaic Idealize.ShloMosaic.TcCoe Cert.FfnRefIdeal Cert.FfnRefIdeal.Gen Cert.FfnRefIdeal.Read

variable (U : FVec Ideal S32768x2048 .bf16) (UP : FVec Ideal S2048x11264 .f32) (CW : FVec Ideal S3x11264 .f32) (CB : FVec Ideal S11264 .f32)
  (DN : FVec Ideal S5632x2048 .f32) (X : FVec Ideal S32768x2048 .f32) (G : FVec Ideal S8x1x2048 .f32)

/-- Row `t` of sequence `s`. -/
def st (s : Fin 8) (t : Fin 4096) : Fin 32768 := ⟨4096 * s.val + t.val, by omega⟩

/-- The hidden activations, -/
theorem hid_apply (s : Fin 8) (t : Fin 4096) (q : Fin 11264) : val_main_v2 (F := Ideal) U UP (ix3 s t q) = ∑ k : Fin 2048, U (ix2 (st s t) k) * UP (ix2 k q) := by
  pointwise [val_main_v2, val_main_v1, val_main_v0, st]
  simp only [Nat.mul_comm]

/-- with a zero row before and after each sequence, -/
theorem pad_apply (s : Fin 8) (t : Fin 4098) (q : Fin 11264) : val_main_v3 (F := Ideal) U UP (ix3 s t q)
    = if h : 1 ≤ t.val ∧ t.val - 1 < 4096 then val_main_v2 (F := Ideal) U UP (ix3 s ⟨t.val - 1, h.2⟩ q) else 0 := by
  generalize hv : val_main_v2 (F := Ideal) U UP = v
  pointwise [val_main_v3, val_main_call0_v0, val_main_c, hv]
  show (if h : 1 ≤ t.val ∧ t.val - 1 < 4096 then v (ix3 s ⟨t.val - 1, h.2⟩ q) else (((0#32 : BitVec 32).toInt : ℝ) : EReal)) = _
  simp

/-- their convolution along the sequence, -/
theorem conv_apply (s : Fin 8) (t : Fin 4096) (q : Fin 11264) : val_main_v26 (F := Ideal) U UP CW CB (ix3 s t q)
    = CB (ix1 q) + val_main_v3 (F := Ideal) U UP (ix3 s ⟨t.val, by omega⟩ q) * CW (ix2 0 q)
      + val_main_v3 (F := Ideal) U UP (ix3 s ⟨1 + t.val, by omega⟩ q) * CW (ix2 1 q)
      + val_main_v3 (F := Ideal) U UP (ix3 s ⟨2 + t.val, by omega⟩ q) * CW (ix2 2 q) := by
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4]

/-- the gated activations, -/
theorem act_apply (s : Fin 8) (t : Fin 4096) (k : Fin 5632) : val_main_v31 (F := Ideal) U UP CW CB (ix3 s t k)
    = val_main_v26 (F := Ideal) U UP CW CB (ix3 s t ⟨5632 + k.val, by omega⟩)
        * Ideal.logistic (val_main_v26 (F := Ideal) U UP CW CB (ix3 s t ⟨5632 + k.val, by omega⟩))
      * val_main_v26 (F := Ideal) U UP CW CB (ix3 s t ⟨k.val, by omega⟩) := by
  pointwise [val_main_v31, val_main_v30, val_main_v28, val_main_v27, val_main_call1_v5, val_main_call1_v4, val_main_call1_cst_0, val_main_call1_v3,
    val_main_call1_v2, val_main_call1_cst, val_main_call1_v1, val_main_call1_v0]
  rfl

/-- and the result. -/
theorem out_apply (s : Fin 8) (t : Fin 4096) (n : Fin 2048) : val_main_v36 (F := Ideal) U UP CW CB DN X G (ix2 (st s t) n)
    = X (ix2 (st s t) n) + G (ix3 s 0 n) * ∑ k : Fin 5632, val_main_v31 (F := Ideal) U UP CW CB (ix3 s t k) * DN (ix2 k n) := by
  pointwise [val_main_v36, val_main_v35, val_main_v34, val_main_v33, val_main_v32, val_main_v29, st]
  simp only [Nat.mul_comm]

end Cert.Fn.Ref

end
-- ==== Proof.FfnEq.lean ====
/-
  The feed-forward layer: the kernel's result is the reference's.
-/
module

public import proofs.«01_k».proof.Defs
public import proofs.«01_k».proof.Proof.FfnArray
public import proofs.«01_k».proof.Proof.FfnRef

@[expose] public section

set_option maxRecDepth 16384

noncomputable section

namespace Cert.Fn

open Idealize.ShloMosaic Idealize.ShloMosaic.TcCoe Idealize.SL.Sem Cert.FfnIdeal Cert.FfnIdeal.Gen
open Cert.FfnRefIdeal.Read (val_main_v2 val_main_v3 val_main_v26 val_main_v31 val_main_v36)

section Rows

variable (U : FVec Ideal S32768x2048 .bf16) (UP : FVec Ideal S2048x11264 .f32) (CW : FVec Ideal S3x11264 .f32) (CB : FVec Ideal S11264 .f32)
variable (s : Fin 8) (t : Fin 4096)

theorem hidR_eq (n : ℕ) (hn : n = 4096 * s.val + t.val) (q : Fin 11264) : val_main_v2 (F := Ideal) U UP (ix3 s t q) = hidR U UP n q := by
  have e : Fin.ofNat 32768 n = Ref.st s t := Fin.ext (by show n % 32768 = 4096 * s.val + t.val; omega)
  rw [Ref.hid_apply]
  unfold hidR
  rw [e]

/-- The three taps and the bias in the other order. -/
theorem taps_comm (w0 w1 w2 x0 x1 x2 d : EReal) : d + x0 * w0 + x1 * w1 + x2 * w2 = w0 * x0 + w1 * x1 + w2 * x2 + d := by
  rw [mul_comm w0, mul_comm w1, mul_comm w2, add_comm _ d]
  simp only [add_assoc]

/-- The reference's convolution at a row of a sequence is the kernel's at the row of the whole input. -/
theorem convR_eq (q : Fin 11264) : val_main_v26 (F := Ideal) U UP CW CB (ix3 s t q) = convR U UP CW CB (4096 * s.val + t.val) q := by
  have ht := t.isLt
  have e0 : val_main_v3 (F := Ideal) U UP (ix3 s ⟨t.val, by omega⟩ q)
      = if (4096 * s.val + t.val) % 4096 = 0 then 0 else hidR U UP (4096 * s.val + t.val - 1) q := by
    rw [Ref.pad_apply]
    by_cases g : (4096 * s.val + t.val) % 4096 = 0
    · exact (dif_neg (show ¬(1 ≤ t.val ∧ t.val - 1 < 4096) by omega)).trans (if_pos g).symm
    · refine (dif_pos (show 1 ≤ t.val ∧ t.val - 1 < 4096 by omega)).trans (Eq.trans ?_ (if_neg g).symm)
      exact hidR_eq U UP s ⟨t.val - 1, by omega⟩ _ (by show _ = 4096 * s.val + (t.val - 1); omega) q
  have e1 : val_main_v3 (F := Ideal) U UP (ix3 s ⟨1 + t.val, by omega⟩ q) = hidR U UP (4096 * s.val + t.val) q := by
    rw [Ref.pad_apply]
    refine (dif_pos (show 1 ≤ 1 + t.val ∧ 1 + t.val - 1 < 4096 by omega)).trans ?_
    exact hidR_eq U UP s ⟨1 + t.val - 1, by omega⟩ _ (by show _ = 4096 * s.val + (1 + t.val - 1); omega) q
  have e2 : val_main_v3 (F := Ideal) U UP (ix3 s ⟨2 + t.val, by omega⟩ q)
      = if (4096 * s.val + t.val) % 4096 = 4095 then 0 else hidR U UP (4096 * s.val + t.val + 1) q := by
    rw [Ref.pad_apply]
    by_cases g : (4096 * s.val + t.val) % 4096 = 4095
    · exact (dif_neg (show ¬(1 ≤ 2 + t.val ∧ 2 + t.val - 1 < 4096) by omega)).trans (if_pos g).symm
    · refine (dif_pos (show 1 ≤ 2 + t.val ∧ 2 + t.val - 1 < 4096 by omega)).trans (Eq.trans ?_ (if_neg g).symm)
      exact hidR_eq U UP s ⟨2 + t.val - 1, by omega⟩ _ (by show _ = 4096 * s.val + (2 + t.val - 1); omega) q
  rw [Ref.conv_apply, e0, e1, e2]
  exact taps_comm _ _ _ _ _ _ _

theorem actR_eq (f : Fin 5632) : val_main_v31 (F := Ideal) U UP CW CB (ix3 s t f) = actR U UP CW CB (4096 * s.val + t.val) f := by
  rw [Ref.act_apply, convR_eq, convR_eq]
  rfl

/-- The sum over the hidden columns, tile by tile. -/
theorem sum_tiles (f : Fin 5632 → EReal) : ∑ k : Fin 5632, f k = ∑ j : Fin 11, ∑ k : Fin 512, f ⟨512 * j.val + k.val, by omega⟩ := by
  rw [← Equiv.sum_comp (finProdFinEquiv (m := 11) (n := 512)) f, Fintype.sum_prod_type]
  refine Finset.sum_congr rfl fun j _ => Finset.sum_congr rfl fun k _ => ?_
  exact congrArg f (Fin.ext (Nat.add_comm ..))

end Rows

variable (m : (ℓ : Loc nD τ sig) → Buf (Elt Ideal) ℓ) (c : Dev nD)

/-- Every row is a block's. -/
theorem eq_row (R : Fin 32768) : ∃ (i : Fin 64) (r : Fin 512) (h : 512 * i.val + r.val < 32768), R = ⟨512 * i.val + r.val, h⟩ :=
  ⟨⟨R.val / 512, by omega⟩, ⟨R.val % 512, by omega⟩, by show 512 * (R.val / 512) + R.val % 512 < 32768; omega,
    Fin.ext (by show R.val = 512 * (R.val / 512) + R.val % 512; omega)⟩

/-- The result. -/
theorem out_eq : (dats m 0 c).arrAt 12 cfg0.N = val_main_v36 (F := Ideal) (aU m c) (aUP m c) (aCW m c) (aCB m c) (aDN m c) (aX m c) (aG m c) := by
  funext idx
  rw [eq_ix2 idx]
  generalize (idx 0 : Fin 32768) = R
  generalize (idx 1 : Fin 2048) = n
  obtain ⟨i, r, hT, rfl⟩ := eq_row R
  have hi := i.isLt
  have hr := r.isLt
  rw [out_at m c i r n (by omega) hT]
  have e : (⟨512 * i.val + r.val, hT⟩ : Fin 32768) = Ref.st ⟨i.val / 8, by omega⟩ ⟨512 * (i.val % 8) + r.val, by omega⟩ :=
    Fin.ext (by show 512 * i.val + r.val = 4096 * (i.val / 8) + (512 * (i.val % 8) + r.val); omega)
  rw [e]
  refine Eq.trans ?_ (Ref.out_apply _ _ _ _ _ _ _ _ _ n).symm
  rw [sum_tiles]
  congr 2
  refine Finset.sum_congr rfl fun j _ => ?_
  refine (dif_pos j.isLt).trans (Finset.sum_congr rfl fun k _ => ?_)
  rw [actR_eq]
  have e2 : 512 * i.val + r.val = 4096 * (⟨i.val / 8, by omega⟩ : Fin 8).val + (⟨512 * (i.val % 8) + r.val, by omega⟩ : Fin 4096).val := congrArg Fin.val e
  rw [e2]

/-- The claim: from the same arguments, the feed-forward kernel and its reference end with the same result. -/
theorem claim_ffn : Cert.algebraic_FfnIdeal_FfnRefIdeal := by
  intro m g m' g' _ hm
  refine ⟨fun c => (dats m 0 c).arrAt 12 cfg0.N, run_ffn m g, ?_⟩
  refine (θ_run _ _ _).mono (fun r h c => ?_) (Cert.FfnRefIdeal.Value.run m' g')
  obtain ⟨h1, hk⟩ := h c
  obtain ⟨e0, e1, e2, e3, e4, e5, e6⟩ := hm c
  refine ⟨h1.trans ((Cert.FfnRefIdeal.Read.val_main_v36_eq m' c).trans ?_), hk⟩
  rw [e0, e1, e2, e3, e4, e5, e6]
  exact (out_eq m c).symm

end Cert.Fn

end
-- ==== Proof.InBlock.lean ====
/-
  The input projection: what one point of the kernel's grid leaves, and what it computes.
-/
module

public import proofs.«01_k».proof.Proof.Gen.InProjIdeal.Frame
public import Idealize.ShloMosaic.Lib.Pointwise

@[expose] public section

set_option maxRecDepth 16384

noncomputable section

namespace Cert.In

open Idealize.ShloMosaic Idealize.ShloMosaic.TcCoe Idealize.SL.Sem Cert.InProjIdeal Cert.InProjIdeal.Gen

section AnyFloat

variable {F : FTy → Type} [FloatOps F]

theorem z2 : (![0, 0] : Fin 2 → ℕ) = fun _ => 0 := by decide
theorem z3 : (![0, 0, 0] : Fin 3 → ℕ) = fun _ => 0 := by decide

variable (c : Dev nD) (i : grid0.Coords) (a2 : Memref sig .tc .vmem S1024x2048 .f32) (h2 : a2.IsWhole) (a3 : Memref sig .tc .vmem S1x1x2048 .f32) (h3 : a3.IsWhole)
  (a4 : Memref sig .tc .vmem S1x1x2048 .f32) (h4 : a4.IsWhole) (a5 : Memref sig .tc .vmem S2048x1024 .bf16) (h5 : a5.IsWhole) (a6 : Memref sig .tc .vmem S1024x1024 .f32) (h6 : a6.IsWhole)
  (a7 : Memref sig .tc .vmem S1024x2048 .bf16) (h7 : a7.IsWhole)
  (x0 : Vec F S1024x2048 .f32) (x1 x2 : Vec F S1x1x2048 .f32) (x3 : Vec F S2048x1024 .bf16) (xs : Vec F S1024x2048 .bf16)

/-- The first point of a row block leaves the normalised rows in the scratch. -/
theorem scratch_A (hc : cond0_0 i) : sout0_A_0 c i a2 h2 a3 h3 a4 h4 a5 h5 a6 h6 a7 h7 hc x0 x1 x2 x3 = k0_pay1 x0 x1 x2 := by
  unfold sout0_A_0 kernelRun0_A
  dsimp only
  rw [View.read_writes_junk_eq_canon]
  refine (View.canon_cons_unit_zero (S := S1024x2048) z2 _ _ _).trans ?_
  simp only [View.readAt_eq_ld, Memref.IsWhole.read_unread]
  rw [View.ld_unit_zero (S := S1024x2048) z2, View.ld_unit_zero (S := S1x1x2048) z3, View.ld_unit_zero (S := S1x1x2048) z3]

/-- The first point of a row block leaves the product with those rows. -/
theorem out_A (hc : cond0_0 i) : out0_A_4 c i a2 h2 a3 h3 a4 h4 a5 h5 a6 h6 a7 h7 hc x0 x1 x2 x3 = k0_pay2 (k0_pay1 x0 x1 x2) x3 := by
  unfold out0_A_4 kernelRun0_A
  dsimp only
  rw [View.read_writes_junk_eq_canon]
  refine (View.canon_cons_unit_zero (S := S1024x1024) z2 _ _ _).trans ?_
  rw [kernelRun0_A.sl.v3, View.readAt_eq_ld, Memref.IsWhole.read_unread, View.ld_unit_zero (S := S2048x1024) z2]
  refine congrArg (fun u => k0_pay2 u x3) ((View.readCov_cons_toLoadRect _ _ _ _).trans ?_)
  simp only [View.readAt_eq_ld, Memref.IsWhole.read_unread]
  rw [View.ld_unit_zero (S := S1024x2048) z2, View.ld_unit_zero (S := S1x1x2048) z3, View.ld_unit_zero (S := S1x1x2048) z3]

/-- A later point leaves the product with the rows it finds in the scratch. -/
theorem out_B (hc : ¬cond0_0 i) : out0_B_4 c i a2 h2 a3 h3 a4 h4 a5 h5 a6 h6 a7 h7 hc x0 x1 x2 x3 xs = k0_pay2 xs x3 := by
  unfold out0_B_4 kernelRun0_B
  dsimp only
  rw [View.read_writes_junk_eq_canon]
  refine (View.canon_cons_unit_zero (S := S1024x1024) z2 _ _ _).trans ?_
  simp only [View.readAt_eq_ld, Memref.IsWhole.read_unread]
  rw [View.ld_unit_zero (S := S1024x2048) z2, View.ld_unit_zero (S := S2048x1024) z2]

end AnyFloat

section Exact

variable (x : Vec Ideal S1024x2048 .f32) (gs sh : Vec Ideal S1x1x2048 .f32) (u : Vec Ideal S1024x2048 .bf16) (w : Vec Ideal S2048x1024 .bf16)

/-- One over the root mean square of `2048` values. -/
def rms (f : Fin 2048 → EReal) : EReal :=
  Ideal.rsqrt (Ideal.div (∑ k : Fin 2048, f k * f k) (Scalar.ofBits (F := Ideal) .f32 0x45000000#32) + Scalar.ofBits (F := Ideal) .f32 0x358637BD#32)

theorem pay1_apply (r : Fin 1024) (k : Fin 2048) : k0_pay1 (F := Ideal) x gs sh (ix2 r k)
    = x (ix2 r k) * rms (fun k' => x (ix2 r k')) * gs (ix3 0 0 k) + sh (ix3 0 0 k) := by
  unfold rms
  pointwise [k0_pay1]

theorem pay2_apply (r q : Fin 1024) : k0_pay2 (F := Ideal) u w (ix2 r q) = ∑ k : Fin 2048, u (ix2 r k) * w (ix2 k q) := by
  pointwise [k0_pay2]

end Exact

end Cert.In

end
-- ==== Proof.InArray.lean ====
/-
  What the input projection's result array holds after the run.
-/
module

public import proofs.«01_k».proof.Proof.InBlock
public import proofs.«01_k».proof.Proof.Gen.InProjIdeal.Value

@[expose] public section

set_option maxRecDepth 16384

noncomputable section

namespace Cert.In

open Idealize.ShloMosaic Idealize.ShloMosaic.TcCoe Idealize.SL.Sem Cert.InProjIdeal Cert.InProjIdeal.Gen

variable (m : (ℓ : Loc nD τ sig) → Buf (Elt Ideal) ℓ) (c : Dev nD)

/-- The arguments on core `c`. -/
abbrev aX : FVec Ideal S32x256x2048 .f32 := m ((c : Thread nD τ).loc main_arg0)
abbrev aG : FVec Ideal S2048 .f32 := m ((c : Thread nD τ).loc main_arg1)
abbrev aSC : FVec Ideal S1x1x2048 .f32 := m ((c : Thread nD τ).loc main_arg2)
abbrev aSH : FVec Ideal S1x1x2048 .f32 := m ((c : Thread nD τ).loc main_arg3)
abbrev aW : FVec Ideal S2048x5888 .f32 := m ((c : Thread nD τ).loc main_arg4)

/-- The arrays the launch finds: the rows, the scale and the weights. -/
abbrev vX : FVec Ideal S8192x2048 .f32 := V m c main_v6
abbrev vGS : FVec Ideal S1x1x2048 .f32 := V m c main_v3
abbrev vW : FVec Ideal S2048x6144 .bf16 := V m c main_v5

/-- The rows of all sequences one after the other, as the launch finds them. -/
theorem V_x : V m c main_v6 = shapeCast S8192x2048 (aX m c) shapeCasts_S32x256x2048_S8192x2048 := by
  show StableHlo.after _ _ _ = _
  simp only [List.flatten_cons, List.flatten_nil, List.append_nil, List.cons_append, List.nil_append, StableHlo.after_cons, StableHlo.after_nil]
  rfl

/-- The scale as the launch finds it. -/
theorem V_gs : V m c main_v3 = mulf (broadcastInDim S1x1x2048 ![2] bcast_S2048_S1x1x2048_2 (aG m c))
    (addf (broadcastInDim S1x1x2048 ![] bcast_S_S1x1x2048 (constant (F := Ideal) S_ .f32 0x3F800000#32)) (aSC m c)) := by
  show StableHlo.after _ _ _ = _
  simp only [List.flatten_cons, List.flatten_nil, List.append_nil, List.cons_append, List.nil_append, StableHlo.after_cons, StableHlo.after_nil]
  rfl

/-- The padded weights as the launch finds them. -/
theorem V_w : V m c main_v5 = pad S2048x6144 ![0, 0] ![0, 256] ![0, 0] (truncf (F := Ideal) .bf16 (aW m c) bitsLt_bf16_f32)
    (sitofp (F := Ideal) .bf16 (constantI S_ 32 0#32)) pads_S2048x5888_S2048x6144_000_02560 h_S_ := by
  show StableHlo.after _ _ _ = _
  simp only [List.flatten_cons, List.flatten_nil, List.append_nil, List.cons_append, List.nil_append, StableHlo.after_cons, StableHlo.after_nil]
  rfl

theorem x_apply (R : Fin 8192) (k : Fin 2048) : V m c main_v6 (ix2 R k) = aX m c (ix3 ⟨R.val / 256, by omega⟩ ⟨R.val % 256, by omega⟩ k) := by
  rw [V_x]
  pointwise []

theorem gs_apply (k : Fin 2048) : V m c main_v3 (ix3 0 0 k) = aG m c (ix1 k) * (Scalar.ofBits (F := Ideal) .f32 0x3F800000#32 + aSC m c (ix3 0 0 k)) := by
  rw [V_gs]
  pointwise []

theorem w_apply (k : Fin 2048) (n : Fin 6144) : V m c main_v5 (ix2 k n) = if h : n.val < 5888 then aW m c (ix2 k ⟨n.val, h⟩) else 0 := by
  rw [V_w]
  generalize aW m c = w
  pointwise []
  show (if h : n.val < 5888 then w (ix2 k ⟨n.val, h⟩) else (((0#32 : BitVec 32).toInt : ℝ) : EReal)) = _
  simp

theorem idx0 : ∀ t : Fin cfg0.N, win0_0.index t = ![t.val / 6, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, t.val % 6] := (by decide +kernel : ∀ t : Fin grid0.N, _)
theorem idx4 : ∀ t : Fin cfg0.N, win0_4.index t = ![t.val / 6, t.val % 6] := (by decide +kernel : ∀ t : Fin grid0.N, _)

theorem ix2_of {n k : ℕ} (j : (⟨2, ![n, k]⟩ : Shape).Idx) (x : Fin n) (y : Fin k) (h0 : (j 0).val = x.val) (h1 : (j 1).val = y.val) : j = ix2 x y := by
  funext a
  match a with
  | ⟨0, _⟩ => exact Fin.ext h0
  | ⟨1, _⟩ => exact Fin.ext h1

theorem ix3_of {n k l : ℕ} (j : (⟨3, ![n, k, l]⟩ : Shape).Idx) (x : Fin n) (y : Fin k) (z : Fin l) (h0 : (j 0).val = x.val) (h1 : (j 1).val = y.val)
    (h2 : (j 2).val = z.val) : j = ix3 x y z := by
  funext a
  match a with
  | ⟨0, _⟩ => exact Fin.ext h0
  | ⟨1, _⟩ => exact Fin.ext h1
  | ⟨2, _⟩ => exact Fin.ext h2

/-- What a point reads: its rows, the scale, the shift and its columns of the weights. -/
def xb (t : Fin cfg0.N) : Vec Ideal S1024x2048 .f32 := iblk m c 0 t
def gsb (t : Fin cfg0.N) : Vec Ideal S1x1x2048 .f32 := iblk m c 1 t
def shb (t : Fin cfg0.N) : Vec Ideal S1x1x2048 .f32 := iblk m c 2 t
def wb (t : Fin cfg0.N) : Vec Ideal S2048x1024 .bf16 := iblk m c 3 t

theorem xb_apply (t : Fin cfg0.N) (r : Fin 1024) (k : Fin 2048) (h) : xb m c t (ix2 r k) = V m c main_v6 (ix2 ⟨1024 * (t.val / 6) + r.val, h⟩ k) := by
  refine congrArg (V m c main_v6) (ix2_of ((win0_0.rect t).emb (ix2 r k)) _ _ ?_ ?_)
  · show win0_0.index t 0 * 1024 + 1 * r.val = 1024 * (t.val / 6) + r.val
    rw [idx0]
    show t.val / 6 * 1024 + 1 * r.val = 1024 * (t.val / 6) + r.val
    omega
  · show win0_0.index t 1 * 2048 + 1 * k.val = k.val
    rw [idx0]
    show 0 * 2048 + 1 * k.val = k.val
    omega

theorem gsb_apply (t : Fin cfg0.N) (k : Fin 2048) : gsb m c t (ix3 0 0 k) = V m c main_v3 (ix3 0 0 k) := by
  refine congrArg (V m c main_v3) (ix3_of ((win0_1.rect t).emb (ix3 0 0 k)) _ _ _ ?_ ?_ ?_)
  · show win0_1.index t 0 * 1 + 1 * 0 = 0
    rw [idx1]
    rfl
  · show win0_1.index t 1 * 1 + 1 * 0 = 0
    rw [idx1]
    rfl
  · show win0_1.index t 2 * 2048 + 1 * k.val = k.val
    rw [idx1]
    show 0 * 2048 + 1 * k.val = k.val
    omega

theorem shb_apply (t : Fin cfg0.N) (k : Fin 2048) : shb m c t (ix3 0 0 k) = aSH m c (ix3 0 0 k) := by
  show V m c main_arg3 ((win0_2.rect t).emb _) = _
  rw [V_main_arg3]
  refine congrArg (aSH m c) (ix3_of ((win0_2.rect t).emb (ix3 0 0 k)) _ _ _ ?_ ?_ ?_)
  · show win0_2.index t 0 * 1 + 1 * 0 = 0
    rw [idx2]
    rfl
  · show win0_2.index t 1 * 1 + 1 * 0 = 0
    rw [idx2]
    rfl
  · show win0_2.index t 2 * 2048 + 1 * k.val = k.val
    rw [idx2]
    show 0 * 2048 + 1 * k.val = k.val
    omega

theorem wb_apply (t : Fin cfg0.N) (k : Fin 2048) (q : Fin 1024) (h) : wb m c t (ix2 k q) = V m c main_v5 (ix2 k ⟨1024 * (t.val % 6) + q.val, h⟩) := by
  refine congrArg (V m c main_v5) (ix2_of ((win0_3.rect t).emb (ix2 k q)) _ _ ?_ ?_)
  · show win0_3.index t 0 * 2048 + 1 * k.val = k.val
    rw [idx3]
    show 0 * 2048 + 1 * k.val = k.val
    omega
  · show win0_3.index t 1 * 1024 + 1 * q.val = 1024 * (t.val % 6) + q.val
    rw [idx3]
    show t.val % 6 * 1024 + 1 * q.val = 1024 * (t.val % 6) + q.val
    omega

/-- The first point of a row block. -/
theorem step_first (t : Fin cfg0.N) (h : t.val % 6 = 0) :
    outsAt0 m c t.val t.isLt = (k0_pay2 (k0_pay1 (xb m c t) (gsb m c t) (shb m c t)) (wb m c t), k0_pay1 (xb m c t) (gsb m c t) (shb m c t)) := by
  rw [outsAt0_A m c t h]
  refine Prod.ext ?_ ?_
  · dsimp only
    exact out_A _ _ _ _ _ _ _ _ _ _ _ _ _ _ _ _ _ _ _
  · dsimp only
    exact scratch_A _ _ _ _ _ _ _ _ _ _ _ _ _ _ _ _ _ _ _

theorem outs_congr (a b : ℕ) (e : a = b) (ha hb) : outsAt0 m c a ha = outsAt0 m c b hb := by subst e; rfl

/-- A later point of a row block keeps the scratch. -/
theorem step_later (t : Fin cfg0.N) (h : ¬t.val % 6 = 0) (p) (hp : ∀ h, outsAt0 m c (t.val - 1) h = p) :
    outsAt0 m c t.val t.isLt = (k0_pay2 p.2 (wb m c t), p.2) := by
  rw [outsAt0_B m c t h]
  simp only [hp]
  refine Prod.ext ?_ rfl
  dsimp only
  exact out_B _ _ _ _ _ _ _ _ _ _ _ _ _ _ _ _ _ _ _ _

/-- The point of column block `j` of row block `i`. -/
def pt (i : Fin 8) (j : ℕ) (hj : j < 6) : Fin cfg0.N := ⟨6 * i.val + j, by rw [show cfg0.N = 48 from N_0]; omega⟩

/-- Normalised and modulated, the rows of block `i`. -/
def ublk (i : Fin 8) : Vec Ideal S1024x2048 .bf16 :=
  k0_pay1 (xb m c (pt i 0 (by decide))) (gsb m c (pt i 0 (by decide))) (shb m c (pt i 0 (by decide)))

/-- Every point of row block `i` leaves the product with those rows, and the rows in the scratch. -/
theorem acc (i : Fin 8) : ∀ (j : ℕ) (hj : j < 6) (h : 6 * i.val + j < cfg0.N),
    outsAt0 m c (6 * i.val + j) h = (k0_pay2 (ublk m c i) (wb m c (pt i j hj)), ublk m c i) := by
  intro j
  induction j with
  | zero =>
    intro hj h
    exact step_first m c (pt i 0 (by decide)) (by show (6 * i.val + 0) % 6 = 0; omega)
  | succ j ih =>
    intro hj h
    exact step_later m c (pt i (j + 1) hj) (by show ¬(6 * i.val + (j + 1)) % 6 = 0; omega) (k0_pay2 (ublk m c i) (wb m c (pt i j (by omega))), ublk m c i)
      (fun _ => (outs_congr m c _ (6 * i.val + j) rfl _ (Nat.lt_of_succ_lt h)).trans (ih (by omega) (Nat.lt_of_succ_lt h)))

/-- The result after the run, at row `r` of row block `i` and column `q` of column block `j`. -/
theorem out_at (i : Fin 8) (j : Fin 6) (r q : Fin 1024) (hR hQ) :
    (dats m 0 c).arrAt 4 cfg0.N (ix2 ⟨1024 * i.val + r.val, hR⟩ ⟨1024 * j.val + q.val, hQ⟩)
      = ∑ k : Fin 2048, (vX m c (ix2 ⟨1024 * i.val + r.val, hR⟩ k) * rms (fun k' => vX m c (ix2 ⟨1024 * i.val + r.val, hR⟩ k')) * vGS m c (ix3 0 0 k)
          + aSH m c (ix3 0 0 k)) * vW m c (ix2 k ⟨1024 * j.val + q.val, hQ⟩) := by
  have e := Cert.InProjIdeal.Value.blocks4 m c (pt i j.val j.isLt) (flush0_4 _)
  rw [Cert.InProjIdeal.Value.flushed4] at e
  have ei : (pt i j.val j.isLt).val / 6 = i.val := by show (6 * i.val + j.val) / 6 = i.val; omega
  have ei0 : (pt i 0 (by decide)).val / 6 = i.val := by show (6 * i.val + 0) / 6 = i.val; omega
  have ej : (pt i j.val j.isLt).val % 6 = j.val := by show (6 * i.val + j.val) % 6 = j.val; omega
  have ea : (outsAt0 m c (pt i j.val j.isLt).val (pt i j.val j.isLt).isLt).1 (ix2 r q) = k0_pay2 (ublk m c i) (wb m c (pt i j.val j.isLt)) (ix2 r q) :=
    congrFun (congrArg Prod.fst (acc m c i j.val j.isLt (pt i j.val j.isLt).isLt)) (ix2 r q)
  refine Eq.trans (Eq.trans ?_ (congrFun e (ix2 r q))) (ea.trans ?_)
  · show _ = (dats m 0 c).arrAt 4 cfg0.N ((win0_4.rect (pt i j.val j.isLt)).emb (ix2 r q))
    refine congrArg ((dats m 0 c).arrAt 4 cfg0.N) (Eq.symm (ix2_of _ _ _ ?_ ?_))
    · show win0_4.index (pt i j.val j.isLt) 0 * 1024 + 1 * r.val = 1024 * i.val + r.val
      rw [idx4]
      show (pt i j.val j.isLt).val / 6 * 1024 + 1 * r.val = 1024 * i.val + r.val
      omega
    · show win0_4.index (pt i j.val j.isLt) 1 * 1024 + 1 * q.val = 1024 * j.val + q.val
      rw [idx4]
      show (pt i j.val j.isLt).val % 6 * 1024 + 1 * q.val = 1024 * j.val + q.val
      omega
  · rw [pay2_apply]
    refine Finset.sum_congr rfl fun k _ => ?_
    have hx : ∀ k', xb m c (pt i 0 (by decide)) (ix2 r k') = V m c main_v6 (ix2 ⟨1024 * i.val + r.val, hR⟩ k') := fun k' =>
      (xb_apply m c _ r k' (by rw [ei0]; exact hR)).trans (congrArg (V m c main_v6) (ix2_of _ _ _ (by show 1024 * _ + r.val = 1024 * i.val + r.val; rw [ei0]) rfl))
    have hw : wb m c (pt i j.val j.isLt) (ix2 k q) = V m c main_v5 (ix2 k ⟨1024 * j.val + q.val, hQ⟩) :=
      (wb_apply m c _ k q (by rw [ej]; exact hQ)).trans (congrArg (V m c main_v5) (ix2_of _ _ _ rfl (by show 1024 * _ + q.val = 1024 * j.val + q.val; rw [ej])))
    rw [hw]
    unfold ublk
    rw [pay1_apply, gsb_apply, shb_apply]
    simp only [hx]

end Cert.In

end
-- ==== Proof.InRef.lean ====
/-
  The input projection's reference, read at an index.
-/
module

public import proofs.«01_k».proof.Proof.Gen.InProjRefIdeal.Read
public import proofs.«01_k».proof.Proof.InBlock

@[expose] public section

set_option maxRecDepth 16384

noncomputable section

namespace Cert.In.Ref

open Idealize.ShloMosaic Idealize.ShloMosaic.TcCoe Cert.InProjRefIdeal Cert.InProjRefIdeal.Gen Cert.InProjRefIdeal.Read

variable (X : FVec Ideal S32x256x2048 .f32) (G : FVec Ideal S2048 .f32) (SC SH : FVec Ideal S1x1x2048 .f32) (W : FVec Ideal S2048x5888 .f32)

/-- Row `t` of sequence `s`. -/
def st (s : Fin 32) (t : Fin 256) : Fin 8192 := ⟨256 * s.val + t.val, by omega⟩

/-- The normalised and modulated rows, -/
theorem u_apply (s : Fin 32) (t : Fin 256) (k : Fin 2048) : val_main_v18 (F := Ideal) X G SC SH (ix3 s t k)
    = X (ix3 s t k) * rms (fun k' => X (ix3 s t k')) * G (ix1 k) * (Scalar.ofBits (F := Ideal) .f32 0x3F800000#32 + SC (ix3 0 0 k)) + SH (ix3 0 0 k) := by
  unfold rms
  pointwise [val_main_v18, val_main_v17, val_main_v16, val_main_v15, val_main_v14, val_main_v13, val_main_cst_2, val_main_v12, val_main_v11, val_main_v10,
    val_main_v9, val_main_v8, val_main_v7, val_main_v6, val_main_v5, val_main_cst_1, val_main_v4, val_main_v3, val_main_cst_0, val_main_v2, val_main_v1,
    val_main_cst, val_main_v0]

/-- their projection, -/
theorem z_apply (s : Fin 32) (t : Fin 256) (n : Fin 5888) : val_main_v19 (F := Ideal) X G SC SH W (ix3 s t n)
    = ∑ k : Fin 2048, val_main_v18 (F := Ideal) X G SC SH (ix3 s t k) * W (ix2 k n) := by
  generalize hv : val_main_v18 (F := Ideal) X G SC SH = v
  pointwise [val_main_v19, hv]

/-- and the result, with zero columns after the last. -/
theorem out_apply (s : Fin 32) (t : Fin 256) (n : Fin 6144) : val_main_v21 (F := Ideal) X G SC SH W (ix2 (st s t) n)
    = if h : n.val < 5888 then val_main_v19 (F := Ideal) X G SC SH W (ix3 s t ⟨n.val, h⟩) else 0 := by
  generalize hv : val_main_v19 (F := Ideal) X G SC SH W = v
  pointwise [val_main_v21, val_main_v20, val_main_call0_v0, val_main_c, hv, st]
  show (if h : n.val < 5888 then v (ix3 s t ⟨n.val, h⟩) else (((0#32 : BitVec 32).toInt : ℝ) : EReal)) = _
  simp

end Cert.In.Ref

end
-- ==== Proof.InEq.lean ====
/-
  The input projection: the kernel's result is the reference's.
-/
module

public import proofs.«01_k».proof.Defs
public import proofs.«01_k».proof.Proof.InArray
public import proofs.«01_k».proof.Proof.InRef

@[expose] public section

set_option maxRecDepth 16384

noncomputable section

namespace Cert.In

open Idealize.ShloMosaic Idealize.ShloMosaic.TcCoe Idealize.SL.Sem Cert.InProjIdeal Cert.InProjIdeal.Gen
open Cert.InProjRefIdeal.Read (val_main_v18 val_main_v19 val_main_v21)

variable (m : (ℓ : Loc nD τ sig) → Buf (Elt Ideal) ℓ) (c : Dev nD)

/-- A modulated row of the kernel is the reference's: the norm's gain and the modulation's scale in one factor. -/
theorem row_eq (s : Fin 32) (t : Fin 256) (k : Fin 2048) :
    vX m c (ix2 (Ref.st s t) k) * rms (fun k' => vX m c (ix2 (Ref.st s t) k')) * vGS m c (ix3 0 0 k) + aSH m c (ix3 0 0 k)
      = val_main_v18 (F := Ideal) (aX m c) (aG m c) (aSC m c) (aSH m c) (ix3 s t k) := by
  have hx : ∀ k', vX m c (ix2 (Ref.st s t) k') = aX m c (ix3 s t k') := fun k' =>
    (x_apply m c (Ref.st s t) k').trans (congrArg (aX m c) (ix3_of _ _ _ _
      (by show (256 * s.val + t.val) / 256 = s.val; omega) (by show (256 * s.val + t.val) % 256 = t.val; omega) rfl))
  have hg : vGS m c (ix3 0 0 k) = _ := gs_apply m c k
  simp only [hx]
  rw [Ref.u_apply, hg, ← mul_assoc]

/-- Every row is a row block's, and every column a column block's. -/
theorem eq_row (R : Fin 8192) : ∃ (i : Fin 8) (r : Fin 1024) (h : 1024 * i.val + r.val < 8192), R = ⟨1024 * i.val + r.val, h⟩ :=
  ⟨⟨R.val / 1024, by omega⟩, ⟨R.val % 1024, by omega⟩, by show 1024 * (R.val / 1024) + R.val % 1024 < 8192; omega,
    Fin.ext (by show R.val = 1024 * (R.val / 1024) + R.val % 1024; omega)⟩

theorem eq_col (Q : Fin 6144) : ∃ (j : Fin 6) (q : Fin 1024) (h : 1024 * j.val + q.val < 6144), Q = ⟨1024 * j.val + q.val, h⟩ :=
  ⟨⟨Q.val / 1024, by omega⟩, ⟨Q.val % 1024, by omega⟩, by show 1024 * (Q.val / 1024) + Q.val % 1024 < 6144; omega,
    Fin.ext (by show Q.val = 1024 * (Q.val / 1024) + Q.val % 1024; omega)⟩

/-- A column of the product is the reference's; past the last column of the weights both are zero. -/
theorem sum_eq (s : Fin 32) (t : Fin 256) (Q : Fin 6144) :
    ∑ k : Fin 2048, (vX m c (ix2 (Ref.st s t) k) * rms (fun k' => vX m c (ix2 (Ref.st s t) k')) * vGS m c (ix3 0 0 k) + aSH m c (ix3 0 0 k)) * vW m c (ix2 k Q)
      = val_main_v21 (F := Ideal) (aX m c) (aG m c) (aSC m c) (aSH m c) (aW m c) (ix2 (Ref.st s t) Q) := by
  refine Eq.trans ?_ (Ref.out_apply _ _ _ _ _ s t Q).symm
  have hw : ∀ k, vW m c (ix2 k Q) = _ := fun k => w_apply m c k Q
  by_cases h : Q.val < 5888
  · rw [dif_pos h, Ref.z_apply]
    refine Finset.sum_congr rfl fun k _ => ?_
    rw [row_eq, hw, dif_pos h]
  · rw [dif_neg h]
    refine Finset.sum_eq_zero fun k _ => ?_
    rw [hw, dif_neg h, mul_zero]

/-- The result. -/
theorem out_eq : (dats m 0 c).arrAt 4 cfg0.N = val_main_v21 (F := Ideal) (aX m c) (aG m c) (aSC m c) (aSH m c) (aW m c) := by
  funext idx
  rw [eq_ix2 idx]
  generalize (idx 0 : Fin 8192) = R
  generalize (idx 1 : Fin 6144) = Q
  obtain ⟨i, r, hR, eR⟩ := eq_row R
  obtain ⟨j, q, hQ, eQ⟩ := eq_col Q
  have e := out_at m c i j r q hR hQ
  rw [← eR, ← eQ] at e
  refine e.trans ?_
  have es : R = Ref.st ⟨R.val / 256, by omega⟩ ⟨R.val % 256, by omega⟩ := Fin.ext (by show R.val = 256 * (R.val / 256) + R.val % 256; omega)
  rw [es]
  generalize (⟨R.val / 256, _⟩ : Fin 32) = s
  generalize (⟨R.val % 256, _⟩ : Fin 256) = t
  exact sum_eq m c s t Q

/-- The claim: from the same arguments, the input projection's kernel and its reference end with the same result. -/
theorem claim_in : Cert.algebraic_InProjIdeal_InProjRefIdeal := by
  intro m g m' g' _ hm
  refine ⟨fun c => (dats m 0 c).arrAt 4 cfg0.N, Cert.InProjIdeal.Value.run_blocks m g, ?_⟩
  refine (θ_run _ _ _).mono (fun r h c => ?_) (Cert.InProjRefIdeal.Value.run m' g')
  obtain ⟨h1, hk⟩ := h c
  obtain ⟨e0, e1, e2, e3, e4⟩ := hm c
  refine ⟨h1.trans ((Cert.InProjRefIdeal.Read.val_main_v21_eq _ _ _ _ _).trans ?_), hk⟩
  rw [e0, e1, e2, e3, e4]
  exact (out_eq m c).symm

end Cert.In

end
-- ==== Proof.OutBlock.lean ====
/-
  The output projection: what one point of the kernel's grid leaves, and what it computes.
-/
module

public import proofs.«01_k».proof.Proof.Gen.OutProjIdeal.Frame
public import proofs.«01_k».proof.Proof.InBlock
public import Idealize.ShloMosaic.Lib.Pointwise

@[expose] public section

set_option maxRecDepth 16384

noncomputable section

namespace Cert.Out

open Idealize.ShloMosaic Idealize.ShloMosaic.TcCoe Idealize.SL.Sem Cert.OutProjIdeal Cert.OutProjIdeal.Gen
open Cert.In (z2 z3 rms)

/-- The blocks a point is given: the six branch arrays, the weights, the residual and the three modulation rows. -/
structure Blk (F : FTy → Type) [FloatOps F] where
  hc : Vec F S512x512 .f32
  hx : Vec F S512x512 .f32
  hb : Vec F S512x512 .f32
  rg : Vec F S512x512 .f32
  hg : Vec F S512x512 .f32
  at' : Vec F S512x512 .f32
  w : Vec F S2048x2048 .bf16
  x : Vec F S512x2048 .f32
  g : Vec F S1x1x2048 .f32
  gs : Vec F S1x1x2048 .f32
  sh : Vec F S1x1x2048 .f32

section AnyFloat

variable {F : FTy → Type} [FloatOps F] (b : Blk F)

/-- The projected branches of a block. -/
def proj : FVec F S512x2048 .f32 :=
  k0_pay3 b.hx b.hc b.hb (View.ld b.w r0_1) b.rg (View.ld b.w r0_2) b.hg (View.ld b.w r0_3) b.at' (View.ld b.w r0_4)

theorem proj_eq : k0_pay5 b.hc b.hx b.hb b.rg b.hg b.at' b.w b.x b.g b.gs b.sh = proj b := by
  unfold k0_pay5 proj
  rw [View.ld_unit_zero (S := S512x512) z2, View.ld_unit_zero (S := S512x512) z2, View.ld_unit_zero (S := S512x512) z2,
    View.ld_unit_zero (S := S512x512) z2, View.ld_unit_zero (S := S512x512) z2, View.ld_unit_zero (S := S512x512) z2]

theorem res_eq : k0_pay6 b.hc b.hx b.hb b.rg b.hg b.at' b.w b.x b.g b.gs b.sh = b.x := by
  unfold k0_pay6 k0_pay4
  rw [View.ld_unit_zero (S := S512x2048) z2]
  exact shapeCast_self _ _

/-- The first result's block, -/
theorem out11_eq : out0_11 b.hc b.hx b.hb b.rg b.hg b.at' b.w b.x b.g b.gs b.sh = k0_pay1 (proj b) b.x b.g := by
  unfold out0_11
  refine (View.canon_cons_unit_zero (S := S512x2048) z2 _ _ _).trans ?_
  rw [proj_eq, res_eq, View.ld_unit_zero (S := S1x1x2048) z3]

/-- and the second's. -/
theorem out12_eq : out0_12 b.hc b.hx b.hb b.rg b.hg b.at' b.w b.x b.g b.gs b.sh = k0_pay2 (proj b) b.x b.g b.gs b.sh := by
  unfold out0_12
  refine (View.canon_cons_unit_zero (S := S512x2048) z2 _ _ _).trans ?_
  rw [proj_eq, res_eq, View.ld_unit_zero (S := S1x1x2048) z3, View.ld_unit_zero (S := S1x1x2048) z3, View.ld_unit_zero (S := S1x1x2048) z3]

end AnyFloat

section Exact

variable (b : Blk Ideal) (r : Fin 512) (n : Fin 2048)

theorem proj_apply : proj b (ix2 r n)
    = ∑ k : Fin 512, (b.hx (ix2 r k) * b.hc (ix2 r k) + b.hb (ix2 r k)) * b.w (ix2 ⟨k.val, by omega⟩ n)
      + ∑ k : Fin 512, b.rg (ix2 r k) * b.w (ix2 ⟨512 + k.val, by omega⟩ n)
      + ∑ k : Fin 512, b.hg (ix2 r k) * b.w (ix2 ⟨1024 + k.val, by omega⟩ n)
      + ∑ k : Fin 512, b.at' (ix2 r k) * b.w (ix2 ⟨1536 + k.val, by omega⟩ n) := by
  have e1 : ∀ k : Fin 512, View.ld b.w r0_1 (ix2 k n) = b.w (ix2 ⟨k.val, by omega⟩ n) := fun k => by pointwise [r0_1]
  have e2 : ∀ k : Fin 512, View.ld b.w r0_2 (ix2 k n) = b.w (ix2 ⟨512 + k.val, by omega⟩ n) := fun k => by pointwise [r0_2]
  have e3 : ∀ k : Fin 512, View.ld b.w r0_3 (ix2 k n) = b.w (ix2 ⟨1024 + k.val, by omega⟩ n) := fun k => by pointwise [r0_3]
  have e4 : ∀ k : Fin 512, View.ld b.w r0_4 (ix2 k n) = b.w (ix2 ⟨1536 + k.val, by omega⟩ n) := fun k => by pointwise [r0_4]
  simp only [← e1, ← e2, ← e3, ← e4]
  unfold proj
  generalize View.ld b.w r0_1 = w1
  generalize View.ld b.w r0_2 = w2
  generalize View.ld b.w r0_3 = w3
  generalize View.ld b.w r0_4 = w4
  pointwise [k0_pay3]

variable (y x : FVec Ideal S512x2048 .f32) (g gs sh : Vec Ideal S1x1x2048 .f32)

theorem pay1_apply : k0_pay1 (F := Ideal) y x g (ix2 r n) = x (ix2 r n) + g (ix3 0 0 n) * y (ix2 r n) := by
  pointwise [k0_pay1]

theorem pay2_apply : k0_pay2 (F := Ideal) y x g gs sh (ix2 r n)
    = k0_pay1 (F := Ideal) y x g (ix2 r n) * rms (fun k => k0_pay1 (F := Ideal) y x g (ix2 r k)) * gs (ix3 0 0 n) + sh (ix3 0 0 n) := by
  unfold rms
  generalize hv : k0_pay1 (F := Ideal) y x g = v
  pointwise [k0_pay2, hv]

end Exact

end Cert.Out

end
-- ==== Proof.OutArray.lean ====
/-
  What the output projection's result arrays hold after the run.
-/
module

public import proofs.«01_k».proof.Proof.OutBlock
public import proofs.«01_k».proof.Proof.InArray
public import proofs.«01_k».proof.Proof.Gen.OutProjIdeal.Value

@[expose] public section

set_option maxRecDepth 16384

noncomputable section

namespace Cert.Out

open Idealize.ShloMosaic Idealize.ShloMosaic.TcCoe Idealize.SL.Sem Cert.OutProjIdeal Cert.OutProjIdeal.Gen
open Cert.In (ix2_of ix3_of rms)

variable (m : (ℓ : Loc nD τ sig) → Buf (Elt Ideal) ℓ) (c : Dev nD)

/-- The arguments on core `c`. -/
abbrev aHC : FVec Ideal S32768x512 .f32 := m ((c : Thread nD τ).loc main_arg0)
abbrev aHX : FVec Ideal S32768x512 .f32 := m ((c : Thread nD τ).loc main_arg1)
abbrev aHB : FVec Ideal S32768x512 .f32 := m ((c : Thread nD τ).loc main_arg2)
abbrev aRG : FVec Ideal S32768x512 .f32 := m ((c : Thread nD τ).loc main_arg3)
abbrev aHG : FVec Ideal S32768x512 .f32 := m ((c : Thread nD τ).loc main_arg4)
abbrev aAT : FVec Ideal S32768x512 .f32 := m ((c : Thread nD τ).loc main_arg5)
abbrev aW : FVec Ideal S2048x2048 .f32 := m ((c : Thread nD τ).loc main_arg6)
abbrev aX : FVec Ideal S8x4096x2048 .f32 := m ((c : Thread nD τ).loc main_arg7)
abbrev aG : FVec Ideal S8x1x2048 .f32 := m ((c : Thread nD τ).loc main_arg8)
abbrev aN : FVec Ideal S2048 .f32 := m ((c : Thread nD τ).loc main_arg9)
abbrev aSC : FVec Ideal S8x1x2048 .f32 := m ((c : Thread nD τ).loc main_arg10)
abbrev aSH : FVec Ideal S8x1x2048 .f32 := m ((c : Thread nD τ).loc main_arg11)

/-- The arrays the launch finds: the weights, the rows of all sequences, and the scale. -/
abbrev vW : FVec Ideal S2048x2048 .bf16 := V m c main_v5
abbrev vX : FVec Ideal S32768x2048 .f32 := V m c main_v6
abbrev vGS : FVec Ideal S8x1x2048 .f32 := V m c main_v4

theorem V_w : V m c main_v5 = truncf (F := Ideal) .bf16 (aW m c) bitsLt_bf16_f32 := by
  show StableHlo.after _ _ _ = _
  simp only [List.flatten_cons, List.flatten_nil, List.append_nil, List.cons_append, List.nil_append, StableHlo.after_cons, StableHlo.after_nil]
  rfl

theorem V_x : V m c main_v6 = shapeCast S32768x2048 (aX m c) shapeCasts_S8x4096x2048_S32768x2048 := by
  show StableHlo.after _ _ _ = _
  simp only [List.flatten_cons, List.flatten_nil, List.append_nil, List.cons_append, List.nil_append, StableHlo.after_cons, StableHlo.after_nil]
  rfl

theorem V_gs : V m c main_v4 = mulf (broadcastInDim S8x1x2048 ![0, 1, 2] bcast_S1x1x2048_S8x1x2048_0_1_2 (broadcastInDim S1x1x2048 ![2] bcast_S2048_S1x1x2048_2 (aN m c)))
    (addf (broadcastInDim S8x1x2048 ![] bcast_S_S8x1x2048 (constant (F := Ideal) S_ .f32 0x3F800000#32)) (aSC m c)) := by
  show StableHlo.after _ _ _ = _
  simp only [List.flatten_cons, List.flatten_nil, List.append_nil, List.cons_append, List.nil_append, StableHlo.after_cons, StableHlo.after_nil]
  rfl

theorem w_apply (j) : vW m c j = aW m c j := by
  show V m c main_v5 j = _
  rw [V_w]
  rfl

theorem x_apply (R : Fin 32768) (n : Fin 2048) : vX m c (ix2 R n) = aX m c (ix3 ⟨R.val / 4096, by omega⟩ ⟨R.val % 4096, by omega⟩ n) := by
  show V m c main_v6 _ = _
  rw [V_x]
  pointwise []

theorem gs_apply (s : Fin 8) (n : Fin 2048) : vGS m c (ix3 s 0 n) = aN m c (ix1 n) * (Scalar.ofBits (F := Ideal) .f32 0x3F800000#32 + aSC m c (ix3 s 0 n)) := by
  show V m c main_v4 _ = _
  rw [V_gs]
  pointwise []

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx7 : ∀ t : Fin cfg0.N, win0_7.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx6 : ∀ t : Fin cfg0.N, win0_6.index t = ![0, 0] := (by decide +kernel : ∀ t : Fin grid0.N, _)
theorem idx8 : ∀ t : Fin cfg0.N, win0_8.index t = ![t.val / 8, 0, 0] := (by decide +kernel : ∀ t : Fin grid0.N, _)
theorem idx9 : ∀ t : Fin cfg0.N, win0_9.index t = ![t.val / 8, 0, 0] := (by decide +kernel : ∀ t : Fin grid0.N, _)
theorem idx10 : ∀ t : Fin cfg0.N, win0_10.index t = ![t.val / 8, 0, 0] := (by decide +kernel : ∀ t : Fin grid0.N, _)

/-- What a point reads. -/
def blk (t : Fin cfg0.N) : Blk Ideal :=
  ⟨iblk m c 0 t, iblk m c 1 t, iblk m c 2 t, iblk m c 3 t, iblk m c 4 t, iblk m c 5 t, iblk m c 6 t, iblk m c 7 t, iblk m c 8 t, iblk m c 9 t, iblk m c 10 t⟩

/-- Row `r` of point `t`'s block. -/
def row (t : Fin cfg0.N) (r : Fin 512) : Fin 32768 := ⟨512 * t.val + r.val, by have h : t.val < 64 := lt_of_lt_of_eq t.isLt N_0; omega⟩
/-- The sequence of point `t`'s block. -/
def seq (t : Fin cfg0.N) : Fin 8 := ⟨t.val / 8, by have h : t.val < 64 := lt_of_lt_of_eq t.isLt N_0; omega⟩

/-- A block of 512 rows and `k` columns at point `t`: the array's rows. -/
theorem rows_emb {k : ℕ} (t : Fin cfg0.N) (r : Fin 512) (q : Fin k) (e : (⟨2, ![32768, k]⟩ : Shape).Idx) (i : Fin 2 → ℕ) (hi : i = ![t.val, 0])
    (h0 : (e 0).val = i 0 * 512 + 1 * r.val) (h1 : (e 1).val = i 1 * k + 1 * q.val) : e = ix2 (row t r) q := by
  subst hi
  refine ix2_of _ _ _ (h0.trans ?_) (h1.trans ?_)
  · show t.val * 512 + 1 * r.val = 512 * t.val + r.val
    omega
  · show 0 * k + 1 * q.val = q.val
    omega

/-- A row of the modulation at point `t`: the sequence's. -/
theorem seq_emb (t : Fin cfg0.N) (n : Fin 2048) (e : S8x1x2048.Idx) (i : Fin 3 → ℕ) (hi : i = ![t.val / 8, 0, 0])
    (h0 : (e 0).val = i 0 * 1 + 1 * 0) (h1 : (e 1).val = i 1 * 1 + 1 * 0) (h2 : (e 2).val = i 2 * 2048 + 1 * n.val) : e = ix3 (seq t) 0 n := by
  subst hi
  refine ix3_of _ _ _ _ (h0.trans ?_) (h1.trans ?_) (h2.trans ?_)
  · show t.val / 8 * 1 + 1 * 0 = t.val / 8
    omega
  · rfl
  · show 0 * 2048 + 1 * n.val = n.val
    omega

variable (t : Fin cfg0.N) (r : Fin 512)

theorem hc_apply (k : Fin 512) : (blk m c t).hc (ix2 r k) = aHC m c (ix2 (row t r) k) := by
  show V m c main_arg0 ((win0_0.rect t).emb _) = _
  rw [V_main_arg0]
  exact congrArg (aHC m c) (rows_emb t r k _ _ (idx0 t) rfl rfl)
theorem hx_apply (k : Fin 512) : (blk m c t).hx (ix2 r k) = aHX m c (ix2 (row t r) k) := by
  show V m c main_arg1 ((win0_1.rect t).emb _) = _
  rw [V_main_arg1]
  exact congrArg (aHX m c) (rows_emb t r k _ _ (idx1 t) rfl rfl)
theorem hb_apply (k : Fin 512) : (blk m c t).hb (ix2 r k) = aHB m c (ix2 (row t r) k) := by
  show V m c main_arg2 ((win0_2.rect t).emb _) = _
  rw [V_main_arg2]
  exact congrArg (aHB m c) (rows_emb t r k _ _ (idx2 t) rfl rfl)
theorem rg_apply (k : Fin 512) : (blk m c t).rg (ix2 r k) = aRG m c (ix2 (row t r) k) := by
  show V m c main_arg3 ((win0_3.rect t).emb _) = _
  rw [V_main_arg3]
  exact congrArg (aRG m c) (rows_emb t r k _ _ (idx3 t) rfl rfl)
theorem hg_apply (k : Fin 512) : (blk m c t).hg (ix2 r k) = aHG m c (ix2 (row t r) k) := by
  show V m c main_arg4 ((win0_4.rect t).emb _) = _
  rw [V_main_arg4]
  exact congrArg (aHG m c) (rows_emb t r k _ _ (idx4 t) rfl rfl)
theorem at_apply (k : Fin 512) : (blk m c t).at' (ix2 r k) = aAT m c (ix2 (row t r) k) := by
  show V m c main_arg5 ((win0_5.rect t).emb _) = _
  rw [V_main_arg5]
  exact congrArg (aAT m c) (rows_emb t r k _ _ (idx5 t) rfl rfl)
theorem xb_apply (n : Fin 2048) : (blk m c t).x (ix2 r n) = vX m c (ix2 (row t r) n) :=
  congrArg (vX m c) (rows_emb t r n ((win0_7.rect t).emb (ix2 r n)) _ (idx7 t) rfl rfl)
theorem wb_apply (k n : Fin 2048) : (blk m c t).w (ix2 k n) = aW m c (ix2 k n) := by
  refine Eq.trans ?_ (w_apply m c _)
  refine congrArg (vW m c) (ix2_of ((win0_6.rect t).emb (ix2 k n)) _ _ ?_ ?_)
  · show win0_6.index t 0 * 2048 + 1 * k.val = k.val
    rw [idx6]
    show 0 * 2048 + 1 * k.val = k.val
    omega
  · show win0_6.index t 1 * 2048 + 1 * n.val = n.val
    rw [idx6]
    show 0 * 2048 + 1 * n.val = n.val
    omega
theorem g_apply (n : Fin 2048) : (blk m c t).g (ix3 0 0 n) = aG m c (ix3 (seq t) 0 n) := by
  show V m c main_arg8 ((win0_8.rect t).emb _) = _
  rw [V_main_arg8]
  exact congrArg (aG m c) (seq_emb t n _ _ (idx8 t) rfl rfl rfl)
theorem gsb_apply (n : Fin 2048) : (blk m c t).gs (ix3 0 0 n) = vGS m c (ix3 (seq t) 0 n) :=
  congrArg (vGS m c) (seq_emb t n ((win0_9.rect t).emb (ix3 0 0 n)) _ (idx9 t) rfl rfl rfl)
theorem sh_apply (n : Fin 2048) : (blk m c t).sh (ix3 0 0 n) = aSH m c (ix3 (seq t) 0 n) := by
  show V m c main_arg11 ((win0_10.rect t).emb _) = _
  rw [V_main_arg11]
  exact congrArg (aSH m c) (seq_emb t n _ _ (idx10 t) rfl rfl rfl)

/-- The first result after the run, at a row of point `t`'s block, -/
theorem out11_at (n : Fin 2048) : (dats m 0 c).arrAt 11 cfg0.N (ix2 (row t r) n) = k0_pay1 (proj (blk m c t)) (blk m c t).x (blk m c t).g (ix2 r n) := by
  have e := Cert.OutProjIdeal.Value.blocks11 m c t (flush0_11 _)
  rw [Cert.OutProjIdeal.Value.flushed11] at e
  refine Eq.trans ?_ ((congrFun e (ix2 r n)).trans (congrFun (out11_eq (blk m c t)) (ix2 r n)))
  exact congrArg ((dats m 0 c).arrAt 11 cfg0.N) (rows_emb t r n ((win0_11.rect t).emb (ix2 r n)) _ (idx11 t) rfl rfl).symm

/-- and the second. -/
theorem out12_at (n : Fin 2048) : (dats m 0 c).arrAt 12 cfg0.N (ix2 (row t r) n)
    = k0_pay2 (proj (blk m c t)) (blk m c t).x (blk m c t).g (blk m c t).gs (blk m c t).sh (ix2 r n) := by
  have e := Cert.OutProjIdeal.Value.blocks12 m c t (flush0_12 _)
  rw [Cert.OutProjIdeal.Value.flushed12] at e
  refine Eq.trans ?_ ((congrFun e (ix2 r n)).trans (congrFun (out12_eq (blk m c t)) (ix2 r n)))
  exact congrArg ((dats m 0 c).arrAt 12 cfg0.N) (rows_emb t r n ((win0_12.rect t).emb (ix2 r n)) _ (idx12 t) rfl rfl).symm

end Cert.Out

end
-- ==== Proof.OutRef.lean ====
/-
  The output projection's reference, read at an index.
-/
module

public import proofs.«01_k».proof.Proof.Gen.OutProjRefIdeal.Read
public import proofs.«01_k».proof.Proof.InBlock

@[expose] public section

set_option maxRecDepth 16384

noncomputable section

namespace Cert.Out.Ref

open Idealize.ShloMosaic Idealize.ShloMosaic.TcCoe Cert.OutProjRefIdeal Cert.OutProjRefIdeal.Gen Cert.OutProjRefIdeal.Read
open Cert.In (rms)

variable (HC HX HB RG HG AT : FVec Ideal S32768x512 .f32) (W : FVec Ideal S2048x2048 .f32) (X : FVec Ideal S8x4096x2048 .f32)
  (G : FVec Ideal S8x1x2048 .f32) (N : FVec Ideal S2048 .f32) (SC SH : FVec Ideal S8x1x2048 .f32)

/-- Row `t` of sequence `s`. -/
def st (s : Fin 8) (t : Fin 4096) : Fin 32768 := ⟨4096 * s.val + t.val, by omega⟩

/-- The four branches side by side. -/
theorem cat_0 (R : Fin 32768) (k : Fin 512) (h) : val_main_v2 (F := Ideal) HC HX HB RG HG AT (ix2 R ⟨k.val, h⟩) = HX (ix2 R k) * HC (ix2 R k) + HB (ix2 R k) := by
  pointwise [val_main_v2, val_main_v1, val_main_v0]
theorem cat_1 (R : Fin 32768) (k : Fin 512) (h) : val_main_v2 (F := Ideal) HC HX HB RG HG AT (ix2 R ⟨512 + k.val, h⟩) = RG (ix2 R k) := by
  pointwise [val_main_v2, val_main_v1, val_main_v0]
theorem cat_2 (R : Fin 32768) (k : Fin 512) (h) : val_main_v2 (F := Ideal) HC HX HB RG HG AT (ix2 R ⟨1024 + k.val, h⟩) = HG (ix2 R k) := by
  pointwise [val_main_v2, val_main_v1, val_main_v0]
  rw [dif_neg (by omega), dif_neg (by omega), dif_pos (by omega)]
  exact congrArg (fun q => HG (ix2 R q)) (Fin.ext (by show 1024 + k.val - 512 - 512 = k.val; omega))
theorem cat_3 (R : Fin 32768) (k : Fin 512) (h) : val_main_v2 (F := Ideal) HC HX HB RG HG AT (ix2 R ⟨1536 + k.val, h⟩) = AT (ix2 R k) := by
  pointwise [val_main_v2, val_main_v1, val_main_v0]
  rw [dif_neg (by omega), dif_neg (by omega), dif_neg (by omega)]
  exact congrArg (fun q => AT (ix2 R q)) (Fin.ext (by show 1536 + k.val - 512 - 512 - 512 = k.val; omega))

/-- Their projection, -/
theorem y_apply (s : Fin 8) (t : Fin 4096) (n : Fin 2048) : val_main_v4 (F := Ideal) HC HX HB RG HG AT W (ix3 s t n)
    = ∑ k : Fin 2048, val_main_v2 (F := Ideal) HC HX HB RG HG AT (ix2 (st s t) k) * W (ix2 k n) := by
  generalize hv : val_main_v2 (F := Ideal) HC HX HB RG HG AT = v
  pointwise [val_main_v4, val_main_v3, hv, st]
  simp only [Nat.mul_comm]

/-- the gated residual, -/
theorem x1_apply (s : Fin 8) (t : Fin 4096) (n : Fin 2048) : val_main_v7 (F := Ideal) HC HX HB RG HG AT W X G (ix3 s t n)
    = X (ix3 s t n) + G (ix3 s 0 n) * val_main_v4 (F := Ideal) HC HX HB RG HG AT W (ix3 s t n) := by
  generalize hv : val_main_v4 (F := Ideal) HC HX HB RG HG AT W = v
  pointwise [val_main_v7, val_main_v6, val_main_v5, hv]

/-- the first result, -/
theorem out0_apply (s : Fin 8) (t : Fin 4096) (n : Fin 2048) : val_main_v27 (F := Ideal) HC HX HB RG HG AT W X G (ix2 (st s t) n)
    = val_main_v7 (F := Ideal) HC HX HB RG HG AT W X G (ix3 s t n) := by
  generalize hv : val_main_v7 (F := Ideal) HC HX HB RG HG AT W X G = v
  pointwise [val_main_v27, hv, st]

/-- and the second: normalised and modulated. -/
theorem out1_apply (s : Fin 8) (t : Fin 4096) (n : Fin 2048) : val_main_v29 (F := Ideal) HC HX HB RG HG AT W X G N SC SH (ix2 (st s t) n)
    = val_main_v7 (F := Ideal) HC HX HB RG HG AT W X G (ix3 s t n) * rms (fun k => val_main_v7 (F := Ideal) HC HX HB RG HG AT W X G (ix3 s t k)) * N (ix1 n)
        * (Scalar.ofBits (F := Ideal) .f32 0x3F800000#32 + SC (ix3 s 0 n)) + SH (ix3 s 0 n) := by
  unfold rms
  generalize hv : val_main_v7 (F := Ideal) HC HX HB RG HG AT W X G = v
  pointwise [val_main_v29, val_main_v28, val_main_v26, val_main_v25, val_main_v24, val_main_v23, val_main_v22, val_main_v21, val_main_cst_2, val_main_v20,
    val_main_v19, val_main_v18, val_main_v17, val_main_v16, val_main_v15, val_main_v14, val_main_v13, val_main_cst_1, val_main_v12, val_main_v11,
    val_main_cst_0, val_main_v10, val_main_v9, val_main_cst, val_main_v8, hv, st]

end Cert.Out.Ref

end
-- ==== Proof.OutEq.lean ====
/-
  The output projection: the kernel's two results are the reference's.
-/
module

public import proofs.«01_k».proof.Defs
public import proofs.«01_k».proof.Proof.OutArray
public import proofs.«01_k».proof.Proof.OutRef

@[expose] public section

set_option maxRecDepth 16384

noncomputable section

namespace Cert.Out

open Idealize.ShloMosaic Idealize.ShloMosaic.TcCoe Idealize.SL.Sem Cert.OutProjIdeal Cert.OutProjIdeal.Gen
open Cert.In (ix2_of ix3_of rms)
open Cert.OutProjRefIdeal.Read (val_main_v4 val_main_v7 val_main_v27 val_main_v29)

/-- A sum over 2048 inputs, branch by branch. -/
theorem sum_four (f : Fin 2048 → EReal) : ∑ k : Fin 2048, f k
    = ∑ k : Fin 512, f ⟨k.val, by omega⟩ + ∑ k : Fin 512, f ⟨512 + k.val, by omega⟩ + ∑ k : Fin 512, f ⟨1024 + k.val, by omega⟩ + ∑ k : Fin 512, f ⟨1536 + k.val, by omega⟩ := by
  rw [← Equiv.sum_comp (finProdFinEquiv (m := 4) (n := 512)) f, Fintype.sum_prod_type, Fin.sum_univ_four]
  congr 1

variable (m : (ℓ : Loc nD τ sig) → Buf (Elt Ideal) ℓ) (c : Dev nD) (t : Fin cfg0.N) (r : Fin 512)

/-- The position in its sequence of row `r` of point `t`'s block. -/
def pos (t : Fin cfg0.N) (r : Fin 512) : Fin 4096 := ⟨512 * (t.val % 8) + r.val, by omega⟩

theorem row_st : row t r = Ref.st (seq t) (pos t r) :=
  Fin.ext (by show 512 * t.val + r.val = 4096 * (t.val / 8) + (512 * (t.val % 8) + r.val); omega)

/-- The projection of a row is the reference's. -/
theorem proj_row (n : Fin 2048) : proj (blk m c t) (ix2 r n)
    = val_main_v4 (F := Ideal) (aHC m c) (aHX m c) (aHB m c) (aRG m c) (aHG m c) (aAT m c) (aW m c) (ix3 (seq t) (pos t r) n) := by
  rw [Ref.y_apply, sum_four, proj_apply]
  simp only [Ref.cat_0, Ref.cat_1, Ref.cat_2, Ref.cat_3, hc_apply, hx_apply, hb_apply, rg_apply, hg_apply, at_apply, wb_apply, row_st]

/-- The gated residual of a row is the reference's. -/
theorem x1_row (n : Fin 2048) : k0_pay1 (proj (blk m c t)) (blk m c t).x (blk m c t).g (ix2 r n)
    = val_main_v7 (F := Ideal) (aHC m c) (aHX m c) (aHB m c) (aRG m c) (aHG m c) (aAT m c) (aW m c) (aX m c) (aG m c) (ix3 (seq t) (pos t r) n) := by
  have ht : t.val < 64 := lt_of_lt_of_eq t.isLt N_0
  rw [Ref.x1_apply, pay1_apply, proj_row, g_apply, xb_apply, x_apply]
  congr 1
  refine congrArg (aX m c) (ix3_of _ _ _ _ ?_ ?_ rfl)
  · show (512 * t.val + r.val) / 4096 = t.val / 8
    omega
  · show (512 * t.val + r.val) % 4096 = 512 * (t.val % 8) + r.val
    omega

/-- The normed and modulated row is the reference's: the norm's gain and the modulation's scale in one factor. -/
theorem u2_row (n : Fin 2048) : k0_pay2 (proj (blk m c t)) (blk m c t).x (blk m c t).g (blk m c t).gs (blk m c t).sh (ix2 r n)
    = val_main_v29 (F := Ideal) (aHC m c) (aHX m c) (aHB m c) (aRG m c) (aHG m c) (aAT m c) (aW m c) (aX m c) (aG m c) (aN m c) (aSC m c) (aSH m c) (ix2 (row t r) n) := by
  rw [row_st, Ref.out1_apply, pay2_apply, gsb_apply, gs_apply, sh_apply, ← mul_assoc]
  simp only [x1_row]

/-- Every row is a block's. -/
theorem eq_row (R : Fin 32768) : ∃ (t : Fin cfg0.N) (r : Fin 512), R = row t r :=
  ⟨⟨R.val / 512, by rw [show cfg0.N = 64 from N_0]; omega⟩, ⟨R.val % 512, by omega⟩, Fin.ext (by show R.val = 512 * (R.val / 512) + R.val % 512; omega)⟩

/-- The first result, -/
theorem out11_eq_ref : (dats m 0 c).arrAt 11 cfg0.N
    = val_main_v27 (F := Ideal) (aHC m c) (aHX m c) (aHB m c) (aRG m c) (aHG m c) (aAT m c) (aW m c) (aX m c) (aG m c) := by
  funext idx
  rw [eq_ix2 idx]
  generalize (idx 0 : Fin 32768) = R
  generalize (idx 1 : Fin 2048) = n
  obtain ⟨t, r, rfl⟩ := eq_row R
  refine (out11_at m c t r n).trans ((x1_row m c t r n).trans ?_)
  rw [row_st]
  exact (Ref.out0_apply _ _ _ _ _ _ _ _ _ _ _ n).symm

/-- and the second. -/
theorem out12_eq_ref : (dats m 0 c).arrAt 12 cfg0.N
    = val_main_v29 (F := Ideal) (aHC m c) (aHX m c) (aHB m c) (aRG m c) (aHG m c) (aAT m c) (aW m c) (aX m c) (aG m c) (aN m c) (aSC m c) (aSH m c) := by
  funext idx
  rw [eq_ix2 idx]
  generalize (idx 0 : Fin 32768) = R
  generalize (idx 1 : Fin 2048) = n
  obtain ⟨t, r, rfl⟩ := eq_row R
  exact (out12_at m c t r n).trans (u2_row m c t r n)

/-- The claim: from the same arguments, the output projection's kernel and its reference end with the same two results. -/
theorem claim_out : Cert.algebraic_OutProjIdeal_OutProjRefIdeal := by
  intro m g m' g' _ hm
  refine ⟨fun c => (dats m 0 c).arrAt 11 cfg0.N, fun c => (dats m 0 c).arrAt 12 cfg0.N, Cert.OutProjIdeal.Value.run_blocks m g, ?_⟩
  refine (θ_run _ _ _).mono (fun r h c => ?_) (Cert.OutProjRefIdeal.Value.run m' g')
  obtain ⟨h1, h2, hk⟩ := h c
  obtain ⟨e0, e1, e2, e3, e4, e5, e6, e7, e8, e9, e10, e11⟩ := hm c
  refine ⟨h1.trans ((Cert.OutProjRefIdeal.Read.val_main_v27_eq _ _ _ _ _ _ _ _ _).trans ?_), h2.trans ((Cert.OutProjRefIdeal.Read.val_main_v29_eq m' c).trans ?_), hk⟩
  · rw [e0, e1, e2, e3, e4, e5, e6, e7, e8]
    exact (out11_eq_ref m c).symm
  · rw [e0, e1, e2, e3, e4, e5, e6, e7, e8, e9, e10, e11]
    exact (out12_eq_ref m c).symm

end Cert.Out

end
-- ==== Proof.AttnVal.lean ====
/-
  The attention kernel's operations on the blocks of one point, named once: the norm of a pair of heads, the copy of
  one head into both halves of the lanes, the scores, the sinks, and the weighted sums.
-/
module

public import proofs.«01_k».proof.Proof.Gen.AttnIdeal.Skeleton
public import Idealize.ShloMosaic.Lib.Pointwise

@[expose] public section

set_option maxRecDepth 16384

noncomputable section

namespace Cert.At

open Idealize.ShloMosaic Idealize.ShloMosaic.TcCoe Idealize.SL.Sem Cert.AttnIdeal Cert.AttnIdeal.Gen

section AnyFloat

variable {F : FTy → Type} [FloatOps F]

/-- The norm of two heads of 64 lanes, times the gain. -/
def nrm (x : FVec F S256x128 .f32) (g : Vec F S1x128 .f32) : FVec F S256x128 .f32 :=
  k0_pay12 x (k0_pay5 g) (k0_pay20 x) (k0_pay21 x) k0_pay9 (iota .tc S128x128 32 [1] iota_S128x128_d1_w32) 64#32 k0_pay10 k0_pay11

/-- The queries: normed and scaled. -/
def qry (x : FVec F S256x128 .f32) (g : Vec F S1x128 .f32) : FVec F S256x128 .bf16 :=
  shapeCast S256x128 (truncf .bf16 (mulf (nrm x g) (broadcast S256x128 (Scalar.ofBits .f32 0x3E000000#32 : F .f32))) bitsLt_bf16_f32) shapeCasts_S256x128_S256x128

/-- The first head's 64 lanes, twice. -/
def half0 (y : FVec F S256x128 .f32) : FVec F S1x256x128 .bf16 :=
  shapeCast S1x256x128 (truncf .bf16 (select (broadcastTo S256x128 (shapeCast S1x128 (cmpi .slt (iota .tc S1x128 32 [1] iota_S1x128_d1_w32) (broadcast S1x128 64#32)) shapeCasts_S1x128_S1x128) broadcasts_S1x128_S256x128) y (dynamicRotate 1 64#32 none y rotates_S256x128_d1)) bitsLt_bf16_f32) shapeCasts_S256x128_S1x256x128

/-- The second head's 64 lanes, twice. -/
def half1 (y : FVec F S256x128 .f32) : FVec F S1x256x128 .bf16 := k0_pay16 y

/-- The scores of the four heads of a group: `q0`, `q1` hold two heads each, `k` the group's keys in both halves. -/
def scr (q0 q1 : Vec F S128x128 .bf16) (k : Vec F S1x256x128 .bf16) : FVec F S512x256 .f32 :=
  k0_pay55 k0_pay50 (k0_pay52 q0) (k0_pay53 q0) q1 (Scalar.ofBits .bf16 0x0000#16) k

/-- The sinks of the four heads. -/
def snk (s0 s1 s2 s3 : Vec F S1x1 .f32) : FVec F S512x1 .f32 := k0_pay54 k0_pay51 s0 s1 s2 s3

/-- The outputs of a group's first two heads, -/
def oLo (q0 q1 : Vec F S128x128 .bf16) (k v : Vec F S1x256x128 .bf16) (s0 s1 s2 s3 : Vec F S1x1 .f32) : FVec F S128x128 .f32 :=
  k0_pay57 k0_pay50 (snk s0 s1 s2 s3) (scr q0 q1 k) v
/-- and of its last two. -/
def oHi (q0 q1 : Vec F S128x128 .bf16) (k v : Vec F S1x256x128 .bf16) (s0 s1 s2 s3 : Vec F S1x1 .f32) : FVec F S128x128 .f32 :=
  k0_pay58 k0_pay50 (snk s0 s1 s2 s3) (scr q0 q1 k) v

end AnyFloat

section Exact

theorem pay9_apply (a b : Fin 128) : k0_pay9 (ix2 a b) = BitVec.ofNat 32 (a.val / 64) :=
  (by decide +kernel : ∀ a : Fin 128, k0_pay9 (ix2 a 0) = BitVec.ofNat 32 (a.val / 64)) a

theorem pay10_apply (a b : Fin 128) : k0_pay10 (ix2 a b) = BitVec.ofNat 32 (b.val / 64) :=
  (by decide +kernel : ∀ b : Fin 128, k0_pay10 (ix2 0 b) = BitVec.ofNat 32 (b.val / 64)) b

theorem low_apply (l : Fin 128) : k0_pay50 (ix2 0 l) = if l.val < 64 then 1#1 else 0#1 :=
  (by decide +kernel : ∀ l : Fin 128, k0_pay50 (ix2 0 l) = if l.val < 64 then 1#1 else 0#1) l

theorem pay51_apply (R : Fin 512) : k0_pay51 (ix2 R 0) = BitVec.ofNat 32 (R.val / 128) :=
  (by decide +kernel : ∀ R : Fin 512, k0_pay51 (ix2 R 0) = BitVec.ofNat 32 (R.val / 128)) R

/-- The head a lane belongs to, by the lane's column. -/
def colHead : IVec S128x128 32 :=
  select (andi (cmpi .ne k0_pay11 (broadcast S128x128 (Scalar.subi (Scalar.extui (Scalar.cmpi .sgt 64#32 0#32) : BitVec 32) (Scalar.extui (Scalar.cmpi .slt 64#32 0#32) : BitVec 32))))
      (cmpi .ne (remsi (iota .tc S128x128 32 [1] iota_S128x128_d1_w32) (broadcast S128x128 64#32)) (broadcast S128x128 0#32)))
    (subi k0_pay10 (broadcast S128x128 1#32)) k0_pay10

theorem colHead_apply (a b : Fin 128) : colHead (ix2 a b) = BitVec.ofNat 32 (b.val / 64) :=
  (by decide +kernel : ∀ b : Fin 128, colHead (ix2 0 b) = BitVec.ofNat 32 (b.val / 64)) b

/-- One where two lanes belong to one head, zero elsewhere. -/
def same : FVec Ideal S128x128 .bf16 :=
  truncf .bf16 (select (cmpi .eq k0_pay9 colHead) (broadcast S128x128 (Scalar.ofBits .f32 0x3F800000#32)) (broadcast S128x128 (Scalar.ofBits .f32 0x00000000#32)) : FVec Ideal S128x128 .f32) bitsLt_bf16_f32

theorem same_apply (a b : Fin 128) : same (ix2 a b) = if a.val / 64 = b.val / 64 then 1 else 0 := by
  show Scalar.select (IntOp.cmpi .eq (k0_pay9 (ix2 a b)) (colHead (ix2 a b))) (Ideal.ofBits .f32 0x3F800000#32) (Ideal.ofBits .f32 0x00000000#32) = _
  rw [pay9_apply, colHead_apply, Ideal.ofBits_one_f32, Ideal.ofBits_zero_f32]
  unfold Scalar.select IntOp.cmpi
  have ha := a.isLt
  have hb := b.isLt
  by_cases h : a.val / 64 = b.val / 64
  · simp [h]
  · have h' : ¬ (BitVec.ofNat 32 (a.val / 64) = BitVec.ofNat 32 (b.val / 64)) := by
      intro e
      have := congrArg BitVec.toNat e
      simp only [BitVec.toNat_ofNat] at this
      omega
    rw [if_neg h, show (BitVec.ofNat 32 (a.val / 64) == BitVec.ofNat 32 (b.val / 64)) = false from beq_false_of_ne h']
    rfl

theorem nrm_eq (x : FVec Ideal S256x128 .f32) (g : Vec Ideal S1x128 .f32) : nrm x g =
    mulf (mulf x (rsqrt (addf (mulf (addf (matmul dot_S256x128_S128x128_S256x128_1_0_0_1_n_n none (truncf .bf16 (mulf x x) bitsLt_bf16_f32) same (constant S256x128 .f32 0x00000000#32))
      (matmul dot_S256x128_S128x128_S256x128_1_0_0_1_n_n none (truncf .bf16 (subf (mulf x x) (extf .f32 (truncf .bf16 (mulf x x) bitsLt_bf16_f32) bitsLt_bf16_f32)) bitsLt_bf16_f32) same (constant S256x128 .f32 0x00000000#32)))
      (broadcast S256x128 (Scalar.ofBits .f32 0x3C800000#32))) (broadcast S256x128 (Scalar.ofBits .f32 0x358637BD#32))))) (broadcastTo S256x128 (shapeCast S1x128 g shapeCasts_S1x128_S1x128) broadcasts_S1x128_S256x128) := rfl

/-- The norm, lane by lane. -/
theorem nrm_apply (x : FVec Ideal S256x128 .f32) (g : Vec Ideal S1x128 .f32) (r : Fin 256) (l : Fin 128) : nrm x g (ix2 r l)
    = x (ix2 r l) * Ideal.rsqrt ((∑ k : Fin 128, x (ix2 r k) * x (ix2 r k) * same (ix2 k l)
        + ∑ k : Fin 128, (x (ix2 r k) * x (ix2 r k) - x (ix2 r k) * x (ix2 r k)) * same (ix2 k l)) * Ideal.ofBits .f32 0x3C800000#32 + Ideal.ofBits .f32 0x358637BD#32) * g (ix2 0 l) := by
  rw [nrm_eq]
  generalize same = S
  pointwise []

theorem qry_apply (x : FVec Ideal S256x128 .f32) (g : Vec Ideal S1x128 .f32) (r : Fin 256) (l : Fin 128) :
    qry x g (ix2 r l) = nrm x g (ix2 r l) * Ideal.ofBits .f32 0x3E000000#32 := by
  unfold qry
  generalize nrm x g = n
  pointwise []

theorem slt64 (l : Fin 128) : IntOp.cmpi .slt (BitVec.ofNat 32 l.val) 64#32 = if l.val < 64 then 1#1 else 0#1 :=
  (by decide +kernel : ∀ l : Fin 128, IntOp.cmpi .slt (BitVec.ofNat 32 l.val) 64#32 = if l.val < 64 then 1#1 else 0#1) l

theorem sge64 (l : Fin 128) : IntOp.cmpi .sge (BitVec.ofNat 32 l.val) 64#32 = if l.val < 64 then 0#1 else 1#1 :=
  (by decide +kernel : ∀ l : Fin 128, IntOp.cmpi .sge (BitVec.ofNat 32 l.val) 64#32 = if l.val < 64 then 0#1 else 1#1) l

theorem half0_apply (y : FVec Ideal S256x128 .f32) (r : Fin 256) (l : Fin 128) : half0 y (ix3 0 r l) = y (ix2 r ⟨l.val % 64, by omega⟩) := by
  have e : half0 y (ix3 0 r l) = Scalar.select (IntOp.cmpi .slt (BitVec.ofNat 32 l.val) 64#32) (y (ix2 r l)) (y (ix2 r ⟨(l.val + 128 - 64) % 128, by omega⟩)) := by
    unfold half0
    pointwise []
  rw [e, slt64]
  have hl := l.isLt
  by_cases h : l.val < 64
  · rw [if_pos h]
    exact congrArg (fun q => y (ix2 r q)) (Fin.ext (by show l.val = l.val % 64; omega))
  · rw [if_neg h]
    exact congrArg (fun q => y (ix2 r q)) (Fin.ext (by show (l.val + 128 - 64) % 128 = l.val % 64; omega))

theorem half1_apply (y : FVec Ideal S256x128 .f32) (r : Fin 256) (l : Fin 128) : half1 y (ix3 0 r l) = y (ix2 r ⟨64 + l.val % 64, by omega⟩) := by
  have e : half1 y (ix3 0 r l) = Scalar.select (IntOp.cmpi .sge (BitVec.ofNat 32 l.val) 64#32) (y (ix2 r l)) (y (ix2 r ⟨(l.val + 128 - 64) % 128, by omega⟩)) := by
    unfold half1 k0_pay16
    pointwise []
  rw [e, sge64]
  have hl := l.isLt
  by_cases h : l.val < 64
  · rw [if_pos h]
    exact congrArg (fun q => y (ix2 r q)) (Fin.ext (by show (l.val + 128 - 64) % 128 = 64 + l.val % 64; omega))
  · rw [if_neg h]
    exact congrArg (fun q => y (ix2 r q)) (Fin.ext (by show l.val = 64 + l.val % 64; omega))

theorem sel_lo (l : Fin 128) (x : EReal) : Scalar.select (if l.val < 64 then 1#1 else 0#1) x 0 = if l.val / 64 = 0 then x else 0 := by
  by_cases h : l.val < 64
  · rw [if_pos h, if_pos (by omega)]; rfl
  · rw [if_neg h, if_neg (by omega)]; rfl

theorem sel_hi (l : Fin 128) (x : EReal) : Scalar.select (if l.val < 64 then 1#1 else 0#1) 0 x = if l.val / 64 = 1 then x else 0 := by
  have hl := l.isLt
  by_cases h : l.val < 64
  · rw [if_pos h, if_neg (by omega)]; rfl
  · rw [if_neg h, if_pos (by omega)]; rfl

/-- The row of query `a` of the `h`-th of four heads. -/
def rw4 (h : Fin 4) (a : Fin 128) : Fin 512 := ⟨128 * h.val + a.val, by omega⟩

/-- The largest score, the sink's among them. -/
def top (s : Fin 256 → EReal) (k : EReal) : EReal := max ((Finset.univ : Finset (Fin 256)).fold max (Ideal.ofBits .f32 0xFF800000#32) s) k

/-- The weighted sum divided by the sum of the weights. -/
def att (s : Fin 256 → EReal) (k : EReal) (v : Fin 256 → EReal) : EReal :=
  Ideal.div (∑ t : Fin 256, Ideal.exp (s t - top s k) * v t) (∑ t : Fin 256, Ideal.exp (s t - top s k) + Ideal.exp (k - top s k))

theorem max_lanes (x : FVec Ideal S512x256 .f32) (R : Fin 512) :
    multiReduction .maximumf [1] S512 x 0xFF800000#32 reduces_S512x256_S512 (.inl rfl) rfl (ix1 R)
      = (Finset.univ : Finset (Fin 256)).fold max (Ideal.ofBits .f32 0xFF800000#32) fun t => x (ix2 R t) := by
  refine (multiReduction_maximumf_eq_fold (F := Ideal) x _ _ _ _ _).trans ((Shape.Reduces.fold_filter_drop_single reduces_S512x256_S512 _ _ _ _).trans ?_)
  have hf : (x ∘ reduces_S512x256_S512.lift (ix1 R)) = fun k : Fin 256 => x (ix2 R k) := by
    funext k
    refine congrArg x ?_
    funext c; apply Fin.ext
    fin_cases c <;> rfl
  exact congrArg (fun f => Finset.fold max (Ideal.ofBits .f32 0xFF800000#32) f (Finset.univ : Finset (Fin 256))) hf

/-- The rows' quotients, from the rows' maxima. -/
def quot (mx : FVec Ideal S512 .f32) (v517 : FVec Ideal S512x1 .f32) (v520 : FVec Ideal S512x256 .f32) (v533 : Vec Ideal S1x256x128 .bf16) : FVec Ideal S512x128 .f32 :=
  have v523 : FVec Ideal S512x1 .f32 := maximumf (shapeCast S512x1 mx shapeCasts_S512_S512x1) v517
  have v526 : FVec Ideal S512x256 .f32 := exp (subf v520 (broadcastTo S512x256 v523 broadcasts_S512x1_S512x256))
  have v528 : FVec Ideal S512x1 .f32 := shapeCast S512x1 (multiReduction .add [1] S512 v526 0x00000000#32 reduces_S512x256_S512 (.inl rfl) rfl) shapeCasts_S512_S512x1
  have v531 : FVec Ideal S512x1 .f32 := addf v528 (exp (subf v517 v523))
  divf (matmul dot_S512x256_S256x128_S512x128_1_0_0_1_n_n none (truncf .bf16 v526 bitsLt_bf16_f32) (shapeCast S256x128 v533 shapeCasts_S1x256x128_S256x128 : FVec Ideal S256x128 .bf16) (constant S512x128 .f32 0x00000000#32))
    (broadcastTo S512x128 v531 broadcasts_S512x1_S512x128)

theorem quot_apply (mx : FVec Ideal S512 .f32) (S : FVec Ideal S512x1 .f32) (X : FVec Ideal S512x256 .f32) (v : Vec Ideal S1x256x128 .bf16) (R : Fin 512) (l : Fin 128) :
    quot mx S X v (ix2 R l) = Ideal.div (∑ t : Fin 256, Ideal.exp (X (ix2 R t) - max (mx (ix1 R)) (S (ix2 R 0))) * v (ix3 0 t l))
      (∑ t : Fin 256, Ideal.exp (X (ix2 R t) - max (mx (ix1 R)) (S (ix2 R 0))) + Ideal.exp (S (ix2 R 0) - max (mx (ix1 R)) (S (ix2 R 0)))) := by
  pointwise [quot]

/-- The quotients row by row. -/
theorem quot_row (S : FVec Ideal S512x1 .f32) (X : FVec Ideal S512x256 .f32) (v : Vec Ideal S1x256x128 .bf16) (R : Fin 512) (l : Fin 128) :
    k0_pay56 S X v (ix2 R l) = att (fun t => X (ix2 R t)) (S (ix2 R 0)) (fun t => v (ix3 0 t l)) := by
  show quot (multiReduction .maximumf [1] S512 X 0xFF800000#32 reduces_S512x256_S512 (.inl rfl) rfl) S X v (ix2 R l) = _
  rw [quot_apply, max_lanes]
  rfl

/-- The two halves of the lanes take their own head's rows. -/
theorem lo_apply (S : FVec Ideal S512x1 .f32) (X : FVec Ideal S512x256 .f32) (v : Vec Ideal S1x256x128 .bf16) (a l : Fin 128) :
    k0_pay57 k0_pay50 S X v (ix2 a l) = k0_pay56 S X v (ix2 (rw4 ⟨l.val / 64, by omega⟩ a) l) := by
  unfold k0_pay57
  generalize k0_pay56 S X v = Q
  have e : k0_pay50 (ix2 0 l) = _ := low_apply l
  generalize k0_pay50 = L at e ⊢
  refine Eq.trans (b := Scalar.select (L (ix2 0 l)) (Q (ix2 (rw4 0 a) l)) (Q (ix2 (rw4 1 a) l))) (by unfold rw4; pointwise []) ?_
  rw [e]
  by_cases h : l.val < 64
  · rw [if_pos h]
    exact congrArg (fun q => Q (ix2 (rw4 q a) l)) (Fin.ext (by show 0 = l.val / 64; omega))
  · rw [if_neg h]
    exact congrArg (fun q => Q (ix2 (rw4 q a) l)) (Fin.ext (by show 1 = l.val / 64; omega))

theorem hi_apply (S : FVec Ideal S512x1 .f32) (X : FVec Ideal S512x256 .f32) (v : Vec Ideal S1x256x128 .bf16) (a l : Fin 128) :
    k0_pay58 k0_pay50 S X v (ix2 a l) = k0_pay56 S X v (ix2 (rw4 ⟨2 + l.val / 64, by omega⟩ a) l) := by
  unfold k0_pay58
  generalize k0_pay56 S X v = Q
  have e : k0_pay50 (ix2 0 l) = _ := low_apply l
  generalize k0_pay50 = L at e ⊢
  refine Eq.trans (b := Scalar.select (L (ix2 0 l)) (Q (ix2 (rw4 2 a) l)) (Q (ix2 (rw4 3 a) l))) (by unfold rw4; pointwise []) ?_
  rw [e]
  by_cases h : l.val < 64
  · rw [if_pos h]
    exact congrArg (fun q => Q (ix2 (rw4 q a) l)) (Fin.ext (by show 2 = 2 + l.val / 64; omega))
  · rw [if_neg h]
    exact congrArg (fun q => Q (ix2 (rw4 q a) l)) (Fin.ext (by show 3 = 2 + l.val / 64; omega))

theorem snk_apply (s0 s1 s2 s3 : Vec Ideal S1x1 .f32) (h : Fin 4) (a : Fin 128) : snk s0 s1 s2 s3 (ix2 (rw4 h a) 0) = (![s0, s1, s2, s3] h) (ix2 0 0) := by
  have e := pay51_apply (rw4 h a)
  have e' : (rw4 h a).val / 128 = h.val := by unfold rw4; dsimp only; omega
  rw [e'] at e
  unfold snk k0_pay54
  generalize k0_pay51 = L at e ⊢
  pointwise []
  rw [e]
  fin_cases h <;> rfl

/-- The queries of the four heads stacked, each with the other head's lanes cleared. -/
def stack4 (L : IVec S1x128 1) (q0 q1 : Vec Ideal S128x128 .bf16) : FVec Ideal S512x128 .bf16 :=
  have z : FVec Ideal S128x128 .bf16 := broadcast S128x128 (Scalar.ofBits .bf16 0x0000#16)
  have m : IVec S128x128 1 := broadcastTo S128x128 (shapeCast S1x128 L shapeCasts_S1x128_S1x128) broadcasts_S1x128_S128x128
  concatenate S512x128 0 [⟨S128x128, (select m q0 z : FVec Ideal S128x128 .bf16)⟩, ⟨S128x128, (select m z q0 : FVec Ideal S128x128 .bf16)⟩,
    ⟨S128x128, (select m q1 z : FVec Ideal S128x128 .bf16)⟩, ⟨S128x128, (select m z q1 : FVec Ideal S128x128 .bf16)⟩] concatenates_S128x128_S128x128_S128x128_S128x128_S512x128_d0

theorem scr_eq (q0 q1 : Vec Ideal S128x128 .bf16) (k : Vec Ideal S1x256x128 .bf16) : scr q0 q1 k
    = matmul dot_S512x128_S256x128_S512x256_1_1_0_0_n_n none (stack4 k0_pay50 q0 q1) (shapeCast S256x128 k shapeCasts_S1x256x128_S256x128 : FVec Ideal S256x128 .bf16) (constant S512x256 .f32 0x00000000#32) := rfl

theorem stack4_apply (q0 q1 : Vec Ideal S128x128 .bf16) (h : Fin 4) (a l : Fin 128) :
    stack4 k0_pay50 q0 q1 (ix2 (rw4 h a) l) = if l.val / 64 = h.val % 2 then (if h.val < 2 then q0 else q1) (ix2 a l) else 0 := by
  have e := low_apply l
  generalize k0_pay50 = L at e ⊢
  fin_cases h
  all_goals unfold rw4
  all_goals pointwise [stack4]
  · rw [e, sel_lo]
  · rw [e, sel_hi]
  · rw [dif_neg (by omega), dif_neg (by omega), dif_pos (by omega), e, sel_lo]
    simp only [show 256 + a.val - 128 - 128 = a.val by omega]
  · rw [dif_neg (by omega), dif_neg (by omega), dif_neg (by omega), e, sel_hi]
    simp only [show 384 + a.val - 128 - 128 - 128 = a.val by omega]

theorem scr_apply (q0 q1 : Vec Ideal S128x128 .bf16) (k : Vec Ideal S1x256x128 .bf16) (R : Fin 512) (t : Fin 256) :
    scr q0 q1 k (ix2 R t) = ∑ l : Fin 128, stack4 k0_pay50 q0 q1 (ix2 R l) * k (ix3 0 t l) := by
  rw [scr_eq]
  generalize stack4 k0_pay50 q0 q1 = Q
  pointwise []

end Exact

end Cert.At

end
-- ==== Proof.AttnMath.lean ====
/-
  The arithmetic of attention over exact numbers: the norm of a head, and the softmax with a sink.
-/
module

public import proofs.«01_k».proof.Proof.AttnVal

@[expose] public section

noncomputable section

namespace Cert.At

open Idealize.ShloMosaic Cert.AttnIdeal Cert.AttnIdeal.Gen

/-- A real number, not an infinity. -/
def IsR (x : EReal) : Prop := ∃ r : ℝ, x = (r : EReal)

theorem IsR.mul {x y : EReal} : IsR x → IsR y → IsR (x * y) := fun ⟨a, ha⟩ ⟨b, hb⟩ => ⟨a * b, by rw [ha, hb, EReal.coe_mul]⟩
theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.sub_self {x : EReal} : IsR x → x - x = 0 := fun ⟨a, ha⟩ => by rw [ha, ← EReal.coe_sub, _root_.sub_self, EReal.coe_zero]
theorem IsR.sum {n : ℕ} {f : Fin n → EReal} (h : ∀ k, IsR (f k)) : IsR (∑ k, f k) := by
  classical
  refine Finset.sum_induction f IsR (fun _ _ => IsR.add) ⟨0, rfl⟩ (fun k _ => h k)

theorem w64 : Ideal.ofBits .f32 0x42800000#32 = ((64 : ℝ) : EReal) := by
  simp [Ideal.ofBits, Ideal.ieee, -EReal.coe_mul] <;> norm_num
theorem w1_64 : Ideal.ofBits .f32 0x3C800000#32 = ((1 / 64 : ℝ) : EReal) := by
  simp [Ideal.ofBits, Ideal.ieee, -EReal.coe_mul]; norm_num
theorem coe_sum {n : ℕ} (f : Fin n → ℝ) : ((∑ k, f k : ℝ) : EReal) = ∑ k, (f k : EReal) := by
  classical
  have : ∀ S : Finset (Fin n), ((∑ k ∈ S, f k : ℝ) : EReal) = ∑ k ∈ S, (f k : EReal) := by
    intro S
    induction S using Finset.induction_on with
    | empty => simp
    | insert a S ha ih => rw [Finset.sum_insert ha, Finset.sum_insert ha, EReal.coe_add, ih]
  exact this Finset.univ

/-- The reciprocal square root of a positive real. -/
theorem rsqrt_pos {r : ℝ} (h : 0 < r) : Ideal.rsqrt (r : EReal) = ((Real.sqrt r)⁻¹ : ℝ) := by
  show (if r < 0 then ⊥ else if r = 0 then ⊤ else (((Real.sqrt r)⁻¹ : ℝ) : EReal)) = _
  rw [if_neg (not_lt.mpr h.le), if_neg h.ne']

theorem w1_8 : Ideal.ofBits .f32 0x3E000000#32 = ((1 / 8 : ℝ) : EReal) := by
  simp [Ideal.ofBits, Ideal.ieee, -EReal.coe_mul]; norm_num
theorem eps_pos : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul] <;> norm_num
theorem neg_inf : Ideal.ofBits .f32 0xFF800000#32 = ⊥ := by simp [Ideal.ofBits, Ideal.ieee]

/-- One lane of a head's norm, times the gain. -/
def nrmE (f g : Fin 64 → EReal) (d : Fin 64) : EReal :=
  f d * Ideal.rsqrt (Ideal.div (∑ k : Fin 64, f k * f k) (Ideal.ofBits .f32 0x42800000#32) + Ideal.ofBits .f32 0x358637BD#32) * g d

theorem div64 (x : EReal) : Ideal.div x (Ideal.ofBits .f32 0x42800000#32) = x * Ideal.ofBits .f32 0x3C800000#32 := by
  have h : ((64 : ℝ) : EReal) ≠ 0 := by norm_cast
  rw [w64, w1_64]
  unfold Ideal.div
  rw [if_neg h, ← EReal.coe_inv]
  norm_num

theorem nrmE_isR {f g : Fin 64 → EReal} (hf : ∀ k, IsR (f k)) (hg : ∀ k, IsR (g k)) (d : Fin 64) : IsR (nrmE f g d) := by
  obtain ⟨e, he, hE⟩ := eps_pos
  choose a ha using hf
  have hS : ∑ k : Fin 64, f k * f k = ((∑ k : Fin 64, a k * a k : ℝ) : EReal) := by
    rw [coe_sum]
    exact Finset.sum_congr rfl fun k _ => by rw [ha, EReal.coe_mul]
  have h0 : 0 ≤ ∑ k : Fin 64, a k * a k := Finset.sum_nonneg fun k _ => mul_self_nonneg _
  unfold nrmE
  refine IsR.mul (IsR.mul ⟨a d, ha d⟩ ?_) (hg d)
  rw [div64, hS, w1_64, hE, ← EReal.coe_mul, ← EReal.coe_add]
  have hp : 0 < (∑ k : Fin 64, a k * a k) * (1 / 64) + e := by positivity
  exact ⟨_, rsqrt_pos hp⟩

/-- The lane `d` of head `e` of two. -/
def ln (e : Fin 2) (d : Fin 64) : Fin 128 := ⟨64 * e.val + d.val, by omega⟩

/-- A sum over the lanes of one head. -/
theorem sum_head (F : Fin 128 → EReal) (e : Fin 2) : (∑ k : Fin 128, if k.val / 64 = e.val then F k else 0) = ∑ d : Fin 64, F (ln e d) := by
  have h := (finProdFinEquiv (m := 2) (n := 64)).sum_comp (fun k : Fin 128 => if k.val / 64 = e.val then F k else 0)
  rw [← h, Fintype.sum_prod_type]
  have row : ∀ i : Fin 2, (∑ d : Fin 64, if (finProdFinEquiv (i, d) : Fin 128).val / 64 = e.val then F (finProdFinEquiv (i, d)) else 0)
      = if i = e then ∑ d : Fin 64, F (ln e d) else 0 := by
    intro i
    by_cases hi : i = e
    · rw [if_pos hi]
      refine Finset.sum_congr rfl fun d _ => ?_
      rw [if_pos (by rw [finProdFinEquiv_apply_val]; subst hi; dsimp only; omega)]
      exact congrArg F (Fin.ext (by rw [finProdFinEquiv_apply_val]; subst hi; show d.val + 64 * i.val = 64 * i.val + d.val; omega))
    · rw [if_neg hi]
      refine Finset.sum_eq_zero fun d _ => ?_
      have hi' : i.val ≠ e.val := fun h => hi (Fin.ext h)
      rw [if_neg (by rw [finProdFinEquiv_apply_val]; dsimp only; omega)]
  refine (Finset.sum_congr rfl fun i _ => row i).trans ?_
  simp

/-- The kernel's norm is the head's, for real arguments. -/
theorem nrm_real (x : FVec Ideal S256x128 .f32) (g : Vec Ideal S1x128 .f32) (r : Fin 256) (e : Fin 2) (d : Fin 64)
    (hx : ∀ l, IsR (x (ix2 r l))) : nrm x g (ix2 r (ln e d)) = nrmE (fun k => x (ix2 r (ln e k))) (fun k => g (ix2 0 (ln e k))) d := by
  have hl : (ln e d).val / 64 = e.val := by show (64 * e.val + d.val) / 64 = e.val; omega
  have e1 : ∀ F : Fin 128 → EReal, ∑ k : Fin 128, F k * same (ix2 k (ln e d)) = ∑ k : Fin 64, F (ln e k) := by
    intro F
    rw [← sum_head]
    refine Finset.sum_congr rfl fun k _ => ?_
    rw [same_apply, hl, mul_ite, mul_one, mul_zero]
  rw [nrm_apply, e1 (fun k => x (ix2 r k) * x (ix2 r k)), e1 (fun k => x (ix2 r k) * x (ix2 r k) - x (ix2 r k) * x (ix2 r k))]
  have e2 : ∑ k : Fin 64, (x (ix2 r (ln e k)) * x (ix2 r (ln e k)) - x (ix2 r (ln e k)) * x (ix2 r (ln e k))) = 0 :=
    Finset.sum_eq_zero fun k _ => ((hx _).mul (hx _)).sub_self
  unfold nrmE
  rw [e2, add_zero, div64]

theorem fold_isR {n : ℕ} {s : Fin n → EReal} (hs : ∀ t, IsR (s t)) : (Finset.univ : Finset (Fin n)).fold max ⊥ s ≠ ⊤ := by
  refine ne_of_lt ?_
  rw [Finset.fold_max_lt]
  exact ⟨bot_lt_top, fun t _ => by obtain ⟨r, hr⟩ := hs t; rw [hr]; exact EReal.coe_lt_top r⟩

theorem top_isR {s : Fin 256 → EReal} {k : EReal} (hs : ∀ t, IsR (s t)) (hk : IsR k) : IsR (top s k) := by
  obtain ⟨b, hb⟩ := hk
  have h1 : top s k ≠ ⊤ := by
    unfold top
    rw [neg_inf]
    rcases max_choice ((Finset.univ : Finset (Fin 256)).fold max ⊥ s) k with h | h <;> rw [h]
    · exact fold_isR hs
    · rw [hb]; exact EReal.coe_ne_top b
  have h2 : top s k ≠ ⊥ := by
    refine ne_of_gt (lt_of_lt_of_le ?_ (le_max_right _ _))
    rw [hb]; exact EReal.bot_lt_coe b
  exact ⟨(top s k).toReal, (EReal.coe_toReal h1 h2).symm⟩

theorem sum_mul_pos {n : ℕ} (f : Fin n → EReal) (r : ℝ) (hr : 0 ≤ r) : (∑ t, f t) * (r : EReal) = ∑ t, f t * (r : EReal) := by
  classical
  have : ∀ S : Finset (Fin n), (∑ t ∈ S, f t) * (r : EReal) = ∑ t ∈ S, f t * (r : EReal) := by
    intro S
    induction S using Finset.induction_on with
    | empty => simp
    | insert a S ha ih => rw [Finset.sum_insert ha, Finset.sum_insert ha, EReal.right_distrib_of_nonneg_of_ne_top (EReal.coe_nonneg.mpr hr) (EReal.coe_ne_top r), ih]
  exact this Finset.univ

/-- Dividing the weighted sum is weighting by the quotients. -/
theorem att_eq {s : Fin 256 → EReal} {k : EReal} (hs : ∀ t, IsR (s t)) (hk : IsR k) (v : Fin 256 → EReal) :
    att s k v = ∑ t : Fin 256, Ideal.div (Ideal.exp (s t - top s k)) (∑ u : Fin 256, Ideal.exp (s u - top s k) + Ideal.exp (k - top s k)) * v t := by
  unfold att
  obtain ⟨m, hm⟩ := top_isR hs hk
  obtain ⟨b, hb⟩ := hk
  choose a ha using hs
  have hE : ∀ t, Ideal.exp (s t - top s k) = ((Real.exp (a t - m) : ℝ) : EReal) := by
    intro t; rw [hm, ha, ← EReal.coe_sub]; rfl
  have hK : Ideal.exp (k - top s k) = ((Real.exp (b - m) : ℝ) : EReal) := by
    rw [hm, hb, ← EReal.coe_sub]; rfl
  have hD : ∑ u : Fin 256, Ideal.exp (s u - top s k) + Ideal.exp (k - top s k) = ((∑ u : Fin 256, Real.exp (a u - m) + Real.exp (b - m) : ℝ) : EReal) := by
    rw [EReal.coe_add, coe_sum, hK]
    exact congrArg (· + _) (Finset.sum_congr rfl fun u _ => hE u)
  have hp : 0 < ∑ u : Fin 256, Real.exp (a u - m) + Real.exp (b - m) := by positivity
  rw [hD]
  generalize ∑ u : Fin 256, Real.exp (a u - m) + Real.exp (b - m) = D at hp
  have h0 : ((D : ℝ) : EReal) ≠ 0 := by exact_mod_cast hp.ne'
  have hdiv : ∀ x : EReal, Ideal.div x (D : EReal) = x * ((D⁻¹ : ℝ) : EReal) := by
    intro x; unfold Ideal.div; rw [if_neg h0, EReal.coe_inv]
  rw [hdiv, sum_mul_pos _ _ (inv_nonneg.mpr hp.le)]
  refine Finset.sum_congr rfl fun t _ => ?_
  rw [hdiv, mul_right_comm]

/-- Scaling the queries is scaling the scores. -/
theorem scale_sum (q k : Fin 64 → EReal) : ∑ d : Fin 64, q d * Ideal.ofBits .f32 0x3E000000#32 * k d = (∑ d : Fin 64, k d * q d) * Ideal.ofBits .f32 0x3E000000#32 := by
  rw [w1_8, sum_mul_pos _ _ (by norm_num)]
  exact Finset.sum_congr rfl fun d _ => by rw [mul_right_comm, mul_comm (q d)]

end Cert.At

end
-- ==== Proof.AttnPre.lean ====
/-
  What the precondition says: the queries, the keys, the gains and the sinks are finite.
-/
module

public import proofs.«01_k».proof.Pre_finite
public import proofs.«01_k».proof.Proof.AttnMath
public import Idealize.ShloMosaic.Lib.ReduceAll

@[expose] public section

set_option maxRecDepth 16384

noncomputable section

namespace Cert.At.Pre

open Idealize.ShloMosaic Idealize.ShloMosaic.TcCoe Cert.Pre_finite Cert.Pre_finite.Facts

theorem facts : Cert.Pre_finite.Facts where
  slices_S8192x6144_S8192x640_0_5120 := by decide
  bcast_S_S8192x640 := by decide
  reducesTo_S8192x640_S_d0_1 := by decide
  h_S_ := by decide
  bcast_S_S64 := by decide
  reducesTo_S64_S_d0 := by decide
  bcast_S_S8 := by decide
  reducesTo_S8_S_d0 := by decide

instance : Subsingleton S_.Idx := ⟨fun a b => funext fun i => i.elim0⟩

theorem and_one {a b : BitVec 1} (h : a &&& b = 1#1) : a = 1#1 ∧ b = 1#1 := by revert a b; decide

/-- An extended real whose absolute value is below the top is a real number. -/
theorem isR_of_abs (x : EReal) (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe r => exact ⟨r, rfl⟩

variable [hP : Cert.Pre_finite.Facts] (Z : FVec Ideal S8192x6144 .f32) (QG KG : FVec Ideal S64 .f32) (SK : FVec Ideal S8 .f32)

theorem finite_read (h : Cert.Pre_finite.fn (F := Ideal) Z QG KG SK = fun _ => 1#1) :
    (∀ (r : Fin 8192) (q : Fin 640), IsR (Z (ix2 r ⟨5120 + q.val, by omega⟩))) ∧ (∀ d, IsR (QG (ix1 d))) ∧ (∀ d, IsR (KG (ix1 d))) ∧ (∀ d, IsR (SK (ix1 d))) := by
  have h0 := congrFun h (fun i => i.elim0)
  dsimp only [Cert.Pre_finite.fn, Cert.Pre_finite.fn_part1] at h0
  obtain ⟨h123, h4⟩ := and_one h0
  obtain ⟨h12, h3⟩ := and_one h123
  obtain ⟨h1, h2⟩ := and_one h12
  have g1 := Host.reduce_andi_all _ _ _ _ _ h1
  have g2 := Host.reduce_andi_all _ _ _ _ _ h2
  have g3 := Host.reduce_andi_all _ _ _ _ _ h3
  have g4 := Host.reduce_andi_all _ _ _ _ _ h4
  refine ⟨fun r q => isR_of_abs _ ?_, fun d => isR_of_abs _ (g2 (ix1 d)), fun d => isR_of_abs _ (g3 (ix1 d)), fun d => isR_of_abs _ (g4 (ix1 d))⟩
  have e := g1 (ix2 r q)
  refine Eq.trans ?_ e
  refine congrArg (fun x => Ideal.cmp .olt (max x (-x)) (Ideal.ofBits .f32 0x7F800000#32)) ?_
  pointwise []

end Cert.At.Pre

end
-- ==== Proof.FramesAttn.lean ====
module

public import proofs.«01_k».proof.Proof.FramesProj
public import proofs.«01_k».proof.Proof.Gen.Attn
public import proofs.«01_k».proof.Proof.Gen.AttnIdeal.Frame
public import proofs.«01_k».proof.Proof.Gen.AttnRefIdeal.Run
public import proofs.«01_k».proof.Proof.AttnPre

/-! The frames of the attention, each read off its program's run. -/

@[expose] public section

set_option maxRecDepth 16384

noncomputable section

namespace Cert.Proof

open Idealize.ShloMosaic Idealize.SL.Sem

/-- The attention: the body of the one text is the body of the other. -/
theorem attn_body : @Cert.Attn.cc0_attn_context Bits _ Cert.Attn.Gen.facts = @Cert.AttnIdeal.cc0_attn_context Bits _ Cert.AttnIdeal.Gen.facts := by
  unfold Cert.Attn.cc0_attn_context Cert.AttnIdeal.cc0_attn_context Cert.Attn.k0_part1 Cert.AttnIdeal.k0_part1 Cert.Attn.k0_part2 Cert.AttnIdeal.k0_part2 Cert.Attn.k0_part3 Cert.AttnIdeal.k0_part3 Cert.Attn.k0_part4 Cert.AttnIdeal.k0_part4 Cert.Attn.k0_part5 Cert.AttnIdeal.k0_part5 Cert.Attn.k0_part6 Cert.AttnIdeal.k0_part6 Cert.Attn.k0_part7 Cert.AttnIdeal.k0_part7 Cert.Attn.k0_part8 Cert.AttnIdeal.k0_part8 Cert.Attn.k0_part9 Cert.AttnIdeal.k0_part9 Cert.Attn.k0_part10 Cert.AttnIdeal.k0_part10 Cert.Attn.k0_part11 Cert.AttnIdeal.k0_part11 Cert.Attn.k0_part12 Cert.AttnIdeal.k0_part12 Cert.Attn.k0_part13 Cert.AttnIdeal.k0_part13 Cert.Attn.k0_part14 Cert.AttnIdeal.k0_part14 Cert.Attn.k0_part15 Cert.AttnIdeal.k0_part15 Cert.Attn.k0_part16 Cert.AttnIdeal.k0_part16 Cert.Attn.k0_part17 Cert.AttnIdeal.k0_part17 Cert.Attn.k0_part18 Cert.AttnIdeal.k0_part18
  rfl

set_option maxHeartbeats 2000000 in
/-- The attention: the same labels name the same programs. -/
theorem attn_defs : @Cert.Attn.defs Bits _ Cert.Attn.Gen.facts = @Cert.AttnIdeal.defs Bits _ Cert.AttnIdeal.Gen.facts := by
  refine congrArg (Pipeline.defs (@Cert.AttnIdeal.pcfgs Bits Cert.AttnIdeal.Gen.facts)) ?_
  unfold Cert.Attn.defs₀ Cert.AttnIdeal.defs₀
  refine congrArg (Defs.onTc (nD := Cert.AttnIdeal.nD) (τ := Cert.AttnIdeal.τ) (sig := Cert.AttnIdeal.sig) (Λ := Cert.AttnIdeal.Λ₀))
    (funext fun l => funext fun a => ?_)
  match l, a with
  | 0, (t, s) =>
    dsimp only
    rw [attn_body]
    simp only [two (f := Cert.Attn.stage0_0) (g := Cert.AttnIdeal.stage0_0) rfl rfl,
      two (f := Cert.Attn.stage0_1) (g := Cert.AttnIdeal.stage0_1) rfl rfl,
      one (f := Cert.Attn.stage0_2) (g := Cert.AttnIdeal.stage0_2) rfl,
      one (f := Cert.Attn.stage0_3) (g := Cert.AttnIdeal.stage0_3) rfl,
      one (f := Cert.Attn.stage0_4) (g := Cert.AttnIdeal.stage0_4) rfl,
      two (f := Cert.Attn.stage0_5) (g := Cert.AttnIdeal.stage0_5) rfl rfl,
      two (f := Cert.Attn.stage0_6) (g := Cert.AttnIdeal.stage0_6) rfl rfl]
    rfl

/-- The attention's kernel, bit for bit, leaves its arguments as they were and its counters at zero. -/
theorem frame_attn : Cert.quiescent_Attn (hAttn := Cert.Attn.Gen.facts) :=
  fun m ρ _ => by
    rw [attn_defs]
    exact Cert.AttnIdeal.Gen.frame (F := Bits) m ρ

/-- The attention's kernel in exact arithmetic. -/
theorem frame_attn_ideal : Cert.quiescent_AttnIdeal (hAttnIdeal := Cert.AttnIdeal.Gen.facts) :=
  fun m ρ _ => Cert.AttnIdeal.Gen.frame m ρ

/-- The attention's reference, a host program with no semaphore. -/
theorem frame_attn_reference : Cert.quiescent_AttnRefIdeal (hAttnRefIdeal := Cert.AttnRefIdeal.Gen.facts) :=
  fun m ρ _ => (θ_run Cert.AttnRefIdeal.defs _ _).mono
    (fun r h => ⟨fun c => (h c).2.2, sem_eq_zero_of_no_sems (by decide) r.2⟩)
    (Cert.AttnRefIdeal.Value.run (F := Ideal) m ρ)

/-- The same two frames where the equation's precondition holds. -/
theorem frame_attn_ideal_pre : Cert.quiescent_AttnIdeal_pre_finite (hAttnIdeal := Cert.AttnIdeal.Gen.facts) (hPre_finite := Cert.At.Pre.facts) :=
  fun m ρ _ => frame_attn_ideal m ρ trivial

theorem frame_attn_reference_pre : Cert.quiescent_AttnRefIdeal_pre_finite (hAttnRefIdeal := Cert.AttnRefIdeal.Gen.facts) (hPre_finite := Cert.At.Pre.facts) :=
  fun m ρ _ => frame_attn_reference m ρ trivial

end Cert.Proof

end
-- ==== Proof.AttnBlock.lean ====
/-
  What one point of the attention kernel's grid leaves in its two output blocks.
-/
module

public import proofs.«01_k».proof.Proof.Gen.AttnIdeal.Frame
public import proofs.«01_k».proof.Proof.AttnVal
public import Idealize.ShloMosaic.Lib.Pipeline
public import Idealize.ShloMosaic.Lib.Pipeline.ValueKit.Acc

@[expose] public section

set_option maxRecDepth 16384

noncomputable section

namespace Cert.At

open Idealize.ShloMosaic Idealize.ShloMosaic.TcCoe Idealize.SL.Sem Cert.AttnIdeal Cert.AttnIdeal.Gen

variable {F : FTy → Type} [FloatOps F]

theorem z2 : (![0, 0] : Fin 2 → ℕ) = fun _ => 0 := by decide

/-- The keys' 128 lanes of a block, and the values'. -/
def kcol (x1 : Vec F S256x256 .f32) : FVec F S256x128 .f32 := extractStridedSlice S256x128 ![0, 0] x1 slices_S256x256_o0_0_S256x128
def vcol (x1 : Vec F S256x256 .f32) : FVec F S256x128 .f32 := extractStridedSlice S256x128 ![0, 128] x1 slices_S256x256_o0_128_S256x128

/-- The four pairs of query heads of a block. -/
def qcol (x0 : Vec F S256x512 .f32) (p : Fin 4) : FVec F S256x128 .f32 := fun y => x0 (ix2 (y 0) ⟨128 * p.val + (y 1).val, by have := (y 1).isLt; simp at this; omega⟩)

/-- The normed and scaled queries of a block, as the scratch holds them. -/
def qAll (x0 : Vec F S256x512 .f32) (g : Vec F S1x128 .f32) : Vec F S256x512 .bf16 := fun y =>
  qry (qcol x0 ⟨(y 1).val / 128, by have := (y 1).isLt; simp at this; omega⟩) g (ix2 (y 0) ⟨(y 1).val % 128, by omega⟩)

/-- The 128 rows of half `j` of the pair `p` of query heads. -/
def qBlk (x0 : Vec F S256x512 .f32) (g : Vec F S1x128 .f32) (j : Fin 2) (p : Fin 4) : Vec F S128x128 .bf16 := fun y =>
  qry (qcol x0 p) g (ix2 ⟨128 * j.val + (y 0).val, by have := (y 0).isLt; simp at this; omega⟩ (y 1))

/-- The sink of head `h`. -/
def sk (x4 : Vec F S8x128 .f32) (h : Fin 8) : Vec F S1x1 .f32 := fun _ => x4 (ix2 h 0)

variable (x0 : Vec F S256x512 .f32) (x1 : Vec F S256x256 .f32) (x2 x3 : Vec F S1x128 .f32) (x4 : Vec F S8x128 .f32)

theorem qcol0 : View.ld x0 (Rect.unit (s := S256x512) ![0, 0] S256x128.size inb_S256x512_S256x128_0_0) = qcol x0 0 := by
  funext y; refine congrArg x0 ?_; funext a
  match a with
  | ⟨0, _⟩ => exact Fin.ext (by show 0 + 1 * (y 0).val = (y 0).val; omega)
  | ⟨1, _⟩ => exact Fin.ext (by show 0 + 1 * (y 1).val = 128 * 0 + (y 1).val; omega)
theorem qcol1 : View.ld x0 (Rect.unit (s := S256x512) ![0, 128] S256x128.size inb_S256x512_S256x128_0_128) = qcol x0 1 := by
  funext y; refine congrArg x0 ?_; funext a
  match a with
  | ⟨0, _⟩ => exact Fin.ext (by show 0 + 1 * (y 0).val = (y 0).val; omega)
  | ⟨1, _⟩ => exact Fin.ext (by show 128 + 1 * (y 1).val = 128 * 1 + (y 1).val; omega)
theorem qcol2 : View.ld x0 (Rect.unit (s := S256x512) ![0, 256] S256x128.size inb_S256x512_S256x128_0_256) = qcol x0 2 := by
  funext y; refine congrArg x0 ?_; funext a
  match a with
  | ⟨0, _⟩ => exact Fin.ext (by show 0 + 1 * (y 0).val = (y 0).val; omega)
  | ⟨1, _⟩ => exact Fin.ext (by show 256 + 1 * (y 1).val = 128 * 2 + (y 1).val; omega)
theorem qcol3 : View.ld x0 (Rect.unit (s := S256x512) ![0, 384] S256x128.size inb_S256x512_S256x128_0_384) = qcol x0 3 := by
  funext y; refine congrArg x0 ?_; funext a
  match a with
  | ⟨0, _⟩ => exact Fin.ext (by show 0 + 1 * (y 0).val = (y 0).val; omega)
  | ⟨1, _⟩ => exact Fin.ext (by show 384 + 1 * (y 1).val = 128 * 3 + (y 1).val; omega)

/-- Storing the four pairs of queries side by side leaves all of them. -/
theorem canon_q : View.canon ([⟨Rect.unit (s := S256x512) ![0, 384] S256x128.size inb_S256x512_S256x128_0_384, qry (qcol x0 3) x2⟩,
    ⟨Rect.unit (s := S256x512) ![0, 256] S256x128.size inb_S256x512_S256x128_0_256, qry (qcol x0 2) x2⟩,
    ⟨Rect.unit (s := S256x512) ![0, 128] S256x128.size inb_S256x512_S256x128_0_128, qry (qcol x0 1) x2⟩,
    ⟨Rect.unit (s := S256x512) ![0, 0] S256x128.size inb_S256x512_S256x128_0_0, qry (qcol x0 0) x2⟩] : List (View.Piece (Elt F) S256x512 .bf16)) = qAll x0 x2 := by
  have key : ∀ (p : Fin 4) (o : ℕ) (inb) (ho : o = 128 * p.val) (x : S256x128.Idx),
      qry (qcol x0 p) x2 x = qAll x0 x2 ((Rect.unit (s := S256x512) ![0, o] S256x128.size inb).emb x) := by
    intro p o inb ho x
    subst ho
    have h1 : (x 1).val < 128 := (x 1).isLt
    unfold qAll
    have ep : p = ⟨(128 * p.val + 1 * (x 1).val) / 128, by omega⟩ := Fin.ext (by show p.val = (128 * p.val + 1 * (x 1).val) / 128; omega)
    have ex : x = ix2 (⟨0 + 1 * (x 0).val, by have := (x 0).isLt; simp at this; omega⟩ : Fin 256) (⟨(128 * p.val + 1 * (x 1).val) % 128, by omega⟩ : Fin 128) := by
      funext a
      match a with
      | ⟨0, _⟩ => exact Fin.ext (by show (x 0).val = 0 + 1 * (x 0).val; omega)
      | ⟨1, _⟩ => exact Fin.ext (by show (x 1).val = (128 * p.val + 1 * (x 1).val) % 128; omega)
    exact (congrArg (qry (qcol x0 p) x2) ex).trans (congrArg (fun q => qry (qcol x0 q) x2 _) ep)
  funext y
  refine View.canon_apply_of_pieces (qAll x0 x2) _ ?_ y (View.cover_of_tiledBy _ ![256, 128] (by sl_kernel_rfl) y)
  intro pc hpc x
  rcases List.mem_cons.mp hpc with rfl | hpc
  · exact key 3 384 inb_S256x512_S256x128_0_384 rfl x
  rcases List.mem_cons.mp hpc with rfl | hpc
  · exact key 2 256 inb_S256x512_S256x128_0_256 rfl x
  rcases List.mem_cons.mp hpc with rfl | hpc
  · exact key 1 128 inb_S256x512_S256x128_0_128 rfl x
  rcases List.mem_cons.mp hpc with rfl | hpc
  · exact key 0 0 inb_S256x512_S256x128_0_0 rfl x
  simp at hpc

/-- A quarter of the scratch's columns and half of its rows. -/
theorem ld_q (j : Fin 2) (p : Fin 4) (a b : ℕ) (inb) (ha : a = 128 * j.val) (hb : b = 128 * p.val) :
    View.ld (qAll x0 x2) (Rect.unit (s := S256x512) ![a, b] S128x128.size inb) = qBlk x0 x2 j p := by
  subst ha hb
  funext x
  have h1 : (x 1).val < 128 := (x 1).isLt
  have h0 : (x 0).val < 128 := (x 0).isLt
  show qAll x0 x2 ((Rect.unit (s := S256x512) ![128 * j.val, 128 * p.val] S128x128.size inb).emb x) = _
  unfold qAll qBlk
  have ep : (⟨(128 * p.val + 1 * (x 1).val) / 128, by omega⟩ : Fin 4) = p := Fin.ext (by show (128 * p.val + 1 * (x 1).val) / 128 = p.val; omega)
  have ex : ix2 (⟨128 * j.val + 1 * (x 0).val, by omega⟩ : Fin 256) (⟨(128 * p.val + 1 * (x 1).val) % 128, by omega⟩ : Fin 128)
      = ix2 (⟨128 * j.val + (x 0).val, by omega⟩ : Fin 256) (x 1 : Fin 128) := by
    funext a
    match a with
    | ⟨0, _⟩ => exact Fin.ext (by show 128 * j.val + 1 * (x 0).val = 128 * j.val + (x 0).val; omega)
    | ⟨1, _⟩ => exact Fin.ext (by show (128 * p.val + 1 * (x 1).val) % 128 = (x 1).val; omega)
  exact (congrArg (fun q => qry (qcol x0 q) x2 _) ep).trans (congrArg (qry (qcol x0 p) x2) ex)

variable (c : Dev nD) (i : grid0.Coords) (a2 : Memref sig .tc .vmem S256x512 .f32) (h2 : a2.IsWhole) (a3 : Memref sig .tc .vmem S256x256 .f32) (h3 : a3.IsWhole) (a4 : Memref sig .tc .vmem S1x128 .f32) (h4 : a4.IsWhole) (a5 : Memref sig .tc .vmem S1x128 .f32) (h5 : a5.IsWhole) (a6 : Memref sig .tc .vmem S8x128 .f32) (h6 : a6.IsWhole) (a7 : Memref sig .tc .vmem S256x512 .f32) (h7 : a7.IsWhole) (a8 : Memref sig .tc .vmem S256x128 .f32) (h8 : a8.IsWhole) (a9 : Memref sig .tc .vmem S256x512 .bf16) (h9 : a9.IsWhole) (a10 : Memref sig .tc .vmem S2x256x128 .bf16) (h10 : a10.IsWhole) (a11 : Memref sig .tc .vmem S2x256x128 .bf16) (h11 : a11.IsWhole)

theorem r_eq : kernelRun0_A.sl.r c a3 h3 x1 = x1 := by
  unfold kernelRun0_A.sl.r
  rw [View.readAt_eq_ld, Memref.IsWhole.read_unread, View.ld_unit_zero (S := S256x256) z2]

/-- The normed keys. -/
theorem keys_eq : kernelRun0_A.sl.r_5 c a3 h3 a5 h5 x1 x3 = nrm (kcol x1) x3 := by
  simp only [kernelRun0_A.sl.r_5, kernelRun0_A.sl.r_1, kernelRun0_A.sl.r_2, kernelRun0_A.sl.r_3, kernelRun0_A.sl.r_4, View.readAt_eq_ld, Memref.IsWhole.read_unread]
  rw [View.ld_unit_zero (S := S256x256) z2, View.ld_unit_zero (S := S1x128) z2]
  rfl

/-- The normed keys' block. -/
theorem out6_eq : out0_A_6 c i a2 h2 a3 h3 a4 h4 a5 h5 a6 h6 a7 h7 a8 h8 a9 h9 a10 h10 a11 h11 x0 x1 x2 x3 x4 = nrm (kcol x1) x3 := by
  unfold out0_A_6 kernelRun0_A
  dsimp only
  rw [View.read_writes_junk_eq_canon]
  refine (View.canon_cons_unit_zero (S := S256x128) z2 _ _ _).trans ?_
  exact keys_eq x1 x3 c a3 h3 a5 h5

/-- The scratch of the queries. -/
theorem HS0_eq : View.canon (kernelRun0_A.sl.HS0_4 c a2 h2 a4 h4 x0 x2) = qAll x0 x2 := by
  simp only [kernelRun0_A.sl.HS0_4, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, View.readAt_eq_ld, Memref.IsWhole.read_unread]
  rw [View.ld_unit_zero (S := S1x128) z2, qcol0, qcol1, qcol2, qcol3]
  exact canon_q x0 x2

theorem q_eq (j : Fin 2) (p : Fin 4) (a b : ℕ) (inb) (ha : a = 128 * j.val) (hb : b = 128 * p.val) :
    a9.view.readCov (kernelRun0_A.sl.HS0_4 c a2 h2 a4 h4 x0 x2) (Rect.unit (s := S256x512) ![a, b] S128x128.size inb).toLoadRect = qBlk x0 x2 j p := by
  rw [View.readCov_eq_canon', HS0_eq]
  exact ld_q x0 x2 j p a b inb ha hb

/-- Two groups' keys (or values), stacked. -/
def stk (u v : FVec F S1x256x128 .bf16) : Vec F S2x256x128 .bf16 := fun y => (if (y 0).val = 0 then u else v) (ix3 0 (y 1) (y 2))

/-- The scratch holds them so. -/
theorem canon_kv (u v : FVec F S1x256x128 .bf16) : View.canon ([⟨Rect.unit (s := S2x256x128) ![1, 0, 0] S1x256x128.size inb_S2x256x128_S1x256x128_1_0_0, v⟩,
    ⟨Rect.unit (s := S2x256x128) ![0, 0, 0] S1x256x128.size inb_S2x256x128_S1x256x128_0_0_0, u⟩] : List (View.Piece (Elt F) S2x256x128 .bf16)) = stk u v := by
  funext y
  refine View.canon_apply_of_pieces (stk u v) _ ?_ y (View.cover_of_tiledBy _ ![1, 256, 128] (by sl_kernel_rfl) y)
  have ex : ∀ x : S1x256x128.Idx, x = ix3 (0 : Fin 1) (⟨0 + 1 * (x 1).val, by have := (x 1).isLt; simp at this; omega⟩ : Fin 256) (⟨0 + 1 * (x 2).val, by have := (x 2).isLt; simp at this; omega⟩ : Fin 128) := by
    intro x; funext a
    have h0 : (x 0).val < 1 := (x 0).isLt
    match a with
    | ⟨0, _⟩ => exact Fin.ext (by show (x 0).val = 0; omega)
    | ⟨1, _⟩ => exact Fin.ext (by show (x 1).val = 0 + 1 * (x 1).val; omega)
    | ⟨2, _⟩ => exact Fin.ext (by show (x 2).val = 0 + 1 * (x 2).val; omega)
  intro pc hpc x
  have h0 : (x 0).val < 1 := by
    rcases List.mem_cons.mp hpc with rfl | hpc
    · exact (x 0).isLt
    rcases List.mem_cons.mp hpc with rfl | hpc
    · exact (x 0).isLt
    simp at hpc
  rcases List.mem_cons.mp hpc with rfl | hpc
  · have e : ¬ (1 + 1 * (x 0).val = 0) := by omega
    exact (congrArg v (ex x)).trans (congrFun (if_neg e).symm _)
  rcases List.mem_cons.mp hpc with rfl | hpc
  · have e : 0 + 1 * (x 0).val = 0 := by omega
    exact (congrArg u (ex x)).trans (congrFun (if_pos e).symm _)
  simp at hpc

/-- Reading the first group back. -/
theorem ld_kv0 (u v : FVec F S1x256x128 .bf16) : View.ld (stk u v) (Rect.unit (s := S2x256x128) ![0, 0, 0] S1x256x128.size inb_S2x256x128_S1x256x128_0_0_0) = u := by
  funext x
  have h0 : (x 0).val < 1 := (x 0).isLt
  have e : 0 + 1 * (x 0).val = 0 := by omega
  refine (congrFun (if_pos e) _).trans (congrArg u ?_)
  funext a
  match a with
  | ⟨0, _⟩ => exact Fin.ext (by show 0 = (x 0).val; omega)
  | ⟨1, _⟩ => exact Fin.ext (by show 0 + 1 * (x 1).val = (x 1).val; omega)
  | ⟨2, _⟩ => exact Fin.ext (by show 0 + 1 * (x 2).val = (x 2).val; omega)

theorem v518_eq : kernelRun0_A.sl.v518 c a3 h3 a5 h5 a10 x1 x3 = half0 (nrm (kcol x1) x3) := by
  have e : k0_pay14 (kernelRun0_A.sl.r_6 c a3 h3 a5 h5 x1 x3) = half0 (nrm (kcol x1) x3) := by
    rw [← keys_eq x1 x3 c a3 h3 a5 h5]; rfl
  unfold kernelRun0_A.sl.v518 kernelRun0_A.sl.HS1_2
  rw [View.readCov_eq_canon', canon_kv]
  exact (ld_kv0 _ _).trans e

theorem v598_eq : kernelRun0_A.sl.v598 c a3 h3 a5 h5 a10 x1 x3 = half1 (nrm (kcol x1) x3) := by
  unfold kernelRun0_A.sl.v598 kernelRun0_A.sl.HS1_2
  refine (View.readCov_cons_toLoadRect _ _ _ _).trans ?_
  rw [keys_eq x1 x3 c a3 h3 a5 h5]; rfl

theorem v533_eq : kernelRun0_A.sl.v533 c a3 h3 a11 x1 = half0 (vcol x1) := by
  unfold kernelRun0_A.sl.v533 kernelRun0_A.sl.HS2_2
  rw [View.readCov_eq_canon', canon_kv, r_eq]
  exact ld_kv0 _ _

theorem v613_eq : kernelRun0_A.sl.v613 c a3 h3 a11 x1 = half1 (vcol x1) := by
  unfold kernelRun0_A.sl.v613 kernelRun0_A.sl.HS2_2
  refine (View.readCov_cons_toLoadRect _ _ _ _).trans ?_
  rw [r_eq]; rfl

theorem v773_eq : kernelRun0_A.sl.v773 c a3 h3 a11 x1 = half1 (vcol x1) := v613_eq x1 c a3 h3 a11

theorem sk_eq (h : Fin 8) (o : ℕ) (inb) (ho : o = h.val) :
    View.readAt (Elt F) a6.view (Rect.unit (s := S8x128) ![o, 0] S1x1.size inb).toLoadRect (h6.unread x4) = sk x4 h := by
  subst ho
  rw [View.readAt_eq_ld, Memref.IsWhole.read_unread]
  funext x
  refine congrArg x4 ?_
  have h0 : (x 0).val < 1 := (x 0).isLt
  have h1 : (x 1).val < 1 := (x 1).isLt
  funext a
  match a with
  | ⟨0, _⟩ => exact Fin.ext (by show h.val + 1 * (x 0).val = h.val; omega)
  | ⟨1, _⟩ => exact Fin.ext (by show 0 + 1 * (x 1).val = 0; omega)

/-- The output of half `j` of a block's rows, of the pair `p` of heads. -/
def oBlk (j : Fin 2) (p : Fin 4) : FVec F S128x128 .f32 :=
  match p with
  | 0 => oLo (qBlk x0 x2 j 0) (qBlk x0 x2 j 1) (half0 (nrm (kcol x1) x3)) (half0 (vcol x1)) (sk x4 0) (sk x4 1) (sk x4 2) (sk x4 3)
  | 1 => oHi (qBlk x0 x2 j 0) (qBlk x0 x2 j 1) (half0 (nrm (kcol x1) x3)) (half0 (vcol x1)) (sk x4 0) (sk x4 1) (sk x4 2) (sk x4 3)
  | 2 => oLo (qBlk x0 x2 j 2) (qBlk x0 x2 j 3) (half1 (nrm (kcol x1) x3)) (half1 (vcol x1)) (sk x4 4) (sk x4 5) (sk x4 6) (sk x4 7)
  | 3 => oHi (qBlk x0 x2 j 2) (qBlk x0 x2 j 3) (half1 (nrm (kcol x1) x3)) (half1 (vcol x1)) (sk x4 4) (sk x4 5) (sk x4 6) (sk x4 7)

/-- A block of the output. -/
def oAll : Vec F S256x512 .f32 := fun y =>
  oBlk x0 x1 x2 x3 x4 ⟨(y 0).val / 128, by have := (y 0).isLt; simp at this; omega⟩ ⟨(y 1).val / 128, by have := (y 1).isLt; simp at this; omega⟩
    (ix2 ⟨(y 0).val % 128, by omega⟩ ⟨(y 1).val % 128, by omega⟩)

theorem oAll_emb (j : Fin 2) (p : Fin 4) (a b : ℕ) (inb) (ha : a = 128 * j.val) (hb : b = 128 * p.val) (x : S128x128.Idx) :
    oBlk x0 x1 x2 x3 x4 j p x = oAll x0 x1 x2 x3 x4 ((Rect.unit (s := S256x512) ![a, b] S128x128.size inb).emb x) := by
  subst ha hb
  have h1 : (x 1).val < 128 := (x 1).isLt
  have h0 : (x 0).val < 128 := (x 0).isLt
  unfold oAll
  have ej : j = ⟨(128 * j.val + 1 * (x 0).val) / 128, by omega⟩ := Fin.ext (by show j.val = (128 * j.val + 1 * (x 0).val) / 128; omega)
  have ep : p = ⟨(128 * p.val + 1 * (x 1).val) / 128, by omega⟩ := Fin.ext (by show p.val = (128 * p.val + 1 * (x 1).val) / 128; omega)
  have ex : x = ix2 (⟨(128 * j.val + 1 * (x 0).val) % 128, by omega⟩ : Fin 128) (⟨(128 * p.val + 1 * (x 1).val) % 128, by omega⟩ : Fin 128) := by
    funext a
    match a with
    | ⟨0, _⟩ => exact Fin.ext (by show (x 0).val = (128 * j.val + 1 * (x 0).val) % 128; omega)
    | ⟨1, _⟩ => exact Fin.ext (by show (x 1).val = (128 * p.val + 1 * (x 1).val) % 128; omega)
  refine (congrArg (oBlk x0 x1 x2 x3 x4 j p) ex).trans ?_
  exact (congrArg (fun j' => oBlk x0 x1 x2 x3 x4 j' p _) ej).trans (congrArg (fun p' => oBlk x0 x1 x2 x3 x4 _ p' _) ep)

/-- The block of the output. -/
theorem out5_eq : out0_A_5 c i a2 h2 a3 h3 a4 h4 a5 h5 a6 h6 a7 h7 a8 h8 a9 h9 a10 h10 a11 h11 x0 x1 x2 x3 x4 = oAll x0 x1 x2 x3 x4 := by
  have q00 : kernelRun0_A.sl.v470 c a2 h2 a4 h4 a9 x0 x2 = qBlk x0 x2 0 0 := q_eq x0 x2 c a2 h2 a4 h4 a9 0 0 0 0 inb_S256x512_S128x128_0_0 rfl rfl
  have q01 : kernelRun0_A.sl.v479 c a2 h2 a4 h4 a9 x0 x2 = qBlk x0 x2 0 1 := q_eq x0 x2 c a2 h2 a4 h4 a9 0 1 0 128 inb_S256x512_S128x128_0_128 rfl rfl
  have q02 : kernelRun0_A.sl.v550 c a2 h2 a4 h4 a9 x0 x2 = qBlk x0 x2 0 2 := q_eq x0 x2 c a2 h2 a4 h4 a9 0 2 0 256 inb_S256x512_S128x128_0_256 rfl rfl
  have q03 : kernelRun0_A.sl.v559 c a2 h2 a4 h4 a9 x0 x2 = qBlk x0 x2 0 3 := q_eq x0 x2 c a2 h2 a4 h4 a9 0 3 0 384 inb_S256x512_S128x128_0_384 rfl rfl
  have q10 : kernelRun0_A.sl.v630 c a2 h2 a4 h4 a9 x0 x2 = qBlk x0 x2 1 0 := q_eq x0 x2 c a2 h2 a4 h4 a9 1 0 128 0 inb_S256x512_S128x128_128_0 rfl rfl
  have q11 : kernelRun0_A.sl.v639 c a2 h2 a4 h4 a9 x0 x2 = qBlk x0 x2 1 1 := q_eq x0 x2 c a2 h2 a4 h4 a9 1 1 128 128 inb_S256x512_S128x128_128_128 rfl rfl
  have q12 : kernelRun0_A.sl.v710 c a2 h2 a4 h4 a9 x0 x2 = qBlk x0 x2 1 2 := q_eq x0 x2 c a2 h2 a4 h4 a9 1 2 128 256 inb_S256x512_S128x128_128_256 rfl rfl
  have q13 : kernelRun0_A.sl.v719 c a2 h2 a4 h4 a9 x0 x2 = qBlk x0 x2 1 3 := q_eq x0 x2 c a2 h2 a4 h4 a9 1 3 128 384 inb_S256x512_S128x128_128_384 rfl rfl
  have s0 := sk_eq x4 a6 h6 0 0 inb_S8x128_S1x1_0_0 rfl
  have s1 := sk_eq x4 a6 h6 1 1 inb_S8x128_S1x1_1_0 rfl
  have s2 := sk_eq x4 a6 h6 2 2 inb_S8x128_S1x1_2_0 rfl
  have s3 := sk_eq x4 a6 h6 3 3 inb_S8x128_S1x1_3_0 rfl
  have s4 := sk_eq x4 a6 h6 4 4 inb_S8x128_S1x1_4_0 rfl
  have s5 := sk_eq x4 a6 h6 5 5 inb_S8x128_S1x1_5_0 rfl
  have s6 := sk_eq x4 a6 h6 6 6 inb_S8x128_S1x1_6_0 rfl
  have s7 := sk_eq x4 a6 h6 7 7 inb_S8x128_S1x1_7_0 rfl
  unfold out0_A_5 kernelRun0_A
  dsimp only
  rw [View.read_writes_junk_eq_canon]
  funext y
  refine View.canon_apply_of_pieces (oAll x0 x1 x2 x3 x4) _ ?_ y (View.cover_of_tiledBy _ ![128, 128] (by sl_kernel_rfl) y)
  intro pc hpc x
  rcases List.mem_cons.mp hpc with rfl | hpc
  · refine Eq.trans ?_ (oAll_emb x0 x1 x2 x3 x4 1 3 128 384 inb_S256x512_S128x128_128_384 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q12, q13, v598_eq, v613_eq, v773_eq, s4, s5, s6, s7]
    rfl
  rcases List.mem_cons.mp hpc with rfl | hpc
  · refine Eq.trans ?_ (oAll_emb x0 x1 x2 x3 x4 1 2 128 256 inb_S256x512_S128x128_128_256 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q12, q13, v598_eq, v613_eq, v773_eq, s4, s5, s6, s7]
    rfl
  rcases List.mem_cons.mp hpc with rfl | hpc
  · refine Eq.trans ?_ (oAll_emb x0 x1 x2 x3 x4 1 1 128 128 inb_S256x512_S128x128_128_128 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q10, q11, v518_eq, v533_eq, s0, s1, s2, s3]
    rfl
  rcases List.mem_cons.mp hpc with rfl | hpc
  · refine Eq.trans ?_ (oAll_emb x0 x1 x2 x3 x4 1 0 128 0 inb_S256x512_S128x128_128_0 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q10, q11, v518_eq, v533_eq, s0, s1, s2, s3]
    rfl
  rcases List.mem_cons.mp hpc with rfl | hpc
  · refine Eq.trans ?_ (oAll_emb x0 x1 x2 x3 x4 0 3 0 384 inb_S256x512_S128x128_0_384 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q02, q03, v598_eq, v613_eq, v773_eq, s4, s5, s6, s7]
    rfl
  rcases List.mem_cons.mp hpc with rfl | hpc
  · refine Eq.trans ?_ (oAll_emb x0 x1 x2 x3 x4 0 2 0 256 inb_S256x512_S128x128_0_256 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q02, q03, v598_eq, v613_eq, v773_eq, s4, s5, s6, s7]
    rfl
  rcases List.mem_cons.mp hpc with rfl | hpc
  · refine Eq.trans ?_ (oAll_emb x0 x1 x2 x3 x4 0 1 0 128 inb_S256x512_S128x128_0_128 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q00, q01, v518_eq, v533_eq, s0, s1, s2, s3]
    rfl
  rcases List.mem_cons.mp hpc with rfl | hpc
  · refine Eq.trans ?_ (oAll_emb x0 x1 x2 x3 x4 0 0 0 0 inb_S256x512_S128x128_0_0 rfl rfl x)
    refine congrFun ?_ x
    dsimp only
    simp only [kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, q00, q01, v518_eq, v533_eq, s0, s1, s2, s3]
    rfl
  simp at hpc

end Cert.At

end
-- ==== Proof.AttnBlockVal.lean ====
/-
  The attention kernel's block, head by head: the softmax of the head's scores.
-/
module

public import proofs.«01_k».proof.Proof.AttnBlock
public import proofs.«01_k».proof.Proof.AttnMath

@[expose] public section

set_option maxRecDepth 16384

noncomputable section

namespace Cert.At

open Idealize.ShloMosaic Idealize.ShloMosaic.TcCoe Cert.AttnIdeal Cert.AttnIdeal.Gen

variable (x0 : Vec Ideal S256x512 .f32) (x1 : Vec Ideal S256x256 .f32) (x2 x3 : Vec Ideal S1x128 .f32) (x4 : Vec Ideal S8x128 .f32)

/-- Group `g`'s keys or values, in both halves of the lanes. -/
def hfG (g : Fin 2) (y : FVec Ideal S256x128 .f32) : FVec Ideal S1x256x128 .bf16 := match g with | 0 => half0 y | 1 => half1 y

theorem hfG_apply (g : Fin 2) (y : FVec Ideal S256x128 .f32) (u : Fin 256) (l : Fin 128) : hfG g y (ix3 0 u l) = y (ix2 u (ln g ⟨l.val % 64, by omega⟩)) := by
  match g with
  | 0 => exact (half0_apply y u l).trans (congrArg (fun q => y (ix2 u q)) (Fin.ext (by show l.val % 64 = 64 * 0 + l.val % 64; omega)))
  | 1 => exact (half1_apply y u l).trans (congrArg (fun q => y (ix2 u q)) (Fin.ext (by show 64 + l.val % 64 = 64 * 1 + l.val % 64; omega)))

def pr (g b : Fin 2) : Fin 4 := ⟨2 * g.val + b.val, by omega⟩
def h8 (g : Fin 2) (j : Fin 4) : Fin 8 := ⟨4 * g.val + j.val, by omega⟩

/-- The scores and the sinks of a group's four heads, stacked. -/
def scrG (j : Fin 2) (g : Fin 2) : FVec Ideal S512x256 .f32 := scr (qBlk x0 x2 j (pr g 0)) (qBlk x0 x2 j (pr g 1)) (hfG g (nrm (kcol x1) x3))
def snkG (g : Fin 2) : FVec Ideal S512x1 .f32 := snk (sk x4 (h8 g 0)) (sk x4 (h8 g 1)) (sk x4 (h8 g 2)) (sk x4 (h8 g 3))

theorem oBlk_eq (j g b : Fin 2) (a l : Fin 128) : oBlk x0 x1 x2 x3 x4 j (pr g b) (ix2 a l)
    = k0_pay56 (snkG x4 g) (scrG x0 x1 x2 x3 j g) (hfG g (vcol x1)) (ix2 (rw4 ⟨2 * b.val + l.val / 64, by omega⟩ a) l) := by
  have e : ∀ h, (⟨2 * 0 + l.val / 64, h⟩ : Fin 4) = ⟨l.val / 64, by omega⟩ := fun _ => Fin.ext (by show 2 * 0 + l.val / 64 = l.val / 64; omega)
  match g, b with
  | 0, 0 => exact (lo_apply _ _ _ a l).trans (congrArg (fun q => k0_pay56 (snkG x4 0) (scrG x0 x1 x2 x3 j 0) (hfG 0 (vcol x1)) (ix2 (rw4 q a) l)) (e _).symm)
  | 0, 1 => exact hi_apply _ _ _ a l
  | 1, 0 => exact (lo_apply _ _ _ a l).trans (congrArg (fun q => k0_pay56 (snkG x4 1) (scrG x0 x1 x2 x3 j 1) (hfG 1 (vcol x1)) (ix2 (rw4 q a) l)) (e _).symm)
  | 1, 1 => exact hi_apply _ _ _ a l

theorem snkG_apply (g : Fin 2) (j : Fin 4) (a : Fin 128) : snkG x4 g (ix2 (rw4 j a) 0) = x4 (ix2 (h8 g j) 0) := by
  unfold snkG
  rw [snk_apply]
  fin_cases j <;> rfl

/-- The two heads of a pair. -/
def par (j : Fin 4) : Fin 2 := ⟨j.val % 2, by omega⟩
def hlf (j : Fin 4) : Fin 2 := ⟨j.val / 2, by omega⟩

/-- Column `d` of head `j` of group `g`. -/
def hcol (g : Fin 2) (j : Fin 4) (d : Fin 64) : Fin 512 := ⟨64 * (h8 g j).val + d.val, by omega⟩
/-- Row `a` of half `jj`. -/
def hrow (jj : Fin 2) (a : Fin 128) : Fin 256 := ⟨128 * jj.val + a.val, by omega⟩

variable {Q K : Fin 64 → EReal}

theorem qBlk_apply (hq : ∀ r l, IsR (x0 (ix2 r l))) (hQ : ∀ e d, x2 (ix2 0 (ln e d)) = Q d) (jj g : Fin 2) (j : Fin 4) (a : Fin 128) (d : Fin 64) :
    qBlk x0 x2 jj (pr g (hlf j)) (ix2 a (ln (par j) d)) = nrmE (fun k => x0 (ix2 (hrow jj a) (hcol g j k))) Q d * Ideal.ofBits .f32 0x3E000000#32 := by
  refine (qry_apply (qcol x0 (pr g (hlf j))) x2 (hrow jj a) (ln (par j) d)).trans ?_
  rw [nrm_real _ _ _ _ _ (fun l => hq _ _)]
  refine congrArg (· * _) ?_
  have e1 : (fun k => qcol x0 (pr g (hlf j)) (ix2 (hrow jj a) (ln (par j) k))) = fun k => x0 (ix2 (hrow jj a) (hcol g j k)) := by
    funext k
    refine congrArg (fun q => x0 (ix2 (hrow jj a) q)) (Fin.ext ?_)
    show 128 * (2 * g.val + j.val / 2) + (64 * (j.val % 2) + k.val) = 64 * (4 * g.val + j.val) + k.val
    omega
  have e2 : (fun k => x2 (ix2 0 (ln (par j) k))) = Q := funext fun k => hQ _ k
  rw [e1, e2]

theorem keys_apply (hk : ∀ u l, IsR (kcol x1 (ix2 u l))) (hK : ∀ e d, x3 (ix2 0 (ln e d)) = K d) (g : Fin 2) (u : Fin 256) (d : Fin 64) :
    nrm (kcol x1) x3 (ix2 u (ln g d)) = nrmE (fun k => kcol x1 (ix2 u (ln g k))) K d := by
  rw [nrm_real _ _ _ _ _ (fun l => hk u l)]
  rw [show (fun k => x3 (ix2 0 (ln g k))) = K from funext fun k => hK g k]

theorem scrG_apply (hq : ∀ r l, IsR (x0 (ix2 r l))) (hk : ∀ u l, IsR (kcol x1 (ix2 u l))) (hQ : ∀ e d, x2 (ix2 0 (ln e d)) = Q d) (hK : ∀ e d, x3 (ix2 0 (ln e d)) = K d)
    (jj g : Fin 2) (j : Fin 4) (a : Fin 128) (u : Fin 256) : scrG x0 x1 x2 x3 jj g (ix2 (rw4 j a) u)
      = (∑ d : Fin 64, nrmE (fun k => kcol x1 (ix2 u (ln g k))) K d * nrmE (fun k => x0 (ix2 (hrow jj a) (hcol g j k))) Q d) * Ideal.ofBits .f32 0x3E000000#32 := by
  unfold scrG
  rw [scr_apply, ← scale_sum]
  have e : ∀ l : Fin 128, stack4 k0_pay50 (qBlk x0 x2 jj (pr g 0)) (qBlk x0 x2 jj (pr g 1)) (ix2 (rw4 j a) l) * hfG g (nrm (kcol x1) x3) (ix3 0 u l)
      = if l.val / 64 = (par j).val then qBlk x0 x2 jj (pr g (hlf j)) (ix2 a l) * hfG g (nrm (kcol x1) x3) (ix3 0 u l) else 0 := by
    intro l
    rw [stack4_apply, ite_mul, zero_mul]
    have e' : (if j.val < 2 then qBlk x0 x2 jj (pr g 0) else qBlk x0 x2 jj (pr g 1)) = qBlk x0 x2 jj (pr g (hlf j)) := by
      fin_cases j <;> rfl
    rw [e']; rfl
  rw [Finset.sum_congr rfl fun l _ => e l, sum_head (fun l => qBlk x0 x2 jj (pr g (hlf j)) (ix2 a l) * hfG g (nrm (kcol x1) x3) (ix3 0 u l)) (par j)]
  refine Finset.sum_congr rfl fun d _ => ?_
  rw [qBlk_apply x0 x2 hq hQ, hfG_apply]
  have el : (⟨(ln (par j) d).val % 64, by omega⟩ : Fin 64) = d := Fin.ext (by show (64 * (par j).val + d.val) % 64 = d.val; omega)
  rw [el, keys_apply x1 x3 hk hK]

/-- A lane of a head of the block of the output. -/
theorem oAll_apply (hq : ∀ r l, IsR (x0 (ix2 r l))) (hk : ∀ u l, IsR (kcol x1 (ix2 u l))) (hQ : ∀ e d, x2 (ix2 0 (ln e d)) = Q d) (hK : ∀ e d, x3 (ix2 0 (ln e d)) = K d)
    (r : Fin 256) (g : Fin 2) (j : Fin 4) (d : Fin 64) : oAll x0 x1 x2 x3 x4 (ix2 r (hcol g j d))
      = att (fun u => (∑ d : Fin 64, nrmE (fun k => kcol x1 (ix2 u (ln g k))) K d * nrmE (fun k => x0 (ix2 r (hcol g j k))) Q d) * Ideal.ofBits .f32 0x3E000000#32)
        (x4 (ix2 (h8 g j) 0)) (fun u => vcol x1 (ix2 u (ln g d))) := by
  have e0 : oAll x0 x1 x2 x3 x4 (ix2 r (hcol g j d)) = oBlk x0 x1 x2 x3 x4 ⟨r.val / 128, by omega⟩ (pr g (hlf j)) (ix2 ⟨r.val % 128, by omega⟩ (ln (par j) d)) := by
    have ep : (⟨(hcol g j d).val / 128, by omega⟩ : Fin 4) = pr g (hlf j) := Fin.ext (by show (64 * (4 * g.val + j.val) + d.val) / 128 = 2 * g.val + j.val / 2; omega)
    have el : (⟨(hcol g j d).val % 128, by omega⟩ : Fin 128) = ln (par j) d := Fin.ext (by show (64 * (4 * g.val + j.val) + d.val) % 128 = 64 * (j.val % 2) + d.val; omega)
    exact (congrArg (fun p => oBlk x0 x1 x2 x3 x4 ⟨r.val / 128, by omega⟩ p (ix2 ⟨r.val % 128, by omega⟩ ⟨(hcol g j d).val % 128, by omega⟩)) ep).trans
      (congrArg (fun l => oBlk x0 x1 x2 x3 x4 ⟨r.val / 128, by omega⟩ (pr g (hlf j)) (ix2 ⟨r.val % 128, by omega⟩ l)) el)
  rw [e0, oBlk_eq]
  have ej : (⟨2 * (hlf j).val + (ln (par j) d).val / 64, by omega⟩ : Fin 4) = j :=
    Fin.ext (by show 2 * (j.val / 2) + (64 * (j.val % 2) + d.val) / 64 = j.val; omega)
  rw [ej, quot_row, snkG_apply]
  have er : hrow ⟨r.val / 128, by omega⟩ ⟨r.val % 128, by omega⟩ = r := Fin.ext (by show 128 * (r.val / 128) + r.val % 128 = r.val; omega)
  have ed : (⟨(ln (par j) d).val % 64, by omega⟩ : Fin 64) = d := Fin.ext (by show (64 * (par j).val + d.val) % 64 = d.val; omega)
  have es := fun u => scrG_apply x0 x1 x2 x3 hq hk hQ hK ⟨r.val / 128, by omega⟩ g j ⟨r.val % 128, by omega⟩ u
  rw [er] at es
  have ev := fun u => hfG_apply g (vcol x1) u (ln (par j) d)
  rw [ed] at ev
  rw [funext es, funext ev]

end Cert.At

end
-- ==== Proof.AttnArray.lean ====
/-
  What the attention kernel's result arrays hold after the run.
-/
module

public import proofs.«01_k».proof.Proof.AttnBlockVal
public import proofs.«01_k».proof.Proof.InArray
public import proofs.«01_k».proof.Proof.Gen.AttnIdeal.Value

@[expose] public section

set_option maxRecDepth 16384

noncomputable section

namespace Cert.At

open Idealize.ShloMosaic Idealize.ShloMosaic.TcCoe Idealize.SL.Sem Cert.AttnIdeal Cert.AttnIdeal.Gen
open Cert.In (ix2_of)

variable (m : (ℓ : Loc nD τ sig) → Buf (Elt Ideal) ℓ) (c : Dev nD)

/-- The arguments on core `c`. -/
abbrev aZ : FVec Ideal S8192x6144 .f32 := m ((c : Thread nD τ).loc main_arg0)
abbrev aQ : FVec Ideal S64 .f32 := m ((c : Thread nD τ).loc main_arg1)
abbrev aK : FVec Ideal S64 .f32 := m ((c : Thread nD τ).loc main_arg2)
abbrev aS : FVec Ideal S8 .f32 := m ((c : Thread nD τ).loc main_arg3)

/-- The arrays the launch finds: each gain twice in 128 lanes, and the sinks along the lanes. -/
abbrev vQ : FVec Ideal S1x128 .f32 := V m c main_v3
abbrev vK : FVec Ideal S1x128 .f32 := V m c main_v7
abbrev vS : FVec Ideal S8x128 .f32 := V m c main_v9

def twice (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

theorem V_q : V m c main_v3 = twice (aQ m c) := by
  show StableHlo.after _ _ _ = _
  simp only [List.flatten_cons, List.flatten_nil, List.append_nil, List.cons_append, List.nil_append, StableHlo.after_cons, StableHlo.after_nil]
  rfl
theorem V_k : V m c main_v7 = twice (aK m c) := by
  show StableHlo.after _ _ _ = _
  simp only [List.flatten_cons, List.flatten_nil, List.append_nil, List.cons_append, List.nil_append, StableHlo.after_cons, StableHlo.after_nil]
  rfl
theorem V_s : V m c main_v9 = broadcastInDim S8x128 ![0, 1] bcast_S8x1_S8x128_0_1 (broadcastInDim S8x1 ![0] bcast_S8_S8x1_0 (aS m c)) := by
  show StableHlo.after _ _ _ = _
  simp only [List.flatten_cons, List.flatten_nil, List.append_nil, List.cons_append, List.nil_append, StableHlo.after_cons, StableHlo.after_nil]
  rfl

theorem twice_apply (g : FVec Ideal S64 .f32) (e : Fin 2) (d : Fin 64) : twice g (ix2 0 (ln e d)) = g (ix1 d) := by
  have h : ∀ l : Fin 128, twice g (ix2 0 l) = g (ix1 ⟨l.val % 64, by omega⟩) := by
    intro l
    pointwise [twice]
  exact (h _).trans (congrArg (fun q => g (ix1 q)) (Fin.ext (by show (64 * e.val + d.val) % 64 = d.val; omega)))

theorem s_apply (h : Fin 8) (l : Fin 128) : vS m c (ix2 h l) = aS m c (ix1 h) := by
  show V m c main_v9 _ = _
  rw [V_s]
  pointwise []

theorem idx0 : ∀ t : Fin cfg0.N, win0_0.index t = ![t.val, 10] := (by decide +kernel : ∀ t : Fin grid0.N, _)
theorem idx1 : ∀ t : Fin cfg0.N, win0_1.index t = ![t.val, 22] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Row `r` of point `t`'s block. -/
def row (t : Fin cfg0.N) (r : Fin 256) : Fin 8192 := ⟨256 * t.val + r.val, by have h : t.val < 32 := lt_of_lt_of_eq t.isLt N_0; omega⟩

variable (t : Fin cfg0.N) (r : Fin 256)

/-- What a point reads. -/
abbrev b0 : Vec Ideal S256x512 .f32 := iblk m c 0 t
abbrev b1 : Vec Ideal S256x256 .f32 := iblk m c 1 t
abbrev b2 : Vec Ideal S1x128 .f32 := iblk m c 2 t
abbrev b3 : Vec Ideal S1x128 .f32 := iblk m c 3 t
abbrev b4 : Vec Ideal S8x128 .f32 := iblk m c 4 t

theorem b0_apply (q : Fin 512) : b0 m c t (ix2 r q) = aZ m c (ix2 (row t r) ⟨5120 + q.val, by omega⟩) := by
  show V m c main_arg0 ((win0_0.rect t).emb _) = _
  rw [V_main_arg0]
  refine congrArg (aZ m c) (ix2_of ((win0_0.rect t).emb (ix2 r q)) _ _ ?_ ?_)
  · show win0_0.index t 0 * 256 + 1 * r.val = 256 * t.val + r.val
    rw [idx0]
    show t.val * 256 + 1 * r.val = 256 * t.val + r.val
    omega
  · show win0_0.index t 1 * 512 + 1 * q.val = 5120 + q.val
    rw [idx0]
    show 10 * 512 + 1 * q.val = 5120 + q.val
    omega

theorem b1_apply (q : Fin 256) : b1 m c t (ix2 r q) = aZ m c (ix2 (row t r) ⟨5632 + q.val, by omega⟩) := by
  show V m c main_arg0 ((win0_1.rect t).emb _) = _
  rw [V_main_arg0]
  refine congrArg (aZ m c) (ix2_of ((win0_1.rect t).emb (ix2 r q)) _ _ ?_ ?_)
  · show win0_1.index t 0 * 256 + 1 * r.val = 256 * t.val + r.val
    rw [idx1]
    show t.val * 256 + 1 * r.val = 256 * t.val + r.val
    omega
  · show win0_1.index t 1 * 256 + 1 * q.val = 5632 + q.val
    rw [idx1]
    show 22 * 256 + 1 * q.val = 5632 + q.val
    omega

theorem b2_apply (e : Fin 2) (d : Fin 64) : b2 m c t (ix2 0 (ln e d)) = aQ m c (ix1 d) := by
  refine Eq.trans ?_ (twice_apply (aQ m c) e d)
  show V m c main_v3 ((win0_2.rect t).emb _) = _
  rw [V_q]
  refine congrArg (twice (aQ m c)) (ix2_of ((win0_2.rect t).emb (ix2 0 (ln e d))) _ _ ?_ ?_)
  · show win0_2.index t 0 * 1 + 1 * 0 = 0
    rw [idx2]; rfl
  · show win0_2.index t 1 * 128 + 1 * (ln e d).val = (ln e d).val
    rw [idx2]
    show 0 * 128 + 1 * (ln e d).val = (ln e d).val
    omega

theorem b3_apply (e : Fin 2) (d : Fin 64) : b3 m c t (ix2 0 (ln e d)) = aK m c (ix1 d) := by
  refine Eq.trans ?_ (twice_apply (aK m c) e d)
  show V m c main_v7 ((win0_3.rect t).emb _) = _
  rw [V_k]
  refine congrArg (twice (aK m c)) (ix2_of ((win0_3.rect t).emb (ix2 0 (ln e d))) _ _ ?_ ?_)
  · show win0_3.index t 0 * 1 + 1 * 0 = 0
    rw [idx3]; rfl
  · show win0_3.index t 1 * 128 + 1 * (ln e d).val = (ln e d).val
    rw [idx3]
    show 0 * 128 + 1 * (ln e d).val = (ln e d).val
    omega

theorem b4_apply (h : Fin 8) : b4 m c t (ix2 h 0) = aS m c (ix1 h) := by
  refine Eq.trans ?_ (s_apply m c h 0)
  refine congrArg (vS m c) (ix2_of ((win0_4.rect t).emb (ix2 h 0)) _ _ ?_ ?_)
  · show win0_4.index t 0 * 8 + 1 * h.val = h.val
    rw [idx4]
    show 0 * 8 + 1 * h.val = h.val
    omega
  · show win0_4.index t 1 * 128 + 1 * 0 = 0
    rw [idx4]; rfl

/-- A block of 256 rows and `k` columns at point `t`: the array's rows. -/
theorem rows_emb {k : ℕ} (q : Fin k) (e : (⟨2, ![8192, k]⟩ : Shape).Idx) (i : Fin 2 → ℕ) (hi : i = ![t.val, 0])
    (h0 : (e 0).val = i 0 * 256 + 1 * r.val) (h1 : (e 1).val = i 1 * k + 1 * q.val) : e = ix2 (row t r) q := by
  subst hi
  refine ix2_of _ _ _ (h0.trans ?_) (h1.trans ?_)
  · show t.val * 256 + 1 * r.val = 256 * t.val + r.val
    omega
  · show 0 * k + 1 * q.val = q.val
    omega

/-- The output after the run, at a row of point `t`'s block, -/
theorem out5_at (n : Fin 512) : (dats m 0 c).arrAt 5 cfg0.N (ix2 (row t r) n) = oAll (b0 m c t) (b1 m c t) (b2 m c t) (b3 m c t) (b4 m c t) (ix2 r n) := by
  have e := Cert.AttnIdeal.Value.blocks5 m c t (flush0_5 _)
  rw [Cert.AttnIdeal.Value.flushed5_A] at e
  refine Eq.trans ?_ ((congrFun e (ix2 r n)).trans (congrFun (by exact out5_eq (b0 m c t) (b1 m c t) (b2 m c t) (b3 m c t) (b4 m c t) ..) (ix2 r n)))
  exact congrArg ((dats m 0 c).arrAt 5 cfg0.N) (rows_emb t r n ((win0_5.rect t).emb (ix2 r n)) _ (idx5 t) rfl rfl).symm

/-- and the normed keys. -/
theorem out6_at (n : Fin 128) : (dats m 0 c).arrAt 6 cfg0.N (ix2 (row t r) n) = nrm (kcol (b1 m c t)) (b3 m c t) (ix2 r n) := by
  have e := Cert.AttnIdeal.Value.blocks6 m c t (flush0_6 _)
  rw [Cert.AttnIdeal.Value.flushed6_A] at e
  refine Eq.trans ?_ ((congrFun e (ix2 r n)).trans (congrFun (by exact out6_eq (b0 m c t) (b1 m c t) (b2 m c t) (b3 m c t) (b4 m c t) ..) (ix2 r n)))
  exact congrArg ((dats m 0 c).arrAt 6 cfg0.N) (rows_emb t r n ((win0_6.rect t).emb (ix2 r n)) _ (idx6 t) rfl rfl).symm

end Cert.At

end
-- ==== Proof.AttnRef.lean ====
/-
  The attention's reference, read at an index.
-/
module

public import proofs.«01_k».proof.Proof.Gen.AttnRefIdeal.Read
public import proofs.«01_k».proof.Proof.AttnMath

@[expose] public section

set_option maxRecDepth 16384

noncomputable section

namespace Cert.At.Ref

open Idealize.ShloMosaic Idealize.ShloMosaic.TcCoe Cert.AttnRefIdeal Cert.AttnRefIdeal.Gen Cert.AttnRefIdeal.Read

variable (X : FVec Ideal S8192x6144 .f32) (QG KG : FVec Ideal S64 .f32) (SK : FVec Ideal S8 .f32)

/-- Token `t` of sequence `s`, and the columns of the queries', the keys' and the values' heads. -/
def st (s : Fin 32) (t : Fin 256) : Fin 8192 := ⟨256 * s.val + t.val, by omega⟩
def qc (h : Fin 8) (d : Fin 64) : Fin 6144 := ⟨5120 + (64 * h.val + d.val), by omega⟩
def kc (g : Fin 2) (d : Fin 64) : Fin 6144 := ⟨5632 + (64 * g.val + d.val), by omega⟩
def vc (g : Fin 2) (d : Fin 64) : Fin 6144 := ⟨5760 + (64 * g.val + d.val), by omega⟩
/-- Head `j` of group `g`. -/
def hd (g : Fin 2) (j : Fin 4) : Fin 8 := ⟨4 * g.val + j.val, by omega⟩

theorem q_apply (s : Fin 32) (t : Fin 256) (h : Fin 8) (d : Fin 64) : val_main_v2 (F := Ideal) X (ix4 s t h d) = X (ix2 (st s t) (qc h d)) := by
  pointwise [val_main_v2, val_main_v1, val_main_v0, st, qc]
  simp only [Nat.mul_comm]
theorem k_apply (s : Fin 32) (t : Fin 256) (g : Fin 2) (d : Fin 64) : val_main_v4 (F := Ideal) X (ix4 s t g d) = X (ix2 (st s t) (kc g d)) := by
  pointwise [val_main_v4, val_main_v3, val_main_v0, st, kc]
  simp only [Nat.mul_comm]
theorem v_apply (s : Fin 32) (t : Fin 256) (g : Fin 2) (d : Fin 64) : val_main_v6 (F := Ideal) X (ix4 s t g d) = X (ix2 (st s t) (vc g d)) := by
  pointwise [val_main_v6, val_main_v5, val_main_v0, st, vc]
  simp only [Nat.mul_comm]

/-- The queries' norm, -/
theorem qa_apply (s : Fin 32) (t : Fin 256) (h : Fin 8) (d : Fin 64) : val_main_v19 (F := Ideal) X QG (ix4 s t h d)
    = nrmE (fun k => X (ix2 (st s t) (qc h k))) (fun k => QG (ix1 k)) d := by
  have e := q_apply X
  generalize hv : val_main_v2 (F := Ideal) X = v at e
  unfold nrmE
  simp only [← e s t h]
  pointwise [val_main_v19, val_main_v18, val_main_v17, val_main_v16, val_main_v15, val_main_v14, val_main_v13, val_main_v12, val_main_v11, val_main_v10, val_main_v9, val_main_v8, val_main_v7, val_main_cst, val_main_cst_0, val_main_cst_1, hv]

/-- and the keys'. -/
theorem ka_apply (s : Fin 32) (t : Fin 256) (g : Fin 2) (d : Fin 64) : val_main_v32 (F := Ideal) X KG (ix4 s t g d)
    = nrmE (fun k => X (ix2 (st s t) (kc g k))) (fun k => KG (ix1 k)) d := by
  have e := k_apply X
  generalize hv : val_main_v4 (F := Ideal) X = v at e
  unfold nrmE
  simp only [← e s t g]
  pointwise [val_main_v32, val_main_v31, val_main_v30, val_main_v29, val_main_v28, val_main_v27, val_main_v26, val_main_v25, val_main_v24, val_main_v23, val_main_v22, val_main_v21, val_main_v20, val_main_cst_2, val_main_cst_3, val_main_cst_4, hv]

/-- The second result. -/
theorem out1_apply (s : Fin 32) (t : Fin 256) (g : Fin 2) (d : Fin 64) : val_main_v58 (F := Ideal) X KG (ix2 (st s t) ⟨64 * g.val + d.val, by omega⟩)
    = val_main_v32 (F := Ideal) X KG (ix4 s t g d) := by
  generalize hv : val_main_v32 (F := Ideal) X KG = v
  pointwise [val_main_v58, hv, st]

theorem qg_apply (s : Fin 32) (t : Fin 256) (g : Fin 2) (j : Fin 4) (d : Fin 64) : val_main_v33 (F := Ideal) X QG (ix5 s t g j d)
    = val_main_v19 (F := Ideal) X QG (ix4 s t (hd g j) d) := by
  generalize hv : val_main_v19 (F := Ideal) X QG = v
  pointwise [val_main_v33, hv, hd]
  simp only [Nat.mul_comm]

/-- The scores. -/
theorem s_apply (s : Fin 32) (g : Fin 2) (j : Fin 4) (t u : Fin 256) : val_main_v37 (F := Ideal) X QG KG (ix5 s g j t u)
    = (∑ d : Fin 64, val_main_v32 (F := Ideal) X KG (ix4 s u g d) * val_main_v33 (F := Ideal) X QG (ix5 s t g j d)) * Ideal.ofBits .f32 0x3E000000#32 := by
  generalize hv : val_main_v32 (F := Ideal) X KG = v
  generalize hw : val_main_v33 (F := Ideal) X QG = w
  pointwise [val_main_v37, val_main_v36, val_main_cst_5, val_main_v35, val_main_v34, hv, hw]

theorem sk_apply (g : Fin 2) (j : Fin 4) : val_main_v39 (F := Ideal) SK (ix5 0 g j 0 0) = SK (ix1 (hd g j)) := by
  pointwise [val_main_v39, val_main_v38, hd]
  simp only [Nat.mul_comm]

theorem reduces : S32x2x4x256x256.Reduces [4] S32x2x4x256 := by decide

theorem m_apply (s : Fin 32) (g : Fin 2) (j : Fin 4) (t : Fin 256) : val_main_v40 (F := Ideal) X QG KG (ix4 s g j t)
    = (Finset.univ : Finset (Fin 256)).fold max (Ideal.ofBits .f32 0xFF800000#32) fun u => val_main_v37 (F := Ideal) X QG KG (ix5 s g j t u) := by
  unfold val_main_v40
  generalize val_main_v37 (F := Ideal) X QG KG = v
  refine (Host.reduce_eq_fold_single (FloatOps.maximumf (F := Ideal) (φ := .f32)) v _ _ reduces _ _).trans ?_
  have hf : (v ∘ reduces.lift (ix4 s g j t)) = fun k : Fin 256 => v (ix5 s g j t k) := by
    funext k
    refine congrArg v ?_
    funext c; apply Fin.ext
    fin_cases c <;> rfl
  exact congrArg (fun f => Finset.fold max (Ideal.ofBits .f32 0xFF800000#32) f (Finset.univ : Finset (Fin 256))) hf

theorem topa (m : FVec Ideal S32x2x4x256 .f32) (s : Fin 32) (g : Fin 2) (j : Fin 4) (t : Fin 256) :
    broadcastInDim S32x2x4x256x1 ![0, 1, 2, 3] bcast_S32x2x4x256_S32x2x4x256x1_0_1_2_3 m (ix5 s g j t 0) = m (ix4 s g j t) := by
  pointwise []
theorem topb (k : FVec Ideal S1x2x4x1x1 .f32) (s : Fin 32) (g : Fin 2) (j : Fin 4) (t : Fin 256) :
    broadcastInDim S32x2x4x256x1 ![0, 1, 2, 3, 4] bcast_S1x2x4x1x1_S32x2x4x256x1_0_1_2_3_4 k (ix5 s g j t 0) = k (ix5 0 g j 0 0) := by
  pointwise []
/-- The largest score, -/
theorem top_apply (s : Fin 32) (g : Fin 2) (j : Fin 4) (t : Fin 256) : val_main_v43 (F := Ideal) X QG KG SK (ix5 s g j t 0)
    = top (fun u => val_main_v37 (F := Ideal) X QG KG (ix5 s g j t u)) (SK (ix1 (hd g j))) := by
  have h1 : val_main_v41 (F := Ideal) X QG KG (ix5 s g j t 0) = val_main_v40 (F := Ideal) X QG KG (ix4 s g j t) := topa (val_main_v40 (F := Ideal) X QG KG) s g j t
  have h2 : val_main_v42 (F := Ideal) SK (ix5 s g j t 0) = val_main_v39 (F := Ideal) SK (ix5 0 g j 0 0) := topb (val_main_v39 (F := Ideal) SK) s g j t
  have h3 := m_apply X QG KG s g j t
  have h4 := sk_apply SK g j
  rw [val_main_v43_apply, h1, h2, h3, h4]
  generalize val_main_v37 (F := Ideal) X QG KG = v
  unfold top
  generalize (Finset.univ : Finset (Fin 256)).fold max (Ideal.ofBits .f32 0xFF800000#32) (fun u => v (ix5 s g j t u)) = w
  rfl

/-- the exponentials, -/
theorem e_apply (s : Fin 32) (g : Fin 2) (j : Fin 4) (t u : Fin 256) : val_main_v46 (F := Ideal) X QG KG SK (ix5 s g j t u)
    = Ideal.exp (val_main_v37 (F := Ideal) X QG KG (ix5 s g j t u) - val_main_v43 (F := Ideal) X QG KG SK (ix5 s g j t 0)) := by
  generalize hm : val_main_v43 (F := Ideal) X QG KG SK = m
  generalize hv : val_main_v37 (F := Ideal) X QG KG = v
  pointwise [val_main_v46, val_main_v45, val_main_v44, hm, hv]

/-- their sum with the sink's, -/
theorem den_apply (s : Fin 32) (g : Fin 2) (j : Fin 4) (t : Fin 256) : val_main_v52 (F := Ideal) X QG KG SK (ix5 s g j t 0)
    = ∑ u : Fin 256, val_main_v46 (F := Ideal) X QG KG SK (ix5 s g j t u) + Ideal.exp (val_main_v39 (F := Ideal) SK (ix5 0 g j 0 0) - val_main_v43 (F := Ideal) X QG KG SK (ix5 s g j t 0)) := by
  generalize hm : val_main_v43 (F := Ideal) X QG KG SK = m
  generalize hv : val_main_v46 (F := Ideal) X QG KG SK = v
  generalize hk : val_main_v39 (F := Ideal) SK = k
  pointwise [val_main_v52, val_main_v51, val_main_v50, val_main_v49, val_main_v48, val_main_v47, val_main_cst_7, hm, hv, hk]

/-- and the weights. -/
theorem p_apply (s : Fin 32) (g : Fin 2) (j : Fin 4) (t u : Fin 256) : val_main_v54 (F := Ideal) X QG KG SK (ix5 s g j t u)
    = Ideal.div (val_main_v46 (F := Ideal) X QG KG SK (ix5 s g j t u)) (val_main_v52 (F := Ideal) X QG KG SK (ix5 s g j t 0)) := by
  generalize hm : val_main_v52 (F := Ideal) X QG KG SK = m
  generalize hv : val_main_v46 (F := Ideal) X QG KG SK = v
  pointwise [val_main_v54, val_main_v53, hm, hv]

/-- The first result. -/
theorem o_apply (s : Fin 32) (g : Fin 2) (j : Fin 4) (t : Fin 256) (d : Fin 64) : val_main_v57 (F := Ideal) X QG KG SK (ix2 (st s t) ⟨64 * (hd g j).val + d.val, by omega⟩)
    = ∑ u : Fin 256, val_main_v6 (F := Ideal) X (ix4 s u g d) * val_main_v54 (F := Ideal) X QG KG SK (ix5 s g j t u) := by
  generalize hv : val_main_v6 (F := Ideal) X = v
  generalize hw : val_main_v54 (F := Ideal) X QG KG SK = w
  pointwise [val_main_v57, val_main_v56, val_main_v55, hv, hw, st, hd]

end Cert.At.Ref

end
-- ==== Proof.AttnRefOut.lean ====
/-
  The attention's reference at real arguments: the softmax of the heads' scores.
-/
module

public import proofs.«01_k».proof.Proof.AttnRef

@[expose] public section

set_option maxRecDepth 16384

noncomputable section

namespace Cert.At.Ref

open Idealize.ShloMosaic Idealize.ShloMosaic.TcCoe Cert.AttnRefIdeal Cert.AttnRefIdeal.Gen Cert.AttnRefIdeal.Read

variable (X : FVec Ideal S8192x6144 .f32) (QG KG : FVec Ideal S64 .f32) (SK : FVec Ideal S8 .f32)

/-- The score of query `t` and key `u` of a sequence, for head `j` of group `g`. -/
def score (s : Fin 32) (g : Fin 2) (j : Fin 4) (t u : Fin 256) : EReal :=
  (∑ d : Fin 64, nrmE (fun k => X (ix2 (st s u) (kc g k))) (fun k => KG (ix1 k)) d * nrmE (fun k => X (ix2 (st s t) (qc (hd g j) k))) (fun k => QG (ix1 k)) d)
    * Ideal.ofBits .f32 0x3E000000#32

theorem score_eq (s : Fin 32) (g : Fin 2) (j : Fin 4) (t u : Fin 256) : val_main_v37 (F := Ideal) X QG KG (ix5 s g j t u) = score X QG KG s g j t u := by
  rw [s_apply]
  unfold score
  refine congrArg (· * _) (Finset.sum_congr rfl fun d _ => ?_)
  rw [qg_apply, qa_apply, ka_apply]

theorem score_isR (hq : ∀ s t h d, IsR (X (ix2 (st s t) (qc h d)))) (hk : ∀ s t g d, IsR (X (ix2 (st s t) (kc g d)))) (hQ : ∀ d, IsR (QG (ix1 d))) (hK : ∀ d, IsR (KG (ix1 d)))
    (s : Fin 32) (g : Fin 2) (j : Fin 4) (t u : Fin 256) : IsR (score X QG KG s g j t u) :=
  IsR.mul (IsR.sum fun d => (nrmE_isR (fun _ => hk _ _ _ _) hK d).mul (nrmE_isR (fun _ => hq _ _ _ _) hQ d)) ⟨_, w1_8⟩

/-- The first result, for finite queries, keys, gains and sinks. -/
theorem out0_apply (hq : ∀ s t h d, IsR (X (ix2 (st s t) (qc h d)))) (hk : ∀ s t g d, IsR (X (ix2 (st s t) (kc g d)))) (hQ : ∀ d, IsR (QG (ix1 d))) (hK : ∀ d, IsR (KG (ix1 d)))
    (hS : ∀ h, IsR (SK (ix1 h))) (s : Fin 32) (g : Fin 2) (j : Fin 4) (t : Fin 256) (d : Fin 64) :
    val_main_v57 (F := Ideal) X QG KG SK (ix2 (st s t) ⟨64 * (hd g j).val + d.val, by omega⟩)
      = att (score X QG KG s g j t) (SK (ix1 (hd g j))) (fun u => X (ix2 (st s u) (vc g d))) := by
  rw [att_eq (fun u => score_isR X QG KG hq hk hQ hK s g j t u) (hS _), o_apply]
  refine Finset.sum_congr rfl fun u _ => ?_
  rw [v_apply, p_apply, den_apply, sk_apply, top_apply]
  simp only [e_apply, top_apply, score_eq]
  exact mul_comm _ _

end Cert.At.Ref

end
-- ==== Proof.AttnEq.lean ====
/-
  The attention: from finite queries, keys, gains and sinks, the kernel's two results are the reference's.
-/
module

public import proofs.«01_k».proof.Defs
public import proofs.«01_k».proof.Proof.AttnArray
public import proofs.«01_k».proof.Proof.AttnPre
public import proofs.«01_k».proof.Proof.AttnRefOut

@[expose] public section

set_option maxRecDepth 16384

noncomputable section

namespace Cert.At

open Idealize.ShloMosaic Idealize.ShloMosaic.TcCoe Idealize.SL.Sem Cert.AttnIdeal Cert.AttnIdeal.Gen
open Cert.In (ix2_of)
open Cert.AttnRefIdeal.Read (val_main_v57 val_main_v58)

variable (m : (ℓ : Loc nD τ sig) → Buf (Elt Ideal) ℓ) (c : Dev nD) (t : Fin cfg0.N) (r : Fin 256)

/-- The sequence of point `t`'s block. -/
def seq (t : Fin cfg0.N) : Fin 32 := ⟨t.val, lt_of_lt_of_eq t.isLt N_0⟩

theorem row_st : row t r = Ref.st (seq t) r := Fin.ext rfl

theorem kcol_apply (g : Fin 2) (d : Fin 64) : kcol (b1 m c t) (ix2 r (ln g d)) = aZ m c (ix2 (Ref.st (seq t) r) (Ref.kc g d)) := by
  have h : ∀ (x : Vec Ideal S256x256 .f32) (l : Fin 128), kcol x (ix2 r l) = x (ix2 r ⟨l.val, by omega⟩) := by
    intro x l
    pointwise [kcol]
  rw [h, b1_apply]
  rfl

theorem vcol_apply (g : Fin 2) (d : Fin 64) : vcol (b1 m c t) (ix2 r (ln g d)) = aZ m c (ix2 (Ref.st (seq t) r) (Ref.vc g d)) := by
  have h : ∀ (x : Vec Ideal S256x256 .f32) (l : Fin 128), vcol x (ix2 r l) = x (ix2 r ⟨128 + l.val, by omega⟩) := by
    intro x l
    pointwise [vcol]
  rw [h, b1_apply]
  refine congrArg (aZ m c) (ix2_of _ _ _ rfl ?_)
  show 5632 + (128 + (64 * g.val + d.val)) = 5760 + (64 * g.val + d.val)
  omega

theorem qcol_apply (g : Fin 2) (j : Fin 4) (d : Fin 64) : b0 m c t (ix2 r (hcol g j d)) = aZ m c (ix2 (Ref.st (seq t) r) (Ref.qc (Ref.hd g j) d)) := by
  rw [b0_apply]
  rfl

/-- The queries, the keys, the gains and the sinks are finite. -/
structure Fin' : Prop where
  z : ∀ (R : Fin 8192) (q : Fin 640), IsR (aZ m c (ix2 R ⟨5120 + q.val, by omega⟩))
  q : ∀ d, IsR (aQ m c (ix1 d))
  k : ∀ d, IsR (aK m c (ix1 d))
  s : ∀ h, IsR (aS m c (ix1 h))

variable {m c} (hf : Fin' m c)
include hf

theorem fq (R : Fin 8192) (h : Fin 8) (d : Fin 64) : IsR (aZ m c (ix2 R (Ref.qc h d))) :=
  hf.z R ⟨64 * h.val + d.val, by omega⟩

theorem fk (R : Fin 8192) (g : Fin 2) (d : Fin 64) : IsR (aZ m c (ix2 R (Ref.kc g d))) := by
  have e : Ref.kc g d = ⟨5120 + (512 + (64 * g.val + d.val)), by omega⟩ := Fin.ext (by show 5632 + (64 * g.val + d.val) = 5120 + (512 + (64 * g.val + d.val)); omega)
  rw [e]
  exact hf.z R ⟨512 + (64 * g.val + d.val), by omega⟩

theorem k_isR (l : Fin 128) : IsR (kcol (b1 m c t) (ix2 r l)) := by
  have e : l = ln ⟨l.val / 64, by omega⟩ ⟨l.val % 64, by omega⟩ := Fin.ext (by show l.val = 64 * (l.val / 64) + l.val % 64; omega)
  rw [e, kcol_apply]
  exact fk hf _ _ _

theorem q_isR (l : Fin 512) : IsR (b0 m c t (ix2 r l)) := by
  rw [b0_apply]
  exact hf.z _ ⟨l.val, by omega⟩

/-- A lane of a normed key is the reference's. -/
theorem ka_lane (g : Fin 2) (d : Fin 64) : nrm (kcol (b1 m c t)) (b3 m c t) (ix2 r (ln g d))
    = val_main_v58 (F := Ideal) (aZ m c) (aK m c) (ix2 (row t r) (ln g d)) := by
  have e := Ref.out1_apply (aZ m c) (aK m c) (seq t) r g d
  rw [row_st]
  refine Eq.trans ?_ e.symm
  rw [Ref.ka_apply, keys_apply (b1 m c t) (b3 m c t) (fun u l => k_isR t u hf l) (b3_apply m c t)]
  simp only [kcol_apply]

/-- A lane of a head's output is the reference's. -/
theorem o_lane (g : Fin 2) (j : Fin 4) (d : Fin 64) : oAll (b0 m c t) (b1 m c t) (b2 m c t) (b3 m c t) (b4 m c t) (ix2 r (hcol g j d))
    = val_main_v57 (F := Ideal) (aZ m c) (aQ m c) (aK m c) (aS m c) (ix2 (row t r) (hcol g j d)) := by
  have e := Ref.out0_apply (aZ m c) (aQ m c) (aK m c) (aS m c) (fun s t h d => fq hf _ h d) (fun s t g d => fk hf _ g d) hf.q hf.k hf.s (seq t) g j r d
  rw [row_st]
  refine Eq.trans ?_ e.symm
  rw [oAll_apply (b0 m c t) (b1 m c t) (b2 m c t) (b3 m c t) (b4 m c t) (fun r l => q_isR t r hf l) (fun u l => k_isR t u hf l) (b2_apply m c t) (b3_apply m c t) r g j d]
  simp only [kcol_apply, vcol_apply, qcol_apply, b4_apply]
  rfl

omit hf in
/-- Every row is a block's. -/
theorem eq_row (R : Fin 8192) : ∃ (t : Fin cfg0.N) (r : Fin 256), R = row t r :=
  ⟨⟨R.val / 256, by rw [show cfg0.N = 32 from N_0]; omega⟩, ⟨R.val % 256, by omega⟩, Fin.ext (by show R.val = 256 * (R.val / 256) + R.val % 256; omega)⟩

omit hf in
/-- Every column of the output is a head's lane. -/
theorem eq_hcol (n : Fin 512) : ∃ (g : Fin 2) (j : Fin 4) (d : Fin 64), n = hcol g j d :=
  ⟨⟨n.val / 256, by omega⟩, ⟨n.val / 64 % 4, by omega⟩, ⟨n.val % 64, by omega⟩, Fin.ext (by show n.val = 64 * (4 * (n.val / 256) + n.val / 64 % 4) + n.val % 64; omega)⟩

omit hf in
theorem eq_ln (n : Fin 128) : ∃ (g : Fin 2) (d : Fin 64), n = ln g d :=
  ⟨⟨n.val / 64, by omega⟩, ⟨n.val % 64, by omega⟩, Fin.ext (by show n.val = 64 * (n.val / 64) + n.val % 64; omega)⟩

/-- The attention's output, -/
theorem out5_eq_ref : (dats m 0 c).arrAt 5 cfg0.N = val_main_v57 (F := Ideal) (aZ m c) (aQ m c) (aK m c) (aS m c) := by
  funext idx
  rw [eq_ix2 idx]
  generalize (idx 0 : Fin 8192) = R
  generalize (idx 1 : Fin 512) = n
  obtain ⟨t, r, rfl⟩ := eq_row R
  obtain ⟨g, j, d, rfl⟩ := eq_hcol n
  exact (out5_at m c t r _).trans (o_lane t r hf g j d)

/-- and the normed keys. -/
theorem out6_eq_ref : (dats m 0 c).arrAt 6 cfg0.N = val_main_v58 (F := Ideal) (aZ m c) (aK m c) := by
  funext idx
  rw [eq_ix2 idx]
  generalize (idx 0 : Fin 8192) = R
  generalize (idx 1 : Fin 128) = n
  obtain ⟨t, r, rfl⟩ := eq_row R
  obtain ⟨g, d, rfl⟩ := eq_ln n
  exact (out6_at m c t r _).trans (ka_lane t r hf g d)

omit hf in
/-- The claim: from the same arguments, finite as the precondition says, the attention's kernel and its reference end with the same two results. -/
theorem claim_attn : Cert.algebraic_AttnIdeal_AttnRefIdeal_pre_finite (hPre_finite := Pre.facts) := by
  intro m g m' g' hp hm
  have hf : ∀ c, Fin' m c := fun c => by
    obtain ⟨h1, h2, h3, h4⟩ := Pre.finite_read (hP := Pre.facts) (aZ m c) (aQ m c) (aK m c) (aS m c) (hp c)
    exact ⟨h1, h2, h3, h4⟩
  refine ⟨fun c => (dats m 0 c).arrAt 5 cfg0.N, fun c => (dats m 0 c).arrAt 6 cfg0.N, Cert.AttnIdeal.Value.run_blocks m g, ?_⟩
  refine (θ_run _ _ _).mono (fun r h c => ?_) (Cert.AttnRefIdeal.Value.run m' g')
  obtain ⟨h1, h2, hk⟩ := h c
  obtain ⟨e0, e1, e2, e3⟩ := hm c
  refine ⟨h1.trans ((Cert.AttnRefIdeal.Read.val_main_v57_eq m' c).trans ?_), h2.trans ((Cert.AttnRefIdeal.Read.val_main_v58_eq _ _).trans ?_), hk⟩
  · rw [e0, e1, e2, e3]
    exact (out5_eq_ref (hf c)).symm
  · rw [e0, e2]
    exact (out6_eq_ref (hf c)).symm

end Cert.At

end
-- ==== Proof.lean ====
module

public import proofs.«01_k».proof.Defs
public import proofs.«01_k».proof.Proof.Frames
public import proofs.«01_k».proof.Proof.FramesProj
public import proofs.«01_k».proof.Proof.RgEq
public import proofs.«01_k».proof.Proof.FfnEq
public import proofs.«01_k».proof.Proof.InEq
public import proofs.«01_k».proof.Proof.OutEq
public import proofs.«01_k».proof.Proof.FramesAttn
public import proofs.«01_k».proof.Proof.AttnEq

/-! `Cert.Claim`: the fifteen programs' facts, their frames (`Proof/Frames.lean`, `Proof/FramesProj.lean`,
`Proof/FramesAttn.lean`), the idealizations without rewrites, and the five equations: the gated recurrence (`Proof/RgEq.lean`), the feed-forward
block (`Proof/FfnEq.lean`), the input projection (`Proof/InEq.lean`), the output projection (`Proof/OutEq.lean`) and the attention
(`Proof/AttnEq.lean`). -/

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Attn.Gen.facts, Cert.AttnIdeal.Gen.facts, Cert.AttnRefIdeal.Gen.facts, Cert.At.Pre.facts,
    frame_kernel, frame_kernel_ideal, frame_reference, frame_ffn, frame_ffn_ideal, frame_ffn_reference,
    frame_in_proj, frame_in_proj_ideal, frame_in_proj_reference, frame_out_proj, frame_out_proj_ideal, frame_out_proj_reference,
    frame_attn, frame_attn_ideal, frame_attn_ideal_pre, frame_attn_reference, frame_attn_reference_pre,
    trivial, Cert.Rg.claim_rg, trivial, Cert.Fn.claim_ffn, trivial, Cert.In.claim_in, trivial, Cert.Out.claim_out, trivial, Cert.At.claim_attn⟩

end Cert.Proof

end
